-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v322) = v1 c
          ∧ r.2.mem ((c.tc : Thread Cert.ReferenceIdeal.nD Cert.ReferenceIdeal.τ).loc Cert.ReferenceIdeal.main_v139) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x512x512 : Shape := ⟨4, ![4, 1, 512, 512]⟩
abbrev S4x512x512 : Shape := ⟨3, ![4, 512, 512]⟩
abbrev S4x520x640 : Shape := ⟨3, ![4, 520, 640]⟩
abbrev S1x512x512 : Shape := ⟨3, ![1, 512, 512]⟩
abbrev S1x520x640 : Shape := ⟨3, ![1, 520, 640]⟩
abbrev S512x512 : Shape := ⟨2, ![512, 512]⟩
abbrev S512x2 : Shape := ⟨2, ![512, 2]⟩
abbrev S512x516 : Shape := ⟨2, ![512, 516]⟩
abbrev S2x512 : Shape := ⟨2, ![2, 512]⟩
abbrev S516x512 : Shape := ⟨2, ![516, 512]⟩
abbrev S512x3 : Shape := ⟨2, ![512, 3]⟩
abbrev S512x125 : Shape := ⟨2, ![512, 125]⟩
abbrev S512x640 : Shape := ⟨2, ![512, 640]⟩
abbrev S3x640 : Shape := ⟨2, ![3, 640]⟩
abbrev S5x640 : Shape := ⟨2, ![5, 640]⟩
abbrev S520x640 : Shape := ⟨2, ![520, 640]⟩
abbrev S4x262144 : Shape := ⟨2, ![4, 262144]⟩
abbrev S4x5000 : Shape := ⟨2, ![4, 5000]⟩
abbrev S4 : Shape := ⟨1, ![4]⟩
abbrev S_ : Shape := ⟨0, ![]⟩
abbrev S4x1 : Shape := ⟨2, ![4, 1]⟩
abbrev S4x120 : Shape := ⟨2, ![4, 120]⟩
abbrev S4x5120 : Shape := ⟨2, ![4, 5120]⟩
abbrev S20480 : Shape := ⟨1, ![20480]⟩
abbrev S83200x16 : Shape := ⟨2, ![83200, 16]⟩
abbrev S128 : Shape := ⟨1, ![128]⟩
abbrev S1536 : Shape := ⟨1, ![1536]⟩
abbrev S1536x16 : Shape := ⟨2, ![1536, 16]⟩
abbrev S16 : Shape := ⟨1, ![16]⟩
abbrev S128x16 : Shape := ⟨2, ![128, 16]⟩
abbrev S4x5000x1 : Shape := ⟨3, ![4, 5000, 1]⟩
abbrev S4x5000x2 : Shape := ⟨3, ![4, 5000, 2]⟩

abbrev nBuf : Table → Nat
  | .hbm => 33
  | .local .tc .vmem => 6
  | .local .scVector .vmem => 7
  | _ => 0

abbrev bufTy : (tb : Table) → Fin (nBuf tb) → BufTy
  | .hbm, ⟨0, _⟩ => ⟨S4x1x512x512, .f32⟩
  | .hbm, ⟨1, _⟩ => ⟨S4x512x512, .f32⟩
  | .hbm, ⟨2, _⟩ => ⟨S4x512x512, .f32⟩
  | .hbm, ⟨3, _⟩ => ⟨S4x520x640, .f32⟩
  | .hbm, ⟨4, _⟩ => ⟨S4x262144, .f32⟩
  | .hbm, ⟨5, _⟩ => ⟨S4x5000, .f32⟩
  | .hbm, ⟨6, _⟩ => ⟨S4x5000, .i32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4x1, .i32⟩
  | .hbm, ⟨12, _⟩ => ⟨S4x5000, .i32⟩
  | .hbm, ⟨13, _⟩ => ⟨S4x5000, .i32⟩
  | .hbm, ⟨14, _⟩ => ⟨S4x120, .i32⟩
  | .hbm, ⟨15, _⟩ => ⟨S4x5120, .i32⟩
  | .hbm, ⟨16, _⟩ => ⟨S20480, .i32⟩
  | .hbm, ⟨17, _⟩ => ⟨S83200x16, .f32⟩
  | .hbm, ⟨18, _⟩ => ⟨S20480, .f32⟩
  | .hbm, ⟨19, _⟩ => ⟨S20480, .f32⟩
  | .hbm, ⟨20, _⟩ => ⟨S20480, .f32⟩
  | .hbm, ⟨21, _⟩ => ⟨S20480, .f32⟩
  | .hbm, ⟨22, _⟩ => ⟨S4x5120, .f32⟩
  | .hbm, ⟨23, _⟩ => ⟨S4x5000, .f32⟩
  | .hbm, ⟨24, _⟩ => ⟨S4x5120, .f32⟩
  | .hbm, ⟨25, _⟩ => ⟨S4x5000, .f32⟩
  | .hbm, ⟨26, _⟩ => ⟨S4x5000x1, .f32⟩
  | .hbm, ⟨27, _⟩ => ⟨S4x5000x1, .f32⟩
  | .hbm, ⟨28, _⟩ => ⟨S4x5000x2, .f32⟩
  | .hbm, ⟨29, _⟩ => ⟨S4x5120, .f32⟩
  | .hbm, ⟨30, _⟩ => ⟨S4x5000, .f32⟩
  | .hbm, ⟨31, _⟩ => ⟨S4x5120, .f32⟩
  | .hbm, ⟨32, _⟩ => ⟨S4x5000, .f32⟩
  | .local .tc .vmem, ⟨0, _⟩ => ⟨S1x512x512, .f32⟩
  | .local .tc .vmem, ⟨1, _⟩ => ⟨S1x512x512, .f32⟩
  | .local .tc .vmem, ⟨2, _⟩ => ⟨S1x512x512, .f32⟩
  | .local .tc .vmem, ⟨3, _⟩ => ⟨S1x512x512, .f32⟩
  | .local .tc .vmem, ⟨4, _⟩ => ⟨S1x520x640, .f32⟩
  | .local .tc .vmem, ⟨5, _⟩ => ⟨S1x520x640, .f32⟩
  | .local .scVector .vmem, ⟨0, _⟩ => ⟨S128, .i32⟩
  | .local .scVector .vmem, ⟨1, _⟩ => ⟨S1536, .i32⟩
  | .local .scVector .vmem, ⟨2, _⟩ => ⟨S1536x16, .f32⟩
  | .local .scVector .vmem, ⟨3, _⟩ => ⟨S128, .f32⟩
  | .local .scVector .vmem, ⟨4, _⟩ => ⟨S128, .f32⟩
  | .local .scVector .vmem, ⟨5, _⟩ => ⟨S128, .f32⟩
  | .local .scVector .vmem, ⟨6, _⟩ => ⟨S128, .f32⟩
  | _, _ => ⟨S4x1x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_values : Ref sig .tc := ⟨.hbm, 5, rfl⟩
abbrev main_indices : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v12_scv : Ref sig .scVector := ⟨.hbm, 17, rfl⟩
abbrev main_v11_scv : Ref sig .scVector := ⟨.hbm, 16, rfl⟩
abbrev main_v13_0_scv : Ref sig .scVector := ⟨.hbm, 18, rfl⟩
abbrev main_v13_1_scv : Ref sig .scVector := ⟨.hbm, 19, rfl⟩
abbrev main_v13_2_scv : Ref sig .scVector := ⟨.hbm, 20, rfl⟩
abbrev main_v13_3_scv : Ref sig .scVector := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x520x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

@[reducible] def k1_t1_loop : Scf.Loop 32 :=
  let c0_i32 : BitVec 32 := 0#32
  let c5_i32 : BitVec 32 := 5#32
  let v3 : BitVec 32 := Scalar.addi c0_i32 c5_i32
  let c1_i32 : BitVec 32 := 1#32
  ⟨c0_i32, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v6 : BitVec 32 := Scalar.muli v1 c640_i32
  let c0_i32_2 : BitVec 32 := 0#32
  let c0_i32 : BitVec 32 := 0#32
  let c1_i32 : BitVec 32 := 1#32
  let arg16 : BitVec 32 := Scf.iv c0_i32 c1_i32 k1_t1
  let c1_i32_1 : BitVec 32 := 1#32
  let v4 : BitVec 32 := Scalar.muli arg16 c1_i32_1
  let v5 : BitVec 32 := Scalar.addi c0_i32_2 v4
  let c128_i32 : BitVec 32 := 128#32
  let v7 : BitVec 32 := Scalar.muli v5 c128_i32
  let v8 : BitVec 32 := Scalar.addi v6 v7
  ![v8.toNat]
@[reducible] def k1_t2_loop : Scf.Loop 32 :=
  let c0_i32_3 : BitVec 32 := 0#32
  let c8_i32 : BitVec 32 := 8#32
  let v9 : BitVec 32 := Scalar.addi c0_i32_3 c8_i32
  let c1_i32_4 : BitVec 32 := 1#32
  ⟨c0_i32_3, v9, c1_i32_4⟩

def k1_chk1 (v87 : IVec S16 32) : Prop :=
  (∀ a x, ((![v87] : Fin 1 → IVec S16 32) a x).toNat < S128.size a)
theorem k1_idx1_inb : ∀ (v87 : IVec S16 32) (k1_hw1 : k1_chk1 v87), ∀ a x, ((![v87] : Fin 1 → IVec S16 32) a x).toNat < S128.size a := fun v87 k1_hw1 => k1_hw1

def k1_chk2 (v112 : IVec S16 32) : Prop :=
  (∀ a x, ((![v112] : Fin 1 → IVec S16 32) a x).toNat < S1536.size a)
theorem k1_idx2_inb : ∀ (v112 : IVec S16 32) (k1_hw2 : k1_chk2 v112), ∀ a x, ((![v112] : Fin 1 → IVec S16 32) a x).toNat < S1536.size a := fun v112 k1_hw2 => k1_hw2

def k1_chk3 (v120 : IVec S16 32) : Prop :=
  (∀ a x, ((![v120] : Fin 1 → IVec S16 32) a x).toNat < S1536.size a)
theorem k1_idx3_inb : ∀ (v120 : IVec S16 32) (k1_hw3 : k1_chk3 v120), ∀ a x, ((![v120] : Fin 1 → IVec S16 32) a x).toNat < S1536.size a := fun v120 k1_hw3 => k1_hw3

def k1_chk4 (v128 : IVec S16 32) : Prop :=
  (∀ a x, ((![v128] : Fin 1 → IVec S16 32) a x).toNat < S1536.size a)
theorem k1_idx4_inb : ∀ (v128 : IVec S16 32) (k1_hw4 : k1_chk4 v128), ∀ a x, ((![v128] : Fin 1 → IVec S16 32) a x).toNat < S1536.size a := fun v128 k1_hw4 => k1_hw4

def k1_chk5 (v136 : IVec S16 32) : Prop :=
  (∀ a x, ((![v136] : Fin 1 → IVec S16 32) a x).toNat < S1536.size a)
theorem k1_idx5_inb : ∀ (v136 : IVec S16 32) (k1_hw5 : k1_chk5 v136), ∀ a x, ((![v136] : Fin 1 → IVec S16 32) a x).toNat < S1536.size a := fun v136 k1_hw5 => k1_hw5

def k1_chk6 (v144 : IVec S16 32) : Prop :=
  (∀ a x, ((![v144] : Fin 1 → IVec S16 32) a x).toNat < S1536.size a)
theorem k1_idx6_inb : ∀ (v144 : IVec S16 32) (k1_hw6 : k1_chk6 v144), ∀ a x, ((![v144] : Fin 1 → IVec S16 32) a x).toNat < S1536.size a := fun v144 k1_hw6 => k1_hw6

def k1_chk7 (v152 : IVec S16 32) : Prop :=
  (∀ a x, ((![v152] : Fin 1 → IVec S16 32) a x).toNat < S1536.size a)
theorem k1_idx7_inb : ∀ (v152 : IVec S16 32) (k1_hw7 : k1_chk7 v152), ∀ a x, ((![v152] : Fin 1 → IVec S16 32) a x).toNat < S1536.size a := fun v152 k1_hw7 => k1_hw7

def k1_chk8 (v160 : IVec S16 32) : Prop :=
  (∀ a x, ((![v160] : Fin 1 → IVec S16 32) a x).toNat < S1536.size a)
theorem k1_idx8_inb : ∀ (v160 : IVec S16 32) (k1_hw8 : k1_chk8 v160), ∀ a x, ((![v160] : Fin 1 → IVec S16 32) a x).toNat < S1536.size a := fun v160 k1_hw8 => k1_hw8

def k1_chk9 (v168 : IVec S16 32) : Prop :=
  (∀ a x, ((![v168] : Fin 1 → IVec S16 32) a x).toNat < S1536.size a)
theorem k1_idx9_inb : ∀ (v168 : IVec S16 32) (k1_hw9 : k1_chk9 v168), ∀ a x, ((![v168] : Fin 1 → IVec S16 32) a x).toNat < S1536.size a := fun v168 k1_hw9 => k1_hw9

def k1_chk10 (v176 : IVec S16 32) : Prop :=
  (∀ a x, ((![v176] : Fin 1 → IVec S16 32) a x).toNat < S1536.size a)
theorem k1_idx10_inb : ∀ (v176 : IVec S16 32) (k1_hw10 : k1_chk10 v176), ∀ a x, ((![v176] : Fin 1 → IVec S16 32) a x).toNat < S1536.size a := fun v176 k1_hw10 => k1_hw10

def k1_chk11 (v184 : IVec S16 32) : Prop :=
  (∀ a x, ((![v184] : Fin 1 → IVec S16 32) a x).toNat < S1536.size a)
theorem k1_idx11_inb : ∀ (v184 : IVec S16 32) (k1_hw11 : k1_chk11 v184), ∀ a x, ((![v184] : Fin 1 → IVec S16 32) a x).toNat < S1536.size a := fun v184 k1_hw11 => k1_hw11

def k1_chk12 (v192 : IVec S16 32) : Prop :=
  (∀ a x, ((![v192] : Fin 1 → IVec S16 32) a x).toNat < S1536.size a)
theorem k1_idx12_inb : ∀ (v192 : IVec S16 32) (k1_hw12 : k1_chk12 v192), ∀ a x, ((![v192] : Fin 1 → IVec S16 32) a x).toNat < S1536.size a := fun v192 k1_hw12 => k1_hw12

def k1_chk13 (v200 : IVec S16 32) : Prop :=
  (∀ a x, ((![v200] : Fin 1 → IVec S16 32) a x).toNat < S1536.size a)
theorem k1_idx13_inb : ∀ (v200 : IVec S16 32) (k1_hw13 : k1_chk13 v200), ∀ a x, ((![v200] : Fin 1 → IVec S16 32) a x).toNat < S1536.size a := fun v200 k1_hw13 => k1_hw13
@[reducible] def k1_t3_loop : Scf.Loop 32 :=
  let c0_i32_117 : BitVec 32 := 0#32
  let c8_i32_118 : BitVec 32 := 8#32
  let v82 : BitVec 32 := Scalar.addi c0_i32_117 c8_i32_118
  let c1_i32_119 : BitVec 32 := 1#32
  ⟨c0_i32_117, v82, c1_i32_119⟩

def k1_chk15 (v105 : IVec S16 32) (v107 : IVec S16 32) : Prop :=
  (∀ a x, ((![v105, v107] : Fin 2 → IVec S16 32) a x).toNat < S1536x16.size a)
theorem k1_idx15_inb : ∀ (v105 : IVec S16 32) (v107 : IVec S16 32) (k1_hw15 : k1_chk15 v105 v107), ∀ a x, ((![v105, v107] : Fin 2 → IVec S16 32) a x).toNat < S1536x16.size a := fun v105 v107 k1_hw15 => k1_hw15

def k1_chk16 (v112 : IVec S16 32) (v114 : IVec S16 32) : Prop :=
  (∀ a x, ((![v112, v114] : Fin 2 → IVec S16 32) a x).toNat < S1536x16.size a)
theorem k1_idx16_inb : ∀ (v112 : IVec S16 32) (v114 : IVec S16 32) (k1_hw16 : k1_chk16 v112 v114), ∀ a x, ((![v112, v114] : Fin 2 → IVec S16 32) a x).toNat < S1536x16.size a := fun v112 v114 k1_hw16 => k1_hw16

def k1_chk17 (v119 : IVec S16 32) (v121 : IVec S16 32) : Prop :=
  (∀ a x, ((![v119, v121] : Fin 2 → IVec S16 32) a x).toNat < S1536x16.size a)
theorem k1_idx17_inb : ∀ (v119 : IVec S16 32) (v121 : IVec S16 32) (k1_hw17 : k1_chk17 v119 v121), ∀ a x, ((![v119, v121] : Fin 2 → IVec S16 32) a x).toNat < S1536x16.size a := fun v119 v121 k1_hw17 => k1_hw17

def k1_chk18 (v126 : IVec S16 32) (v128 : IVec S16 32) : Prop :=
  (∀ a x, ((![v126, v128] : Fin 2 → IVec S16 32) a x).toNat < S1536x16.size a)
theorem k1_idx18_inb : ∀ (v126 : IVec S16 32) (v128 : IVec S16 32) (k1_hw18 : k1_chk18 v126 v128), ∀ a x, ((![v126, v128] : Fin 2 → IVec S16 32) a x).toNat < S1536x16.size a := fun v126 v128 k1_hw18 => k1_hw18

def k1_chk19 (v133 : IVec S16 32) (v135 : IVec S16 32) : Prop :=
  (∀ a x, ((![v133, v135] : Fin 2 → IVec S16 32) a x).toNat < S1536x16.size a)
theorem k1_idx19_inb : ∀ (v133 : IVec S16 32) (v135 : IVec S16 32) (k1_hw19 : k1_chk19 v133 v135), ∀ a x, ((![v133, v135] : Fin 2 → IVec S16 32) a x).toNat < S1536x16.size a := fun v133 v135 k1_hw19 => k1_hw19

def k1_chk20 (v140 : IVec S16 32) (v142 : IVec S16 32) : Prop :=
  (∀ a x, ((![v140, v142] : Fin 2 → IVec S16 32) a x).toNat < S1536x16.size a)
theorem k1_idx20_inb : ∀ (v140 : IVec S16 32) (v142 : IVec S16 32) (k1_hw20 : k1_chk20 v140 v142), ∀ a x, ((![v140, v142] : Fin 2 → IVec S16 32) a x).toNat < S1536x16.size a := fun v140 v142 k1_hw20 => k1_hw20

def k1_chk21 (v147 : IVec S16 32) (v149 : IVec S16 32) : Prop :=
  (∀ a x, ((![v147, v149] : Fin 2 → IVec S16 32) a x).toNat < S1536x16.size a)
theorem k1_idx21_inb : ∀ (v147 : IVec S16 32) (v149 : IVec S16 32) (k1_hw21 : k1_chk21 v147 v149), ∀ a x, ((![v147, v149] : Fin 2 → IVec S16 32) a x).toNat < S1536x16.size a := fun v147 v149 k1_hw21 => k1_hw21

def k1_chk22 (v154 : IVec S16 32) (v156 : IVec S16 32) : Prop :=
  (∀ a x, ((![v154, v156] : Fin 2 → IVec S16 32) a x).toNat < S1536x16.size a)
theorem k1_idx22_inb : ∀ (v154 : IVec S16 32) (v156 : IVec S16 32) (k1_hw22 : k1_chk22 v154 v156), ∀ a x, ((![v154, v156] : Fin 2 → IVec S16 32) a x).toNat < S1536x16.size a := fun v154 v156 k1_hw22 => k1_hw22

def k1_chk23 (v161 : IVec S16 32) (v163 : IVec S16 32) : Prop :=
  (∀ a x, ((![v161, v163] : Fin 2 → IVec S16 32) a x).toNat < S1536x16.size a)
theorem k1_idx23_inb : ∀ (v161 : IVec S16 32) (v163 : IVec S16 32) (k1_hw23 : k1_chk23 v161 v163), ∀ a x, ((![v161, v163] : Fin 2 → IVec S16 32) a x).toNat < S1536x16.size a := fun v161 v163 k1_hw23 => k1_hw23

def k1_chk24 (v168 : IVec S16 32) (v170 : IVec S16 32) : Prop :=
  (∀ a x, ((![v168, v170] : Fin 2 → IVec S16 32) a x).toNat < S1536x16.size a)
theorem k1_idx24_inb : ∀ (v168 : IVec S16 32) (v170 : IVec S16 32) (k1_hw24 : k1_chk24 v168 v170), ∀ a x, ((![v168, v170] : Fin 2 → IVec S16 32) a x).toNat < S1536x16.size a := fun v168 v170 k1_hw24 => k1_hw24

def k1_chk25 (v175 : IVec S16 32) (v177 : IVec S16 32) : Prop :=
  (∀ a x, ((![v175, v177] : Fin 2 → IVec S16 32) a x).toNat < S1536x16.size a)
theorem k1_idx25_inb : ∀ (v175 : IVec S16 32) (v177 : IVec S16 32) (k1_hw25 : k1_chk25 v175 v177), ∀ a x, ((![v175, v177] : Fin 2 → IVec S16 32) a x).toNat < S1536x16.size a := fun v175 v177 k1_hw25 => k1_hw25

def k1_chk26 (v182 : IVec S16 32) (v184 : IVec S16 32) : Prop :=
  (∀ a x, ((![v182, v184] : Fin 2 → IVec S16 32) a x).toNat < S1536x16.size a)
theorem k1_idx26_inb : ∀ (v182 : IVec S16 32) (v184 : IVec S16 32) (k1_hw26 : k1_chk26 v182 v184), ∀ a x, ((![v182, v184] : Fin 2 → IVec S16 32) a x).toNat < S1536x16.size a := fun v182 v184 k1_hw26 => k1_hw26

def k1_chk27 (v189 : IVec S16 32) (v191 : IVec S16 32) : Prop :=
  (∀ a x, ((![v189, v191] : Fin 2 → IVec S16 32) a x).toNat < S1536x16.size a)
theorem k1_idx27_inb : ∀ (v189 : IVec S16 32) (v191 : IVec S16 32) (k1_hw27 : k1_chk27 v189 v191), ∀ a x, ((![v189, v191] : Fin 2 → IVec S16 32) a x).toNat < S1536x16.size a := fun v189 v191 k1_hw27 => k1_hw27

def k1_chk28 (v196 : IVec S16 32) (v198 : IVec S16 32) : Prop :=
  (∀ a x, ((![v196, v198] : Fin 2 → IVec S16 32) a x).toNat < S1536x16.size a)
theorem k1_idx28_inb : ∀ (v196 : IVec S16 32) (v198 : IVec S16 32) (k1_hw28 : k1_chk28 v196 v198), ∀ a x, ((![v196, v198] : Fin 2 → IVec S16 32) a x).toNat < S1536x16.size a := fun v196 v198 k1_hw28 => k1_hw28

def k1_chk29 (v203 : IVec S16 32) (v205 : IVec S16 32) : Prop :=
  (∀ a x, ((![v203, v205] : Fin 2 → IVec S16 32) a x).toNat < S1536x16.size a)
theorem k1_idx29_inb : ∀ (v203 : IVec S16 32) (v205 : IVec S16 32) (k1_hw29 : k1_chk29 v203 v205), ∀ a x, ((![v203, v205] : Fin 2 → IVec S16 32) a x).toNat < S1536x16.size a := fun v203 v205 k1_hw29 => k1_hw29

def k1_chk30 (v210 : IVec S16 32) (v212 : IVec S16 32) : Prop :=
  (∀ a x, ((![v210, v212] : Fin 2 → IVec S16 32) a x).toNat < S1536x16.size a)
theorem k1_idx30_inb : ∀ (v210 : IVec S16 32) (v212 : IVec S16 32) (k1_hw30 : k1_chk30 v210 v212), ∀ a x, ((![v210, v212] : Fin 2 → IVec S16 32) a x).toNat < S1536x16.size a := fun v210 v212 k1_hw30 => k1_hw30

def k1_chk31 (v217 : IVec S16 32) (v219 : IVec S16 32) : Prop :=
  (∀ a x, ((![v217, v219] : Fin 2 → IVec S16 32) a x).toNat < S1536x16.size a)
theorem k1_idx31_inb : ∀ (v217 : IVec S16 32) (v219 : IVec S16 32) (k1_hw31 : k1_chk31 v217 v219), ∀ a x, ((![v217, v219] : Fin 2 → IVec S16 32) a x).toNat < S1536x16.size a := fun v217 v219 k1_hw31 => k1_hw31

def k1_chk32 (v224 : IVec S16 32) (v226 : IVec S16 32) : Prop :=
  (∀ a x, ((![v224, v226] : Fin 2 → IVec S16 32) a x).toNat < S1536x16.size a)
theorem k1_idx32_inb : ∀ (v224 : IVec S16 32) (v226 : IVec S16 32) (k1_hw32 : k1_chk32 v224 v226), ∀ a x, ((![v224, v226] : Fin 2 → IVec S16 32) a x).toNat < S1536x16.size a := fun v224 v226 k1_hw32 => k1_hw32

def k1_chk33 (v231 : IVec S16 32) (v233 : IVec S16 32) : Prop :=
  (∀ a x, ((![v231, v233] : Fin 2 → IVec S16 32) a x).toNat < S1536x16.size a)
theorem k1_idx33_inb : ∀ (v231 : IVec S16 32) (v233 : IVec S16 32) (k1_hw33 : k1_chk33 v231 v233), ∀ a x, ((![v231, v233] : Fin 2 → IVec S16 32) a x).toNat < S1536x16.size a := fun v231 v233 k1_hw33 => k1_hw33

def k1_chk34 (v238 : IVec S16 32) (v240 : IVec S16 32) : Prop :=
  (∀ a x, ((![v238, v240] : Fin 2 → IVec S16 32) a x).toNat < S1536x16.size a)
theorem k1_idx34_inb : ∀ (v238 : IVec S16 32) (v240 : IVec S16 32) (k1_hw34 : k1_chk34 v238 v240), ∀ a x, ((![v238, v240] : Fin 2 → IVec S16 32) a x).toNat < S1536x16.size a := fun v238 v240 k1_hw34 => k1_hw34

def k1_chk35 (v245 : IVec S16 32) (v247 : IVec S16 32) : Prop :=
  (∀ a x, ((![v245, v247] : Fin 2 → IVec S16 32) a x).toNat < S1536x16.size a)
theorem k1_idx35_inb : ∀ (v245 : IVec S16 32) (v247 : IVec S16 32) (k1_hw35 : k1_chk35 v245 v247), ∀ a x, ((![v245, v247] : Fin 2 → IVec S16 32) a x).toNat < S1536x16.size a := fun v245 v247 k1_hw35 => k1_hw35

def k1_chk36 (v252 : IVec S16 32) (v254 : IVec S16 32) : Prop :=
  (∀ a x, ((![v252, v254] : Fin 2 → IVec S16 32) a x).toNat < S1536x16.size a)
theorem k1_idx36_inb : ∀ (v252 : IVec S16 32) (v254 : IVec S16 32) (k1_hw36 : k1_chk36 v252 v254), ∀ a x, ((![v252, v254] : Fin 2 → IVec S16 32) a x).toNat < S1536x16.size a := fun v252 v254 k1_hw36 => k1_hw36

def k1_chk37 (v259 : IVec S16 32) (v261 : IVec S16 32) : Prop :=
  (∀ a x, ((![v259, v261] : Fin 2 → IVec S16 32) a x).toNat < S1536x16.size a)
theorem k1_idx37_inb : ∀ (v259 : IVec S16 32) (v261 : IVec S16 32) (k1_hw37 : k1_chk37 v259 v261), ∀ a x, ((![v259, v261] : Fin 2 → IVec S16 32) a x).toNat < S1536x16.size a := fun v259 v261 k1_hw37 => k1_hw37

def k1_chk38 (v266 : IVec S16 32) (v268 : IVec S16 32) : Prop :=
  (∀ a x, ((![v266, v268] : Fin 2 → IVec S16 32) a x).toNat < S1536x16.size a)
theorem k1_idx38_inb : ∀ (v266 : IVec S16 32) (v268 : IVec S16 32) (k1_hw38 : k1_chk38 v266 v268), ∀ a x, ((![v266, v268] : Fin 2 → IVec S16 32) a x).toNat < S1536x16.size a := fun v266 v268 k1_hw38 => k1_hw38

def k1_chk39 (v273 : IVec S16 32) (v275 : IVec S16 32) : Prop :=
  (∀ a x, ((![v273, v275] : Fin 2 → IVec S16 32) a x).toNat < S1536x16.size a)
theorem k1_idx39_inb : ∀ (v273 : IVec S16 32) (v275 : IVec S16 32) (k1_hw39 : k1_chk39 v273 v275), ∀ a x, ((![v273, v275] : Fin 2 → IVec S16 32) a x).toNat < S1536x16.size a := fun v273 v275 k1_hw39 => k1_hw39

def k1_chk40 (v280 : IVec S16 32) (v282 : IVec S16 32) : Prop :=
  (∀ a x, ((![v280, v282] : Fin 2 → IVec S16 32) a x).toNat < S1536x16.size a)
theorem k1_idx40_inb : ∀ (v280 : IVec S16 32) (v282 : IVec S16 32) (k1_hw40 : k1_chk40 v280 v282), ∀ a x, ((![v280, v282] : Fin 2 → IVec S16 32) a x).toNat < S1536x16.size a := fun v280 v282 k1_hw40 => k1_hw40

def k1_chk41 (v287 : IVec S16 32) (v289 : IVec S16 32) : Prop :=
  (∀ a x, ((![v287, v289] : Fin 2 → IVec S16 32) a x).toNat < S1536x16.size a)
theorem k1_idx41_inb : ∀ (v287 : IVec S16 32) (v289 : IVec S16 32) (k1_hw41 : k1_chk41 v287 v289), ∀ a x, ((![v287, v289] : Fin 2 → IVec S16 32) a x).toNat < S1536x16.size a := fun v287 v289 k1_hw41 => k1_hw41

def k1_chk42 (v294 : IVec S16 32) (v296 : IVec S16 32) : Prop :=
  (∀ a x, ((![v294, v296] : Fin 2 → IVec S16 32) a x).toNat < S1536x16.size a)
theorem k1_idx42_inb : ∀ (v294 : IVec S16 32) (v296 : IVec S16 32) (k1_hw42 : k1_chk42 v294 v296), ∀ a x, ((![v294, v296] : Fin 2 → IVec S16 32) a x).toNat < S1536x16.size a := fun v294 v296 k1_hw42 => k1_hw42

def k1_chk43 (v301 : IVec S16 32) (v303 : IVec S16 32) : Prop :=
  (∀ a x, ((![v301, v303] : Fin 2 → IVec S16 32) a x).toNat < S1536x16.size a)
theorem k1_idx43_inb : ∀ (v301 : IVec S16 32) (v303 : IVec S16 32) (k1_hw43 : k1_chk43 v301 v303), ∀ a x, ((![v301, v303] : Fin 2 → IVec S16 32) a x).toNat < S1536x16.size a := fun v301 v303 k1_hw43 => k1_hw43

def k1_chk44 (v308 : IVec S16 32) (v310 : IVec S16 32) : Prop :=
  (∀ a x, ((![v308, v310] : Fin 2 → IVec S16 32) a x).toNat < S1536x16.size a)
theorem k1_idx44_inb : ∀ (v308 : IVec S16 32) (v310 : IVec S16 32) (k1_hw44 : k1_chk44 v308 v310), ∀ a x, ((![v308, v310] : Fin 2 → IVec S16 32) a x).toNat < S1536x16.size a := fun v308 v310 k1_hw44 => k1_hw44

def k1_chk45 (v315 : IVec S16 32) (v317 : IVec S16 32) : Prop :=
  (∀ a x, ((![v315, v317] : Fin 2 → IVec S16 32) a x).toNat < S1536x16.size a)
theorem k1_idx45_inb : ∀ (v315 : IVec S16 32) (v317 : IVec S16 32) (k1_hw45 : k1_chk45 v315 v317), ∀ a x, ((![v315, v317] : Fin 2 → IVec S16 32) a x).toNat < S1536x16.size a := fun v315 v317 k1_hw45 => k1_hw45

def k1_chk46 (v322 : IVec S16 32) (v324 : IVec S16 32) : Prop :=
  (∀ a x, ((![v322, v324] : Fin 2 → IVec S16 32) a x).toNat < S1536x16.size a)
theorem k1_idx46_inb : ∀ (v322 : IVec S16 32) (v324 : IVec S16 32) (k1_hw46 : k1_chk46 v322 v324), ∀ a x, ((![v322, v324] : Fin 2 → IVec S16 32) a x).toNat < S1536x16.size a := fun v322 v324 k1_hw46 => k1_hw46

def k1_chk47 (v329 : IVec S16 32) (v331 : IVec S16 32) : Prop :=
  (∀ a x, ((![v329, v331] : Fin 2 → IVec S16 32) a x).toNat < S1536x16.size a)
theorem k1_idx47_inb : ∀ (v329 : IVec S16 32) (v331 : IVec S16 32) (k1_hw47 : k1_chk47 v329 v331), ∀ a x, ((![v329, v331] : Fin 2 → IVec S16 32) a x).toNat < S1536x16.size a := fun v329 v331 k1_hw47 => k1_hw47

def k1_chk48 (v336 : IVec S16 32) (v338 : IVec S16 32) : Prop :=
  (∀ a x, ((![v336, v338] : Fin 2 → IVec S16 32) a x).toNat < S1536x16.size a)
theorem k1_idx48_inb : ∀ (v336 : IVec S16 32) (v338 : IVec S16 32) (k1_hw48 : k1_chk48 v336 v338), ∀ a x, ((![v336, v338] : Fin 2 → IVec S16 32) a x).toNat < S1536x16.size a := fun v336 v338 k1_hw48 => k1_hw48

def k1_chk49 (v343 : IVec S16 32) (v345 : IVec S16 32) : Prop :=
  (∀ a x, ((![v343, v345] : Fin 2 → IVec S16 32) a x).toNat < S1536x16.size a)
theorem k1_idx49_inb : ∀ (v343 : IVec S16 32) (v345 : IVec S16 32) (k1_hw49 : k1_chk49 v343 v345), ∀ a x, ((![v343, v345] : Fin 2 → IVec S16 32) a x).toNat < S1536x16.size a := fun v343 v345 k1_hw49 => k1_hw49

def k1_chk50 (v350 : IVec S16 32) (v352 : IVec S16 32) : Prop :=
  (∀ a x, ((![v350, v352] : Fin 2 → IVec S16 32) a x).toNat < S1536x16.size a)
theorem k1_idx50_inb : ∀ (v350 : IVec S16 32) (v352 : IVec S16 32) (k1_hw50 : k1_chk50 v350 v352), ∀ a x, ((![v350, v352] : Fin 2 → IVec S16 32) a x).toNat < S1536x16.size a := fun v350 v352 k1_hw50 => k1_hw50

def k1_chk14 (v87 : IVec S16 32) : Prop :=
  (∀ a x, ((![v87] : Fin 1 → IVec S16 32) a x).toNat < S128.size a) ∧
  (∀ a x, ((![v87] : Fin 1 → IVec S16 32) a x).toNat < S128.size a) ∧
  (∀ a x, ((![v87] : Fin 1 → IVec S16 32) a x).toNat < S128.size a) ∧
  (∀ a x, ((![v87] : Fin 1 → IVec S16 32) a x).toNat < S128.size a) ∧
  (∀ a x, ((![v87] : Fin 1 → IVec S16 32) a x).toNat < S128.size a)
theorem k1_idx14_inb : ∀ (v87 : IVec S16 32) (k1_hw14 : k1_chk14 v87), ∀ a x, ((![v87] : Fin 1 → IVec S16 32) a x).toNat < S128.size a := fun v87 k1_hw14 => k1_hw14.1
theorem k1_idx51_inb : ∀ (v87 : IVec S16 32) (k1_hw14 : k1_chk14 v87), ∀ a x, ((![v87] : Fin 1 → IVec S16 32) a x).toNat < S128.size a := fun v87 k1_hw14 => k1_hw14.2.1
theorem k1_idx52_inb : ∀ (v87 : IVec S16 32) (k1_hw14 : k1_chk14 v87), ∀ a x, ((![v87] : Fin 1 → IVec S16 32) a x).toNat < S128.size a := fun v87 k1_hw14 => k1_hw14.2.2.1
theorem k1_idx53_inb : ∀ (v87 : IVec S16 32) (k1_hw14 : k1_chk14 v87), ∀ a x, ((![v87] : Fin 1 → IVec S16 32) a x).toNat < S128.size a := fun v87 k1_hw14 => k1_hw14.2.2.2.1
theorem k1_idx54_inb : ∀ (v87 : IVec S16 32) (k1_hw14 : k1_chk14 v87), ∀ a x, ((![v87] : Fin 1 → IVec S16 32) a x).toNat < S128.size a := fun v87 k1_hw14 => k1_hw14.2.2.2.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1x512x512 : Shape := ⟨4, ![4, 1, 512, 512]⟩
abbrev S25x2 : Shape := ⟨2, ![25, 2]⟩
abbrev S2 : Shape := ⟨1, ![2]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1x512x512 : Shape := ⟨4, ![1, 1, 512, 512]⟩
abbrev S4x262144 : Shape := ⟨2, ![4, 262144]⟩
abbrev S4x5000 : Shape := ⟨2, ![4, 5000]⟩
abbrev S4x512x512 : Shape := ⟨3, ![4, 512, 512]⟩
abbrev S4x516x516 : Shape := ⟨3, ![4, 516, 516]⟩
abbrev S4x16x512x512 : Shape := ⟨4, ![4, 16, 512, 512]⟩
abbrev S4x9x512x512 : Shape := ⟨4, ![4, 9, 512, 512]⟩
abbrev S4x25x512x512 : Shape := ⟨4, ![4, 25, 512, 512]⟩
abbrev S4x25x262144 : Shape := ⟨3, ![4, 25, 262144]⟩
abbrev S4x262144x25 : Shape := ⟨3, ![4, 262144, 25]⟩
abbrev S4x5000x1 : Shape := ⟨3, ![4, 5000, 1]⟩
abbrev S4x5000x25 : Shape := ⟨3, ![4, 5000, 25]⟩
abbrev S4x5000x2 : Shape := ⟨3, ![4, 5000, 2]⟩
abbrev S1x25x2 : Shape := ⟨3, ![1, 25, 2]⟩
abbrev S4x5000x1x2 : Shape := ⟨4, ![4, 5000, 1, 2]⟩
abbrev S1x1x25x2 : Shape := ⟨4, ![1, 1, 25, 2]⟩
abbrev S4x5000x25x2 : Shape := ⟨4, ![4, 5000, 25, 2]⟩
abbrev S1x2 : Shape := ⟨2, ![1, 2]⟩
abbrev S1x1x2 : Shape := ⟨3, ![1, 1, 2]⟩
abbrev S5000 : Shape := ⟨1, ![5000]⟩

abbrev nBuf : Space → Nat
  | .hbm => 506
  | .vmem => 0
  | .smem => 0
  | _ => 0

abbrev hbmTy0_0 (i : Nat) : BufTy := match i % 128 with
  | 0 => ⟨S4x1x512x512, .f32⟩
  | 1 => ⟨S25x2, .f32⟩
  | 2 => ⟨S2, .f32⟩
  | 3 => ⟨S_, .f32⟩
  | 4 => ⟨S4x1x512x512, .f32⟩
  | 5 => ⟨S_, .f32⟩
  | 6 => ⟨S_, .f32⟩
  | 7 => ⟨S4x1x512x512, .f32⟩
  | 8 => ⟨S4x1x512x512, .i1⟩
  | 9 => ⟨S4x1x512x512, .f32⟩
  | 10 => ⟨S_, .f32⟩
  | 11 => ⟨S_, .f32⟩
  | 12 => ⟨S4x1x512x512, .f32⟩
  | 13 => ⟨S_, .f32⟩
  | 14 => ⟨S4x1x512x512, .f32⟩
  | 15 => ⟨S4x1x512x512, .i1⟩
  | 16 => ⟨S4x1x512x512, .f32⟩
  | 17 => ⟨S_, .f32⟩
  | 18 => ⟨S_, .f32⟩
  | 19 => ⟨S4x1x512x512, .f32⟩
  | 20 => ⟨S4x1x512x512, .i1⟩
  | 21 => ⟨S4x1x512x512, .i1⟩
  | 22 => ⟨S4x1x512x512, .i1⟩
  | 23 => ⟨S4x1x512x512, .i1⟩
  | 24 => ⟨S4x1x512x512, .f32⟩
  | 25 => ⟨S_, .f32⟩
  | 26 => ⟨S_, .f32⟩
  | 27 => ⟨S4x1x512x512, .f32⟩
  | 28 => ⟨S_, .f32⟩
  | 29 => ⟨S4x1x512x512, .f32⟩
  | 30 => ⟨S4x1x512x512, .i1⟩
  | 31 => ⟨S4x1x512x512, .f32⟩
  | 32 => ⟨S_, .f32⟩
  | 33 => ⟨S_, .f32⟩
  | 34 => ⟨S4x1x512x512, .f32⟩
  | 35 => ⟨S4x1x512x512, .i1⟩
  | 36 => ⟨S4x1x512x512, .i1⟩
  | 37 => ⟨S4x1x512x512, .i1⟩
  | 38 => ⟨S4x1x512x512, .i1⟩
  | 39 => ⟨S4x1x512x512, .f32⟩
  | 40 => ⟨S512, .i32⟩
  | 41 => ⟨S512, .i32⟩
  | 42 => ⟨S_, .i32⟩
  | 43 => ⟨S512, .i32⟩
  | 44 => ⟨S512, .i1⟩
  | 45 => ⟨S_, .i32⟩
  | 46 => ⟨S512, .i32⟩
  | 47 => ⟨S512, .i1⟩
  | 48 => ⟨S512, .i1⟩
  | 49 => ⟨S_, .i32⟩
  | 50 => ⟨S512, .i32⟩
  | 51 => ⟨S512, .i1⟩
  | 52 => ⟨S_, .i32⟩
  | 53 => ⟨S512, .i32⟩
  | 54 => ⟨S512, .i1⟩
  | 55 => ⟨S512, .i1⟩
  | 56 => ⟨S512x1, .i1⟩
  | 57 => ⟨S1x512, .i1⟩
  | 58 => ⟨S512x512, .i1⟩
  | 59 => ⟨S512x512, .i1⟩
  | 60 => ⟨S512x512, .i1⟩
  | 61 => ⟨S1x1x512x512, .i1⟩
  | 62 => ⟨S_, .f32⟩
  | 63 => ⟨S_, .f32⟩
  | 64 => ⟨S4x1x512x512, .i1⟩
  | 65 => ⟨S4x1x512x512, .f32⟩
  | 66 => ⟨S4x1x512x512, .f32⟩
  | 67 => ⟨S4x262144, .f32⟩
  | 68 => ⟨S4x5000, .f32⟩
  | 69 => ⟨S4x5000, .i32⟩
  | 70 => ⟨S4x512x512, .f32⟩
  | 71 => ⟨S_, .i32⟩
  | 72 => ⟨S_, .f32⟩
  | 73 => ⟨S4x516x516, .f32⟩
  | 74 => ⟨S4x512x512, .f32⟩
  | 75 => ⟨S4x512x512, .f32⟩
  | 76 => ⟨S4x512x512, .f32⟩
  | 77 => ⟨S4x512x512, .f32⟩
  | 78 => ⟨S4x512x512, .f32⟩
  | 79 => ⟨S4x512x512, .f32⟩
  | 80 => ⟨S4x512x512, .f32⟩
  | 81 => ⟨S4x512x512, .f32⟩
  | 82 => ⟨S4x512x512, .f32⟩
  | 83 => ⟨S4x512x512, .f32⟩
  | 84 => ⟨S4x512x512, .f32⟩
  | 85 => ⟨S4x512x512, .f32⟩
  | 86 => ⟨S4x512x512, .f32⟩
  | 87 => ⟨S4x512x512, .f32⟩
  | 88 => ⟨S4x512x512, .f32⟩
  | 89 => ⟨S4x512x512, .f32⟩
  | 90 => ⟨S4x512x512, .f32⟩
  | 91 => ⟨S4x512x512, .f32⟩
  | 92 => ⟨S4x512x512, .f32⟩
  | 93 => ⟨S4x512x512, .f32⟩
  | 94 => ⟨S4x512x512, .f32⟩
  | 95 => ⟨S4x512x512, .f32⟩
  | 96 => ⟨S4x512x512, .f32⟩
  | 97 => ⟨S4x512x512, .f32⟩
  | 98 => ⟨S4x512x512, .f32⟩
  | 99 => ⟨S4x1x512x512, .f32⟩
  | 100 => ⟨S4x1x512x512, .f32⟩
  | 101 => ⟨S4x1x512x512, .f32⟩
  | 102 => ⟨S4x1x512x512, .f32⟩
  | 103 => ⟨S4x1x512x512, .f32⟩
  | 104 => ⟨S4x1x512x512, .f32⟩
  | 105 => ⟨S4x1x512x512, .f32⟩
  | 106 => ⟨S4x1x512x512, .f32⟩
  | 107 => ⟨S4x1x512x512, .f32⟩
  | 108 => ⟨S4x1x512x512, .f32⟩
  | 109 => ⟨S4x1x512x512, .f32⟩
  | 110 => ⟨S4x1x512x512, .f32⟩
  | 111 => ⟨S4x1x512x512, .f32⟩
  | 112 => ⟨S4x1x512x512, .f32⟩
  | 113 => ⟨S4x1x512x512, .f32⟩
  | 114 => ⟨S4x1x512x512, .f32⟩
  | 115 => ⟨S4x1x512x512, .f32⟩
  | 116 => ⟨S4x1x512x512, .f32⟩
  | 117 => ⟨S4x1x512x512, .f32⟩
  | 118 => ⟨S4x1x512x512, .f32⟩
  | 119 => ⟨S4x1x512x512, .f32⟩
  | 120 => ⟨S4x1x512x512, .f32⟩
  | 121 => ⟨S4x1x512x512, .f32⟩
  | 122 => ⟨S4x1x512x512, .f32⟩
  | 123 => ⟨S4x1x512x512, .f32⟩
  | 124 => ⟨S4x16x512x512, .f32⟩
  | 125 => ⟨S4x9x512x512, .f32⟩
  | 126 => ⟨S4x25x512x512, .f32⟩
  | 127 => ⟨S4x25x262144, .f32⟩
  | _ => ⟨S4x1x512x512, .f32⟩

abbrev hbmTy0_1 (i : Nat) : BufTy := match i % 128 with
  | 0 => ⟨S4x262144x25, .f32⟩
  | 1 => ⟨S4x512x512, .f32⟩
  | 2 => ⟨S_, .i32⟩
  | 3 => ⟨S4x5000, .i32⟩
  | 4 => ⟨S4x5000, .i1⟩
  | 5 => ⟨S_, .i32⟩
  | 6 => ⟨S4x5000, .i32⟩
  | 7 => ⟨S4x5000, .i32⟩
  | 8 => ⟨S4x5000, .i32⟩
  | 9 => ⟨S4x5000x1, .i32⟩
  | 10 => ⟨S4x5000x25, .f32⟩
  | 11 => ⟨S_, .f32⟩
  | 12 => ⟨S4x5000, .f32⟩
  | 13 => ⟨S4x5000x1, .f32⟩
  | 14 => ⟨S4x5000x25, .f32⟩
  | 15 => ⟨S4x5000x25, .f32⟩
  | 16 => ⟨S_, .f32⟩
  | 17 => ⟨S4x5000x25, .f32⟩
  | 18 => ⟨S4x5000x25, .f32⟩
  | 19 => ⟨S4x5000x25, .f32⟩
  | 20 => ⟨S_, .f32⟩
  | 21 => ⟨S4x5000, .f32⟩
  | 22 => ⟨S4x5000x1, .f32⟩
  | 23 => ⟨S4x5000x2, .f32⟩
  | 24 => ⟨S4x5000x2, .f32⟩
  | 25 => ⟨S4x5000x2, .f32⟩
  | 26 => ⟨S1x25x2, .f32⟩
  | 27 => ⟨S4x5000x1x2, .f32⟩
  | 28 => ⟨S1x1x25x2, .f32⟩
  | 29 => ⟨S4x5000x25x2, .f32⟩
  | 30 => ⟨S4x5000x25x2, .f32⟩
  | 31 => ⟨S4x5000x25x2, .f32⟩
  | 32 => ⟨S_, .f32⟩
  | 33 => ⟨S4x5000x25x2, .f32⟩
  | 34 => ⟨S4x5000x25x2, .f32⟩
  | 35 => ⟨S4x5000x25x2, .f32⟩
  | 36 => ⟨S_, .f32⟩
  | 37 => ⟨S4x5000x25, .f32⟩
  | 38 => ⟨S4x5000x25, .f32⟩
  | 39 => ⟨S_, .f32⟩
  | 40 => ⟨S4x5000, .f32⟩
  | 41 => ⟨S4x5000, .f32⟩
  | 42 => ⟨S4x5000, .f32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S4x5000, .i32⟩
  | 50 => ⟨S4x5000, .i32⟩
  | 51 => ⟨S_, .i32⟩
  | 52 => ⟨S4x5000, .i32⟩
  | 53 => ⟨S4x5000, .i1⟩
  | 54 => ⟨S_, .i32⟩
  | 55 => ⟨S4x5000, .i32⟩
  | 56 => ⟨S4x5000, .i1⟩
  | 57 => ⟨S_, .i32⟩
  | 58 => ⟨S_, .i1⟩
  | 59 => ⟨S4x5000, .i1⟩
  | 60 => ⟨S4x5000, .i1⟩
  | 61 => ⟨S4x5000, .i1⟩
  | 62 => ⟨S4x5000, .i32⟩
  | 63 => ⟨S4x5000, .i32⟩
  | 64 => ⟨S4x5000, .i32⟩
  | 65 => ⟨S_, .i32⟩
  | 66 => ⟨S_, .i32⟩
  | 67 => ⟨S4x5000, .i32⟩
  | 68 => ⟨S4x5000, .i32⟩
  | 69 => ⟨S4x5000, .i32⟩
  | 70 => ⟨S_, .i32⟩
  | 71 => ⟨S4x5000, .i32⟩
  | 72 => ⟨S4x5000, .i1⟩
  | 73 => ⟨S4x5000, .i32⟩
  | 74 => ⟨S4x5000, .i32⟩
  | 75 => ⟨S_, .i32⟩
  | 76 => ⟨S4x5000, .i32⟩
  | 77 => ⟨S4x5000, .i1⟩
  | 78 => ⟨S4x5000, .i1⟩
  | 79 => ⟨S_, .i32⟩
  | 80 => ⟨S4x5000, .i32⟩
  | 81 => ⟨S4x5000, .i32⟩
  | 82 => ⟨S4x5000, .i32⟩
  | 83 => ⟨S4x5000x1, .i32⟩
  | 84 => ⟨S4x5000x1, .i32⟩
  | 85 => ⟨S4x5000x2, .i32⟩
  | 86 => ⟨S4x5000x2, .f32⟩
  | 87 => ⟨S4x5000x2, .f32⟩
  | 88 => ⟨S1x2, .f32⟩
  | 89 => ⟨S1x1x2, .f32⟩
  | 90 => ⟨S4x5000x2, .f32⟩
  | 91 => ⟨S4x5000x2, .f32⟩
  | 92 => ⟨S_, .f32⟩
  | 93 => ⟨S4x5000x2, .f32⟩
  | 94 => ⟨S4x5000x2, .f32⟩
  | 95 => ⟨S_, .f32⟩
  | 96 => ⟨S4x5000x2, .f32⟩
  | 97 => ⟨S4x5000x2, .f32⟩
  | 98 => ⟨S4x5000x1, .f32⟩
  | 99 => ⟨S4x5000, .f32⟩
  | 100 => ⟨S_, .f32⟩
  | 101 => ⟨S4x5000, .f32⟩
  | 102 => ⟨S4x5000, .f32⟩
  | 103 => ⟨S_, .f32⟩
  | 104 => ⟨S4x5000, .f32⟩
  | 105 => ⟨S4x5000, .f32⟩
  | 106 => ⟨S_, .f32⟩
  | 107 => ⟨S4x5000, .f32⟩
  | 108 => ⟨S4x5000, .f32⟩
  | 109 => ⟨S4x5000x1, .f32⟩
  | 110 => ⟨S4x5000, .f32⟩
  | 111 => ⟨S_, .f32⟩
  | 112 => ⟨S4x5000, .f32⟩
  | 113 => ⟨S4x5000, .f32⟩
  | 114 => ⟨S_, .f32⟩
  | 115 => ⟨S4x5000, .f32⟩
  | 116 => ⟨S4x5000, .f32⟩
  | 117 => ⟨S_, .f32⟩
  | 118 => ⟨S4x5000, .f32⟩
  | 119 => ⟨S4x5000, .f32⟩
  | 120 => ⟨S4x5000x1, .f32⟩
  | 121 => ⟨S4x5000x1, .f32⟩
  | 122 => ⟨S4x5000x2, .f32⟩
  | 123 => ⟨S4x5000x1, .f32⟩
  | 124 => ⟨S4x5000, .f32⟩
  | 125 => ⟨S4x5000x1, .f32⟩
  | 126 => ⟨S4x5000, .f32⟩
  | 127 => ⟨S4x5000, .f32⟩
  | _ => ⟨S4x1x512x512, .f32⟩

abbrev hbmTy0_2 (i : Nat) : BufTy := match i % 128 with
  | 0 => ⟨S4x5000, .f32⟩
  | 1 => ⟨S_, .f32⟩
  | 2 => ⟨S4x5000, .f32⟩
  | 3 => ⟨S4x5000, .f32⟩
  | 4 => ⟨S_, .f32⟩
  | 5 => ⟨S4x5000, .f32⟩
  | 6 => ⟨S4x5000, .f32⟩
  | 7 => ⟨S_, .f32⟩
  | 8 => ⟨S4x5000, .f32⟩
  | 9 => ⟨S4x5000, .i1⟩
  | 10 => ⟨S_, .f32⟩
  | 11 => ⟨S4x5000, .f32⟩
  | 12 => ⟨S4x5000, .i1⟩
  | 13 => ⟨S4x5000, .i1⟩
  | 14 => ⟨S_, .f32⟩
  | 15 => ⟨S4x5000, .f32⟩
  | 16 => ⟨S4x5000, .i1⟩
  | 17 => ⟨S4x5000, .i1⟩
  | 18 => ⟨S_, .f32⟩
  | 19 => ⟨S4x5000, .f32⟩
  | 20 => ⟨S4x5000, .i1⟩
  | 21 => ⟨S4x5000, .i1⟩
  | 22 => ⟨S_, .i32⟩
  | 23 => ⟨S_, .i32⟩
  | 24 => ⟨S_, .f32⟩
  | 25 => ⟨S4x5000, .f32⟩
  | 26 => ⟨S4x5000, .f32⟩
  | 27 => ⟨S_, .f32⟩
  | 28 => ⟨S4x5000, .f32⟩
  | 29 => ⟨S4x5000, .f32⟩
  | 30 => ⟨S4x5000, .i32⟩
  | 31 => ⟨S_, .i32⟩
  | 32 => ⟨S_, .i32⟩
  | 33 => ⟨S_, .f32⟩
  | 34 => ⟨S4x5000, .f32⟩
  | 35 => ⟨S4x5000, .f32⟩
  | 36 => ⟨S_, .f32⟩
  | 37 => ⟨S4x5000, .f32⟩
  | 38 => ⟨S4x5000, .f32⟩
  | 39 => ⟨S4x5000, .i32⟩
  | 40 => ⟨S_, .i32⟩
  | 41 => ⟨S4x5000, .i32⟩
  | 42 => ⟨S4x5000, .i1⟩
  | 43 => ⟨S_, .i32⟩
  | 44 => ⟨S4x5000, .i32⟩
  | 45 => ⟨S4x5000, .i32⟩
  | 46 => ⟨S4x5000, .i32⟩
  | 47 => ⟨S_, .i32⟩
  | 48 => ⟨S4x5000, .i32⟩
  | 49 => ⟨S4x5000, .i1⟩
  | 50 => ⟨S_, .i32⟩
  | 51 => ⟨S4x5000, .i32⟩
  | 52 => ⟨S4x5000, .i32⟩
  | 53 => ⟨S4x5000, .i32⟩
  | 54 => ⟨S4x5000x1, .i32⟩
  | 55 => ⟨S4x5000x1, .i32⟩
  | 56 => ⟨S4x5000x2, .i32⟩
  | 57 => ⟨S4x5000, .f32⟩
  | 58 => ⟨S_, .f32⟩
  | 59 => ⟨S_, .f32⟩
  | 60 => ⟨S5000, .f32⟩
  | 61 => ⟨S4x5000, .f32⟩
  | 62 => ⟨S4x5000, .f32⟩
  | 63 => ⟨S_, .f32⟩
  | 64 => ⟨S4x5000, .f32⟩
  | 65 => ⟨S4x5000, .i1⟩
  | 66 => ⟨S_, .f32⟩
  | 67 => ⟨S4x5000, .f32⟩
  | 68 => ⟨S4x5000, .i1⟩
  | 69 => ⟨S4x5000, .i1⟩
  | 70 => ⟨S_, .f32⟩
  | 71 => ⟨S4x5000, .f32⟩
  | 72 => ⟨S4x5000, .i1⟩
  | 73 => ⟨S4x5000, .i1⟩
  | 74 => ⟨S_, .f32⟩
  | 75 => ⟨S4x5000, .f32⟩
  | 76 => ⟨S4x5000, .i1⟩
  | 77 => ⟨S4x5000, .i1⟩
  | 78 => ⟨S_, .i32⟩
  | 79 => ⟨S_, .i32⟩
  | 80 => ⟨S_, .f32⟩
  | 81 => ⟨S4x5000, .f32⟩
  | 82 => ⟨S4x5000, .f32⟩
  | 83 => ⟨S_, .f32⟩
  | 84 => ⟨S4x5000, .f32⟩
  | 85 => ⟨S4x5000, .f32⟩
  | 86 => ⟨S4x5000, .i32⟩
  | 87 => ⟨S_, .i32⟩
  | 88 => ⟨S_, .i32⟩
  | 89 => ⟨S_, .f32⟩
  | 90 => ⟨S4x5000, .f32⟩
  | 91 => ⟨S4x5000, .f32⟩
  | 92 => ⟨S_, .f32⟩
  | 93 => ⟨S4x5000, .f32⟩
  | 94 => ⟨S4x5000, .f32⟩
  | 95 => ⟨S4x5000, .i32⟩
  | 96 => ⟨S_, .i32⟩
  | 97 => ⟨S4x5000, .i32⟩
  | 98 => ⟨S4x5000, .i1⟩
  | 99 => ⟨S_, .i32⟩
  | 100 => ⟨S4x5000, .i32⟩
  | 101 => ⟨S4x5000, .i32⟩
  | 102 => ⟨S4x5000, .i32⟩
  | 103 => ⟨S_, .i32⟩
  | 104 => ⟨S4x5000, .i32⟩
  | 105 => ⟨S4x5000, .i1⟩
  | 106 => ⟨S_, .i32⟩
  | 107 => ⟨S4x5000, .i32⟩
  | 108 => ⟨S4x5000, .i32⟩
  | 109 => ⟨S4x5000, .i32⟩
  | 110 => ⟨S4x5000x1, .i32⟩
  | 111 => ⟨S4x5000x1, .i32⟩
  | 112 => ⟨S4x5000x2, .i32⟩
  | 113 => ⟨S4x5000, .f32⟩
  | 114 => ⟨S_, .f32⟩
  | 115 => ⟨S_, .f32⟩
  | 116 => ⟨S5000, .f32⟩
  | 117 => ⟨S4x5000, .f32⟩
  | 118 => ⟨S4x5000, .f32⟩
  | 119 => ⟨S_, .f32⟩
  | 120 => ⟨S4x5000, .f32⟩
  | 121 => ⟨S4x5000, .i1⟩
  | 122 => ⟨S_, .f32⟩
  | 123 => ⟨S4x5000, .f32⟩
  | 124 => ⟨S4x5000, .i1⟩
  | 125 => ⟨S4x5000, .i1⟩
  | 126 => ⟨S_, .f32⟩
  | 127 => ⟨S4x5000, .f32⟩
  | _ => ⟨S4x1x512x512, .f32⟩

abbrev hbmTy0_3 (i : Nat) : BufTy := match i % 128 with
  | 0 => ⟨S4x5000, .i1⟩
  | 1 => ⟨S4x5000, .i1⟩
  | 2 => ⟨S_, .f32⟩
  | 3 => ⟨S4x5000, .f32⟩
  | 4 => ⟨S4x5000, .i1⟩
  | 5 => ⟨S4x5000, .i1⟩
  | 6 => ⟨S_, .i32⟩
  | 7 => ⟨S_, .i32⟩
  | 8 => ⟨S_, .f32⟩
  | 9 => ⟨S4x5000, .f32⟩
  | 10 => ⟨S4x5000, .f32⟩
  | 11 => ⟨S_, .f32⟩
  | 12 => ⟨S4x5000, .f32⟩
  | 13 => ⟨S4x5000, .f32⟩
  | 14 => ⟨S4x5000, .i32⟩
  | 15 => ⟨S_, .i32⟩
  | 16 => ⟨S_, .i32⟩
  | 17 => ⟨S_, .f32⟩
  | 18 => ⟨S4x5000, .f32⟩
  | 19 => ⟨S4x5000, .f32⟩
  | 20 => ⟨S_, .f32⟩
  | 21 => ⟨S4x5000, .f32⟩
  | 22 => ⟨S4x5000, .f32⟩
  | 23 => ⟨S4x5000, .i32⟩
  | 24 => ⟨S_, .i32⟩
  | 25 => ⟨S4x5000, .i32⟩
  | 26 => ⟨S4x5000, .i1⟩
  | 27 => ⟨S_, .i32⟩
  | 28 => ⟨S4x5000, .i32⟩
  | 29 => ⟨S4x5000, .i32⟩
  | 30 => ⟨S4x5000, .i32⟩
  | 31 => ⟨S_, .i32⟩
  | 32 => ⟨S4x5000, .i32⟩
  | 33 => ⟨S4x5000, .i1⟩
  | 34 => ⟨S_, .i32⟩
  | 35 => ⟨S4x5000, .i32⟩
  | 36 => ⟨S4x5000, .i32⟩
  | 37 => ⟨S4x5000, .i32⟩
  | 38 => ⟨S4x5000x1, .i32⟩
  | 39 => ⟨S4x5000x1, .i32⟩
  | 40 => ⟨S4x5000x2, .i32⟩
  | 41 => ⟨S4x5000, .f32⟩
  | 42 => ⟨S_, .f32⟩
  | 43 => ⟨S_, .f32⟩
  | 44 => ⟨S5000, .f32⟩
  | 45 => ⟨S4x5000, .f32⟩
  | 46 => ⟨S4x5000, .f32⟩
  | 47 => ⟨S_, .f32⟩
  | 48 => ⟨S4x5000, .f32⟩
  | 49 => ⟨S4x5000, .i1⟩
  | 50 => ⟨S_, .f32⟩
  | 51 => ⟨S4x5000, .f32⟩
  | 52 => ⟨S4x5000, .i1⟩
  | 53 => ⟨S4x5000, .i1⟩
  | 54 => ⟨S_, .f32⟩
  | 55 => ⟨S4x5000, .f32⟩
  | 56 => ⟨S4x5000, .i1⟩
  | 57 => ⟨S4x5000, .i1⟩
  | 58 => ⟨S_, .f32⟩
  | 59 => ⟨S4x5000, .f32⟩
  | 60 => ⟨S4x5000, .i1⟩
  | 61 => ⟨S4x5000, .i1⟩
  | 62 => ⟨S_, .i32⟩
  | 63 => ⟨S_, .i32⟩
  | 64 => ⟨S_, .f32⟩
  | 65 => ⟨S4x5000, .f32⟩
  | 66 => ⟨S4x5000, .f32⟩
  | 67 => ⟨S_, .f32⟩
  | 68 => ⟨S4x5000, .f32⟩
  | 69 => ⟨S4x5000, .f32⟩
  | 70 => ⟨S4x5000, .i32⟩
  | 71 => ⟨S_, .i32⟩
  | 72 => ⟨S_, .i32⟩
  | 73 => ⟨S_, .f32⟩
  | 74 => ⟨S4x5000, .f32⟩
  | 75 => ⟨S4x5000, .f32⟩
  | 76 => ⟨S_, .f32⟩
  | 77 => ⟨S4x5000, .f32⟩
  | 78 => ⟨S4x5000, .f32⟩
  | 79 => ⟨S4x5000, .i32⟩
  | 80 => ⟨S_, .i32⟩
  | 81 => ⟨S4x5000, .i32⟩
  | 82 => ⟨S4x5000, .i1⟩
  | 83 => ⟨S_, .i32⟩
  | 84 => ⟨S4x5000, .i32⟩
  | 85 => ⟨S4x5000, .i32⟩
  | 86 => ⟨S4x5000, .i32⟩
  | 87 => ⟨S_, .i32⟩
  | 88 => ⟨S4x5000, .i32⟩
  | 89 => ⟨S4x5000, .i1⟩
  | 90 => ⟨S_, .i32⟩
  | 91 => ⟨S4x5000, .i32⟩
  | 92 => ⟨S4x5000, .i32⟩
  | 93 => ⟨S4x5000, .i32⟩
  | 94 => ⟨S4x5000x1, .i32⟩
  | 95 => ⟨S4x5000x1, .i32⟩
  | 96 => ⟨S4x5000x2, .i32⟩
  | 97 => ⟨S4x5000, .f32⟩
  | 98 => ⟨S_, .f32⟩
  | 99 => ⟨S_, .f32⟩
  | 100 => ⟨S5000, .f32⟩
  | 101 => ⟨S4x5000, .f32⟩
  | 102 => ⟨S4x5000, .f32⟩
  | 103 => ⟨S4x5000, .f32⟩
  | 104 => ⟨S4x5000, .f32⟩
  | 105 => ⟨S4x5000, .f32⟩
  | 106 => ⟨S4x5000, .f32⟩
  | 107 => ⟨S4x5000, .f32⟩
  | 108 => ⟨S4x5000, .f32⟩
  | 109 => ⟨S4x5000, .f32⟩
  | 110 => ⟨S4x5000, .f32⟩
  | 111 => ⟨S4x5000, .f32⟩
  | 112 => ⟨S4x5000, .f32⟩
  | 113 => ⟨S4x5000, .f32⟩
  | 114 => ⟨S4x5000, .f32⟩
  | 115 => ⟨S4x5000, .f32⟩
  | 116 => ⟨S4x5000, .f32⟩
  | 117 => ⟨S4x5000, .f32⟩
  | 118 => ⟨S4x5000, .f32⟩
  | 119 => ⟨S4x5000, .f32⟩
  | 120 => ⟨S4x5000, .f32⟩
  | 121 => ⟨S4x5000, .f32⟩
  | _ => ⟨S4x1x512x512, .f32⟩

abbrev hbmTy (i : Nat) : BufTy := match i / 128 with
  | 0 => hbmTy0_0 i
  | 1 => hbmTy0_1 i
  | 2 => hbmTy0_2 i
  | 3 => hbmTy0_3 i
  | _ => ⟨S4x1x512x512, .f32⟩

abbrev bufTy : (tb : Table) → Fin (tcTables nBuf tb) → BufTy
  | .hbm, ⟨i, _⟩ => hbmTy i
  | _, _ => ⟨S4x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_cst_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_3 : Ref sig .tc := ⟨.hbm, 10, rfl⟩
abbrev main_v5 : Ref sig .tc := ⟨.hbm, 11, rfl⟩
abbrev main_v6 : Ref sig .tc := ⟨.hbm, 12, rfl⟩
abbrev main_cst_4 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_5 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_6 : Ref sig .tc := ⟨.hbm, 25, rfl⟩
abbrev main_v17 : Ref sig .tc := ⟨.hbm, 26, rfl⟩
abbrev main_v18 : Ref sig .tc := ⟨.hbm, 27, rfl⟩
abbrev main_cst_7 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_8 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_v31 : Ref sig .tc := ⟨.hbm, 43, rfl⟩
abbrev main_v32 : Ref sig .tc := ⟨.hbm, 44, rfl⟩
abbrev main_c_9 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_10 : Ref sig .tc := ⟨.hbm, 49, rfl⟩
abbrev main_v36 : Ref sig .tc := ⟨.hbm, 50, rfl⟩
abbrev main_v37 : Ref sig .tc := ⟨.hbm, 51, rfl⟩
abbrev main_c_11 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_12 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v47 : Ref sig .tc := ⟨.hbm, 66, rfl⟩
abbrev main_v48 : Ref sig .tc := ⟨.hbm, 67, rfl⟩
abbrev main_values : Ref sig .tc := ⟨.hbm, 68, rfl⟩
abbrev main_indices : Ref sig .tc := ⟨.hbm, 69, rfl⟩
abbrev main_v49 : Ref sig .tc := ⟨.hbm, 70, rfl⟩
abbrev main_c_13 : Ref sig .tc := ⟨.hbm, 71, rfl⟩
abbrev main_call4_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_c_14 : Ref sig .tc := ⟨.hbm, 130, rfl⟩
abbrev main_v107 : Ref sig .tc := ⟨.hbm, 131, rfl⟩
abbrev main_v108 : Ref sig .tc := ⟨.hbm, 132, rfl⟩
abbrev main_c_15 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_cst_16 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_cst_17 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_cst_18 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_cst_19 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_cst_20 : Ref sig .tc := ⟨.hbm, 164, rfl⟩
abbrev main_v135 : Ref sig .tc := ⟨.hbm, 165, rfl⟩
abbrev main_v136 : Ref sig .tc := ⟨.hbm, 166, rfl⟩
abbrev main_cst_21 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_c_22 : Ref sig .tc := ⟨.hbm, 171, rfl⟩
abbrev main_call5_v0 : Ref sig .tc := ⟨.hbm, 172, rfl⟩
abbrev main_call5_c : Ref sig .tc := ⟨.hbm, 173, rfl⟩
abbrev main_call5_v1 : Ref sig .tc := ⟨.hbm, 174, rfl⟩
abbrev main_call5_c_0 : Ref sig .tc := ⟨.hbm, 175, rfl⟩
abbrev main_call5_v2 : Ref sig .tc := ⟨.hbm, 176, rfl⟩
abbrev main_call5_v3 : Ref sig .tc := ⟨.hbm, 177, rfl⟩
abbrev main_call5_v4 : Ref sig .tc := ⟨.hbm, 178, rfl⟩
abbrev main_call5_c_1 : Ref sig .tc := ⟨.hbm, 179, rfl⟩
abbrev main_call5_v5 : Ref sig .tc := ⟨.hbm, 180, rfl⟩
abbrev main_call5_v6 : Ref sig .tc := ⟨.hbm, 181, rfl⟩
abbrev main_call5_c_2 : Ref sig .tc := ⟨.hbm, 182, rfl⟩
abbrev main_call5_v7 : Ref sig .tc := ⟨.hbm, 183, rfl⟩
abbrev main_call5_v8 : Ref sig .tc := ⟨.hbm, 184, rfl⟩
abbrev main_call5_c_3 : Ref sig .tc := ⟨.hbm, 185, rfl⟩
abbrev main_call5_v9 : Ref sig .tc := ⟨.hbm, 186, rfl⟩
abbrev main_call5_v10 : Ref sig .tc := ⟨.hbm, 187, rfl⟩
abbrev main_call5_v11 : Ref sig .tc := ⟨.hbm, 188, rfl⟩
abbrev main_call5_v12 : Ref sig .tc := ⟨.hbm, 189, rfl⟩
abbrev main_call5_v13 : Ref sig .tc := ⟨.hbm, 190, rfl⟩
abbrev main_call5_v14 : Ref sig .tc := ⟨.hbm, 191, rfl⟩
abbrev main_v140 : Ref sig .tc := ⟨.hbm, 192, rfl⟩
abbrev main_c_23 : Ref sig .tc := ⟨.hbm, 193, rfl⟩
abbrev main_call6_v0 : Ref sig .tc := ⟨.hbm, 194, rfl⟩
abbrev main_call6_v1 : Ref sig .tc := ⟨.hbm, 195, rfl⟩
abbrev main_call6_v2 : Ref sig .tc := ⟨.hbm, 196, rfl⟩
abbrev main_call6_v3 : Ref sig .tc := ⟨.hbm, 197, rfl⟩
abbrev main_call6_v4 : Ref sig .tc := ⟨.hbm, 198, rfl⟩
abbrev main_call6_v5 : Ref sig .tc := ⟨.hbm, 199, rfl⟩
abbrev main_call6_v6 : Ref sig .tc := ⟨.hbm, 200, rfl⟩
abbrev main_call6_v7 : Ref sig .tc := ⟨.hbm, 201, rfl⟩
abbrev main_call6_v8 : Ref sig .tc := ⟨.hbm, 202, rfl⟩
abbrev main_call6_c : Ref sig .tc := ⟨.hbm, 203, rfl⟩
abbrev main_call6_v9 : Ref sig .tc := ⟨.hbm, 204, rfl⟩
abbrev main_call6_v10 : Ref sig .tc := ⟨.hbm, 205, rfl⟩
abbrev main_call6_v11 : Ref sig .tc := ⟨.hbm, 206, rfl⟩
abbrev main_call6_c_0 : Ref sig .tc := ⟨.hbm, 207, rfl⟩
abbrev main_call6_v12 : Ref sig .tc := ⟨.hbm, 208, rfl⟩
abbrev main_call6_v13 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_cst_24 : Ref sig .tc := ⟨.hbm, 220, rfl⟩
abbrev main_v151 : Ref sig .tc := ⟨.hbm, 221, rfl⟩
abbrev main_v152 : Ref sig .tc := ⟨.hbm, 222, rfl⟩
abbrev main_cst_25 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_cst_26 : Ref sig .tc := ⟨.hbm, 228, rfl⟩
abbrev main_v157 : Ref sig .tc := ⟨.hbm, 229, rfl⟩
abbrev main_v158 : Ref sig .tc := ⟨.hbm, 230, rfl⟩
abbrev main_cst_27 : Ref sig .tc := ⟨.hbm, 231, rfl⟩
abbrev main_v159 : Ref sig .tc := ⟨.hbm, 232, rfl⟩
abbrev main_v160 : Ref sig .tc := ⟨.hbm, 233, rfl⟩
abbrev main_cst_28 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_cst_29 : Ref sig .tc := ⟨.hbm, 239, rfl⟩
abbrev main_v165 : Ref sig .tc := ⟨.hbm, 240, rfl⟩
abbrev main_v166 : Ref sig .tc := ⟨.hbm, 241, rfl⟩
abbrev main_cst_30 : Ref sig .tc := ⟨.hbm, 242, rfl⟩
abbrev main_v167 : Ref sig .tc := ⟨.hbm, 243, rfl⟩
abbrev main_v168 : Ref sig .tc := ⟨.hbm, 244, rfl⟩
abbrev main_cst_31 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_cst_32 : Ref sig .tc := ⟨.hbm, 257, rfl⟩
abbrev main_v180 : Ref sig .tc := ⟨.hbm, 258, rfl⟩
abbrev main_v181 : Ref sig .tc := ⟨.hbm, 259, rfl⟩
abbrev main_cst_33 : Ref sig .tc := ⟨.hbm, 260, rfl⟩
abbrev main_v182 : Ref sig .tc := ⟨.hbm, 261, rfl⟩
abbrev main_v183 : Ref sig .tc := ⟨.hbm, 262, rfl⟩
abbrev main_cst_34 : Ref sig .tc := ⟨.hbm, 263, rfl⟩
abbrev main_v184 : Ref sig .tc := ⟨.hbm, 264, rfl⟩
abbrev main_v185 : Ref sig .tc := ⟨.hbm, 265, rfl⟩
abbrev main_cst_35 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_cst_36 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_cst_37 : Ref sig .tc := ⟨.hbm, 274, rfl⟩
abbrev main_v192 : Ref sig .tc := ⟨.hbm, 275, rfl⟩
abbrev main_v193 : Ref sig .tc := ⟨.hbm, 276, rfl⟩
abbrev main_v194 : Ref sig .tc := ⟨.hbm, 277, rfl⟩
abbrev main_c_38 : Ref sig .tc := ⟨.hbm, 278, rfl⟩
abbrev main_c_39 : Ref sig .tc := ⟨.hbm, 279, rfl⟩
abbrev main_call7_v0 : Ref sig .tc := ⟨.hbm, 280, rfl⟩
abbrev main_call7_v1 : Ref sig .tc := ⟨.hbm, 281, rfl⟩
abbrev main_call7_v2 : Ref sig .tc := ⟨.hbm, 282, rfl⟩
abbrev main_call7_v3 : Ref sig .tc := ⟨.hbm, 283, rfl⟩
abbrev main_call7_v4 : Ref sig .tc := ⟨.hbm, 284, rfl⟩
abbrev main_v195 : Ref sig .tc := ⟨.hbm, 285, rfl⟩
abbrev main_v196 : Ref sig .tc := ⟨.hbm, 286, rfl⟩
abbrev main_c_40 : Ref sig .tc := ⟨.hbm, 287, rfl⟩
abbrev main_c_41 : Ref sig .tc := ⟨.hbm, 288, rfl⟩
abbrev main_call8_v0 : Ref sig .tc := ⟨.hbm, 289, rfl⟩
abbrev main_call8_v1 : Ref sig .tc := ⟨.hbm, 290, rfl⟩
abbrev main_call8_v2 : Ref sig .tc := ⟨.hbm, 291, rfl⟩
abbrev main_call8_v3 : Ref sig .tc := ⟨.hbm, 292, rfl⟩
abbrev main_call8_v4 : Ref sig .tc := ⟨.hbm, 293, rfl⟩
abbrev main_v197 : Ref sig .tc := ⟨.hbm, 294, rfl⟩
abbrev main_v198 : Ref sig .tc := ⟨.hbm, 295, rfl⟩
abbrev main_c_42 : Ref sig .tc := ⟨.hbm, 296, rfl⟩
abbrev main_v199 : Ref sig .tc := ⟨.hbm, 297, rfl⟩
abbrev main_v200 : Ref sig .tc := ⟨.hbm, 298, rfl⟩
abbrev main_c_43 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_c_44 : Ref sig .tc := ⟨.hbm, 303, rfl⟩
abbrev main_v204 : Ref sig .tc := ⟨.hbm, 304, rfl⟩
abbrev main_v205 : Ref sig .tc := ⟨.hbm, 305, rfl⟩
abbrev main_c_45 : Ref sig .tc := ⟨.hbm, 306, rfl⟩
abbrev main_v206 : Ref sig .tc := ⟨.hbm, 307, rfl⟩
abbrev main_v207 : Ref sig .tc := ⟨.hbm, 308, rfl⟩
abbrev main_v208 : Ref sig .tc := ⟨.hbm, 309, rfl⟩
abbrev main_v209 : Ref sig .tc := ⟨.hbm, 310, rfl⟩
abbrev main_v210 : Ref sig .tc := ⟨.hbm, 311, rfl⟩
abbrev main_v211 : Ref sig .tc := ⟨.hbm, 312, rfl⟩
abbrev main_v212 : Ref sig .tc := ⟨.hbm, 313, rfl⟩
abbrev main_cst_46 : Ref sig .tc := ⟨.hbm, 314, rfl⟩
abbrev main_call9_v0 : Ref sig .tc := ⟨.hbm, 315, rfl⟩
abbrev main_call9_v1 : Ref sig .tc := ⟨.hbm, 316, rfl⟩
abbrev main_call9_v2 : Ref sig .tc := ⟨.hbm, 317, rfl⟩
abbrev main_v213 : Ref sig .tc := ⟨.hbm, 318, rfl⟩
abbrev main_cst_47 : Ref sig .tc := ⟨.hbm, 319, rfl⟩
abbrev main_v214 : Ref sig .tc := ⟨.hbm, 320, rfl⟩
abbrev main_v215 : Ref sig .tc := ⟨.hbm, 321, rfl⟩
abbrev main_cst_48 : Ref sig .tc := ⟨.hbm, 322, rfl⟩
abbrev main_v216 : Ref sig .tc := ⟨.hbm, 323, rfl⟩
abbrev main_v217 : Ref sig .tc := ⟨.hbm, 324, rfl⟩
abbrev main_v218 : Ref sig .tc := ⟨.hbm, 325, rfl⟩
abbrev main_cst_49 : Ref sig .tc := ⟨.hbm, 326, rfl⟩
abbrev main_v219 : Ref sig .tc := ⟨.hbm, 327, rfl⟩
abbrev main_v220 : Ref sig .tc := ⟨.hbm, 328, rfl⟩
abbrev main_v221 : Ref sig .tc := ⟨.hbm, 329, rfl⟩
abbrev main_cst_50 : Ref sig .tc := ⟨.hbm, 330, rfl⟩
abbrev main_v222 : Ref sig .tc := ⟨.hbm, 331, rfl⟩
abbrev main_v223 : Ref sig .tc := ⟨.hbm, 332, rfl⟩
abbrev main_v224 : Ref sig .tc := ⟨.hbm, 333, rfl⟩
abbrev main_c_51 : Ref sig .tc := ⟨.hbm, 334, rfl⟩
abbrev main_c_52 : Ref sig .tc := ⟨.hbm, 335, rfl⟩
abbrev main_call10_v0 : Ref sig .tc := ⟨.hbm, 336, rfl⟩
abbrev main_call10_v1 : Ref sig .tc := ⟨.hbm, 337, rfl⟩
abbrev main_call10_v2 : Ref sig .tc := ⟨.hbm, 338, rfl⟩
abbrev main_call10_v3 : Ref sig .tc := ⟨.hbm, 339, rfl⟩
abbrev main_call10_v4 : Ref sig .tc := ⟨.hbm, 340, rfl⟩
abbrev main_v225 : Ref sig .tc := ⟨.hbm, 341, rfl⟩
abbrev main_v226 : Ref sig .tc := ⟨.hbm, 342, rfl⟩
abbrev main_c_53 : Ref sig .tc := ⟨.hbm, 343, rfl⟩
abbrev main_c_54 : Ref sig .tc := ⟨.hbm, 344, rfl⟩
abbrev main_call11_v0 : Ref sig .tc := ⟨.hbm, 345, rfl⟩
abbrev main_call11_v1 : Ref sig .tc := ⟨.hbm, 346, rfl⟩
abbrev main_call11_v2 : Ref sig .tc := ⟨.hbm, 347, rfl⟩
abbrev main_call11_v3 : Ref sig .tc := ⟨.hbm, 348, rfl⟩
abbrev main_call11_v4 : Ref sig .tc := ⟨.hbm, 349, rfl⟩
abbrev main_v227 : Ref sig .tc := ⟨.hbm, 350, rfl⟩
abbrev main_v228 : Ref sig .tc := ⟨.hbm, 351, rfl⟩
abbrev main_c_55 : Ref sig .tc := ⟨.hbm, 352, rfl⟩
abbrev main_v229 : Ref sig .tc := ⟨.hbm, 353, rfl⟩
abbrev main_v230 : Ref sig .tc := ⟨.hbm, 354, rfl⟩
abbrev main_c_56 : Ref sig .tc := ⟨.hbm, 355, rfl⟩
abbrev main_v231 : Ref sig .tc := ⟨.hbm, 356, rfl⟩
abbrev main_v232 : Ref sig .tc := ⟨.hbm, 357, rfl⟩
abbrev main_v233 : Ref sig .tc := ⟨.hbm, 358, rfl⟩
abbrev main_c_57 : Ref sig .tc := ⟨.hbm, 359, rfl⟩
abbrev main_v234 : Ref sig .tc := ⟨.hbm, 360, rfl⟩
abbrev main_v235 : Ref sig .tc := ⟨.hbm, 361, rfl⟩
abbrev main_c_58 : Ref sig .tc := ⟨.hbm, 362, rfl⟩
abbrev main_v236 : Ref sig .tc := ⟨.hbm, 363, rfl⟩
abbrev main_v237 : Ref sig .tc := ⟨.hbm, 364, rfl⟩
abbrev main_v238 : Ref sig .tc := ⟨.hbm, 365, rfl⟩
abbrev main_v239 : Ref sig .tc := ⟨.hbm, 366, rfl⟩
abbrev main_v240 : Ref sig .tc := ⟨.hbm, 367, rfl⟩
abbrev main_v241 : Ref sig .tc := ⟨.hbm, 368, rfl⟩
abbrev main_v242 : Ref sig .tc := ⟨.hbm, 369, rfl⟩
abbrev main_cst_59 : Ref sig .tc := ⟨.hbm, 370, rfl⟩
abbrev main_call12_v0 : Ref sig .tc := ⟨.hbm, 371, rfl⟩
abbrev main_call12_v1 : Ref sig .tc := ⟨.hbm, 372, rfl⟩
abbrev main_call12_v2 : Ref sig .tc := ⟨.hbm, 373, rfl⟩
abbrev main_v243 : Ref sig .tc := ⟨.hbm, 374, rfl⟩
abbrev main_cst_60 : Ref sig .tc := ⟨.hbm, 375, rfl⟩
abbrev main_v244 : Ref sig .tc := ⟨.hbm, 376, rfl⟩
abbrev main_v245 : Ref sig .tc := ⟨.hbm, 377, rfl⟩
abbrev main_cst_61 : Ref sig .tc := ⟨.hbm, 378, rfl⟩
abbrev main_v246 : Ref sig .tc := ⟨.hbm, 379, rfl⟩
abbrev main_v247 : Ref sig .tc := ⟨.hbm, 380, rfl⟩
abbrev main_v248 : Ref sig .tc := ⟨.hbm, 381, rfl⟩
abbrev main_cst_62 : Ref sig .tc := ⟨.hbm, 382, rfl⟩
abbrev main_v249 : Ref sig .tc := ⟨.hbm, 383, rfl⟩
abbrev main_v250 : Ref sig .tc := ⟨.hbm, 384, rfl⟩
abbrev main_v251 : Ref sig .tc := ⟨.hbm, 385, rfl⟩
abbrev main_cst_63 : Ref sig .tc := ⟨.hbm, 386, rfl⟩
abbrev main_v252 : Ref sig .tc := ⟨.hbm, 387, rfl⟩
abbrev main_v253 : Ref sig .tc := ⟨.hbm, 388, rfl⟩
abbrev main_v254 : Ref sig .tc := ⟨.hbm, 389, rfl⟩
abbrev main_c_64 : Ref sig .tc := ⟨.hbm, 390, rfl⟩
abbrev main_c_65 : Ref sig .tc := ⟨.hbm, 391, rfl⟩
abbrev main_call13_v0 : Ref sig .tc := ⟨.hbm, 392, rfl⟩
abbrev main_call13_v1 : Ref sig .tc := ⟨.hbm, 393, rfl⟩
abbrev main_call13_v2 : Ref sig .tc := ⟨.hbm, 394, rfl⟩
abbrev main_call13_v3 : Ref sig .tc := ⟨.hbm, 395, rfl⟩
abbrev main_call13_v4 : Ref sig .tc := ⟨.hbm, 396, rfl⟩
abbrev main_v255 : Ref sig .tc := ⟨.hbm, 397, rfl⟩
abbrev main_v256 : Ref sig .tc := ⟨.hbm, 398, rfl⟩
abbrev main_c_66 : Ref sig .tc := ⟨.hbm, 399, rfl⟩
abbrev main_c_67 : Ref sig .tc := ⟨.hbm, 400, rfl⟩
abbrev main_call14_v0 : Ref sig .tc := ⟨.hbm, 401, rfl⟩
abbrev main_call14_v1 : Ref sig .tc := ⟨.hbm, 402, rfl⟩
abbrev main_call14_v2 : Ref sig .tc := ⟨.hbm, 403, rfl⟩
abbrev main_call14_v3 : Ref sig .tc := ⟨.hbm, 404, rfl⟩
abbrev main_call14_v4 : Ref sig .tc := ⟨.hbm, 405, rfl⟩
abbrev main_v257 : Ref sig .tc := ⟨.hbm, 406, rfl⟩
abbrev main_v258 : Ref sig .tc := ⟨.hbm, 407, rfl⟩
abbrev main_c_68 : Ref sig .tc := ⟨.hbm, 408, rfl⟩
abbrev main_v259 : Ref sig .tc := ⟨.hbm, 409, rfl⟩
abbrev main_v260 : Ref sig .tc := ⟨.hbm, 410, rfl⟩
abbrev main_c_69 : Ref sig .tc := ⟨.hbm, 411, rfl⟩
abbrev main_v261 : Ref sig .tc := ⟨.hbm, 412, rfl⟩
abbrev main_v262 : Ref sig .tc := ⟨.hbm, 413, rfl⟩
abbrev main_v263 : Ref sig .tc := ⟨.hbm, 414, rfl⟩
abbrev main_c_70 : Ref sig .tc := ⟨.hbm, 415, rfl⟩
abbrev main_v264 : Ref sig .tc := ⟨.hbm, 416, rfl⟩
abbrev main_v265 : Ref sig .tc := ⟨.hbm, 417, rfl⟩
abbrev main_c_71 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_v269 : Ref sig .tc := ⟨.hbm, 422, rfl⟩
abbrev main_v270 : Ref sig .tc := ⟨.hbm, 423, rfl⟩
abbrev main_v271 : Ref sig .tc := ⟨.hbm, 424, rfl⟩
abbrev main_v272 : Ref sig .tc := ⟨.hbm, 425, rfl⟩
abbrev main_cst_72 : Ref sig .tc := ⟨.hbm, 426, rfl⟩
abbrev main_call15_v0 : Ref sig .tc := ⟨.hbm, 427, rfl⟩
abbrev main_call15_v1 : Ref sig .tc := ⟨.hbm, 428, rfl⟩
abbrev main_call15_v2 : Ref sig .tc := ⟨.hbm, 429, rfl⟩
abbrev main_v273 : Ref sig .tc := ⟨.hbm, 430, rfl⟩
abbrev main_cst_73 : Ref sig .tc := ⟨.hbm, 431, rfl⟩
abbrev main_v274 : Ref sig .tc := ⟨.hbm, 432, rfl⟩
abbrev main_v275 : Ref sig .tc := ⟨.hbm, 433, rfl⟩
abbrev main_cst_74 : Ref sig .tc := ⟨.hbm, 434, rfl⟩
abbrev main_v276 : Ref sig .tc := ⟨.hbm, 435, rfl⟩
abbrev main_v277 : Ref sig .tc := ⟨.hbm, 436, rfl⟩
abbrev main_v278 : Ref sig .tc := ⟨.hbm, 437, rfl⟩
abbrev main_cst_75 : Ref sig .tc := ⟨.hbm, 438, rfl⟩
abbrev main_v279 : Ref sig .tc := ⟨.hbm, 439, rfl⟩
abbrev main_v280 : Ref sig .tc := ⟨.hbm, 440, rfl⟩
abbrev main_v281 : Ref sig .tc := ⟨.hbm, 441, rfl⟩
abbrev main_cst_76 : Ref sig .tc := ⟨.hbm, 442, rfl⟩
abbrev main_v282 : Ref sig .tc := ⟨.hbm, 443, rfl⟩
abbrev main_v283 : Ref sig .tc := ⟨.hbm, 444, rfl⟩
abbrev main_v284 : Ref sig .tc := ⟨.hbm, 445, rfl⟩
abbrev main_c_77 : Ref sig .tc := ⟨.hbm, 446, rfl⟩
abbrev main_c_78 : Ref sig .tc := ⟨.hbm, 447, rfl⟩
abbrev main_call16_v0 : Ref sig .tc := ⟨.hbm, 448, rfl⟩
abbrev main_call16_v1 : Ref sig .tc := ⟨.hbm, 449, rfl⟩
abbrev main_call16_v2 : Ref sig .tc := ⟨.hbm, 450, rfl⟩
abbrev main_call16_v3 : Ref sig .tc := ⟨.hbm, 451, rfl⟩
abbrev main_call16_v4 : Ref sig .tc := ⟨.hbm, 452, rfl⟩
abbrev main_v285 : Ref sig .tc := ⟨.hbm, 453, rfl⟩
abbrev main_v286 : Ref sig .tc := ⟨.hbm, 454, rfl⟩
abbrev main_c_79 : Ref sig .tc := ⟨.hbm, 455, rfl⟩
abbrev main_c_80 : Ref sig .tc := ⟨.hbm, 456, rfl⟩
abbrev main_call17_v0 : Ref sig .tc := ⟨.hbm, 457, rfl⟩
abbrev main_call17_v1 : Ref sig .tc := ⟨.hbm, 458, rfl⟩
abbrev main_call17_v2 : Ref sig .tc := ⟨.hbm, 459, rfl⟩
abbrev main_call17_v3 : Ref sig .tc := ⟨.hbm, 460, rfl⟩
abbrev main_call17_v4 : Ref sig .tc := ⟨.hbm, 461, rfl⟩
abbrev main_v287 : Ref sig .tc := ⟨.hbm, 462, rfl⟩
abbrev main_v288 : Ref sig .tc := ⟨.hbm, 463, rfl⟩
abbrev main_c_81 : Ref sig .tc := ⟨.hbm, 464, rfl⟩
abbrev main_v289 : Ref sig .tc := ⟨.hbm, 465, rfl⟩
abbrev main_v290 : Ref sig .tc := ⟨.hbm, 466, rfl⟩
abbrev main_c_82 : Ref sig .tc := ⟨.hbm, 467, rfl⟩
abbrev main_v291 : Ref sig .tc := ⟨.hbm, 468, rfl⟩
abbrev main_v292 : Ref sig .tc := ⟨.hbm, 469, rfl⟩
abbrev main_v293 : Ref sig .tc := ⟨.hbm, 470, rfl⟩
abbrev main_c_83 : Ref sig .tc := ⟨.hbm, 471, rfl⟩
abbrev main_v294 : Ref sig .tc := ⟨.hbm, 472, rfl⟩
abbrev main_v295 : Ref sig .tc := ⟨.hbm, 473, rfl⟩
abbrev main_c_84 : Ref sig .tc := ⟨.hbm, 474, rfl⟩
abbrev main_v296 : Ref sig .tc := ⟨.hbm, 475, rfl⟩
abbrev main_v297 : Ref sig .tc := ⟨.hbm, 476, rfl⟩
abbrev main_v298 : Ref sig .tc := ⟨.hbm, 477, rfl⟩
abbrev main_v299 : Ref sig .tc := ⟨.hbm, 478, rfl⟩
abbrev main_v300 : Ref sig .tc := ⟨.hbm, 479, rfl⟩
abbrev main_v301 : Ref sig .tc := ⟨.hbm, 480, rfl⟩
abbrev main_v302 : Ref sig .tc := ⟨.hbm, 481, rfl⟩
abbrev main_cst_85 : Ref sig .tc := ⟨.hbm, 482, rfl⟩
abbrev main_call18_v0 : Ref sig .tc := ⟨.hbm, 483, rfl⟩
abbrev main_call18_v1 : Ref sig .tc := ⟨.hbm, 484, rfl⟩
abbrev main_call18_v2 : Ref sig .tc := ⟨.hbm, 485, rfl⟩
abbrev main_v303 : Ref sig .tc := ⟨.hbm, 486, rfl⟩
abbrev main_v304 : Ref sig .tc := ⟨.hbm, 487, rfl⟩
abbrev main_v305 : Ref sig .tc := ⟨.hbm, 488, rfl⟩
abbrev main_v306 : Ref sig .tc := ⟨.hbm, 489, rfl⟩
abbrev main_v307 : Ref sig .tc := ⟨.hbm, 490, rfl⟩
abbrev main_v308 : Ref sig .tc := ⟨.hbm, 491, rfl⟩
abbrev main_v309 : Ref sig .tc := ⟨.hbm, 492, rfl⟩
abbrev main_v310 : Ref sig .tc := ⟨.hbm, 493, rfl⟩
abbrev main_v311 : Ref sig .tc := ⟨.hbm, 494, rfl⟩
abbrev main_v312 : Ref sig .tc := ⟨.hbm, 495, rfl⟩
abbrev main_v313 : Ref sig .tc := ⟨.hbm, 496, rfl⟩
abbrev main_v314 : Ref sig .tc := ⟨.hbm, 497, rfl⟩
abbrev main_v315 : Ref sig .tc := ⟨.hbm, 498, rfl⟩
abbrev main_v316 : Ref sig .tc := ⟨.hbm, 499, rfl⟩
abbrev main_v317 : Ref sig .tc := ⟨.hbm, 500, rfl⟩
abbrev main_v318 : Ref sig .tc := ⟨.hbm, 501, rfl⟩
abbrev main_v319 : Ref sig .tc := ⟨.hbm, 502, rfl⟩
abbrev main_v320 : Ref sig .tc := ⟨.hbm, 503, rfl⟩
abbrev main_v321 : Ref sig .tc := ⟨.hbm, 504, rfl⟩
abbrev main_v322 : Ref sig .tc := ⟨.hbm, 505, rfl⟩

abbrev nD : Nat := 1
abbrev τ : Topo := Topo.v7x

variable {F : FTy → Type} [FloatOps F]
-- ==== Proof.GatherBatch.lean ====
/-
  Several indirect gathers in flight on ONE semaphore cell. Every row of every gather is one transfer of the
  counted batch `Transfers.Batch` (Lib/Batch.lean), all rows crediting the same amount: a gather of `o` rows issues
  the batch's next `o` transfers, a wait of a whole gather consumes `o` transfers' units, and once every unit is
  consumed all the rows have landed.
-/
module

public import Idealize.ShloMosaic.Lib.SparseCore.Stream
public import Idealize.ShloMosaic.Lib.Batch

@[expose] public section

noncomputable section

namespace Proof01

open Idealize.ShloMosaic Idealize.ShloMosaic.SparseCore Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants)
variable (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- A family over the transfers not yet issued is its next `o` members and the rest. -/
theorem bigSep_pending_add {n : ℕ} (Φ : Fin n → sProp 𝕄) (K : ℕ) :
    ∀ (o : ℕ) (h : K + o ≤ n), bigSep (pending K) Φ
      ⊢ iprop(bigSep Finset.univ (fun j : Fin o => Φ ⟨K + j, by omega⟩) ∗ bigSep (pending (K + o)) Φ) := by
  intro o
  induction o with
  | zero =>
    intro h
    rw [Finset.univ_eq_empty, BI.bigSep_empty]
    iintro H
    isplitr
    · iempintro
    · iexact H
  | succ o ih =>
    intro h
    iintro H
    ihave H := (ih (by omega)) $$ H
    icases H with ⟨H1, H2⟩
    ihave H2 := (Entails.of_eq (bigSep_pending_step Φ (K + o) (by omega))) $$ H2
    icases H2 with ⟨H2, H3⟩
    isplitr [H3]
    · have he : bigSep Finset.univ (fun j : Fin (o + 1) => Φ ⟨K + j, by omega⟩)
          = iprop(Φ ⟨K + o, by omega⟩ ∗ bigSep Finset.univ (fun j : Fin o => Φ ⟨K + j, by omega⟩)) := by
        rw [Fin.univ_castSuccEmb, Finset.cons_eq_insert, BI.bigSep_insert (by simp), BI.bigSep_map]; rfl
      rw [he]
      isplitl [H2]
      · iexact H2
      · iexact H1
    · iexact H3

/-- What row `j` of an indirect gather hands back when it has landed: the destination's row written with the source's
    row the list names, the list's entry, and the row's piece of the source's share. -/
def rowDone (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c))
    (fo : Buf (Elt F) (offs.view.loc c)) (hin : ∀ x, (offs.view.read (Elt F) fo x).toNat < s₀.size hg.axis)
    (j : Fin (s.size hg.axis')) : sProp 𝕄 :=
  iprop(((dst.view.loc c ↦[(dst.view.slice (s.rowRect hg.axis' j)).set]{fullShare}
        ((dst.view.slice (s.rowRect hg.axis' j)).write (Elt F) fd
          (fun (i : (s.rowShape hg.axis').Idx) => src.view.read (Elt F) fs (hg.rowIdx (rows (offs.view.read (Elt F) fo) hn hin j) i)) Finset.univ))
      ∗ (offs.view.loc c ↦[{offs.view.emb (si.rowMajor.symm (j.cast hn.symm))}]{qo} fo))
    ∗ (src.view.loc c ↦[src.view.set]{pieceOf q _ ho j} fs))

instance rowDone_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c))
    (fo : Buf (Elt F) (offs.view.loc c)) (hin : ∀ x, (offs.view.read (Elt F) fo x).toNat < s₀.size hg.axis)
    (j : Fin (s.size hg.axis')) :
    Storable (upEmb : UEmb _ 𝕄) (rowDone c src dst hg offs hn ho q qo fs fd fo hin j) := by
  unfold rowDone; infer_instance

/-- Every row of a gather landed: the destination written with the gather's payload, the source's and the list's
    shares whole again. -/
theorem rowDone_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c))
    (fo : Buf (Elt F) (offs.view.loc c)) (hin : ∀ x, (offs.view.read (Elt F) fo x).toNat < s₀.size hg.axis) :
    bigSep Finset.univ (rowDone (Ix := Ix) (Name := Name) (U := U) (Lvl := Lvl) c src dst hg offs hn ho q qo fs fd fo hin)
      ⊢ iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hen : Function.Bijective fun j : Fin (s.size hg.axis') => si.rowMajor.symm (j.cast hn.symm) :=
    si.rowMajor.symm.bijective.comp (finCongr hn.symm).bijective
  unfold rowDone
  iintro HD
  ihave H1 := bigSep_sep_out _ _ _ $$ HD
  icases H1 with ⟨H2, Hsrc⟩
  ihave H3 := bigSep_sep_out _ _ _ $$ H2
  icases H3 with ⟨Hrows, Hoffs⟩
  isplitl [Hrows]
  · iapply (pointsTo_rows_write c dst.view hg.axis' fd
      (fun j i => src.view.read (Elt F) fs (hg.rowIdx (rows (offs.view.read (Elt F) fo) hn hin j) i))
      (gatherPayload hg (src.view.read (Elt F) fs) (rows (offs.view.read (Elt F) fo) hn hin)) fun j i => by
        unfold gatherPayload; rw [Shape.Gathers.idx_rowRect_emb]) $$ Hrows
  isplitl [Hsrc]
  · iapply (Entails.of_eq (pointsTo_piecesOf (src.view.set) fs ho q).symm) $$ Hsrc
  · iapply (Entails.of_eq (pointsTo_entries c offs.view _ hen qo fo).symm) $$ Hoffs

/-- An indirect gather issued as the next `o` transfers of a batch: the source's share, the destination outright and
    the list's share go in, the batch's deliveries at those transfers being what the gather's rows hand back. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α} {ho : 0 < s.size hg.axis'}
    {q qo : PosShare TreeShare} {fs : Buf (Elt F) (src.view.loc c)} {fd : Buf (Elt F) (dst.view.loc c)} {fo : Buf (Elt F) (offs.view.loc c)}
    (ι : Ix) {N n K u : ℕ} {D : Fin n → sProp 𝕄}
    (hN : ∀ j, (dst.slice (s.rowRect hg.axis' j) (s.stride_rowRect hg.axis' j)).view.dmaCredit = N)
    (hK : K + s.size hg.axis' ≤ n) (hu : u ≤ K * N)
    (hin : ∀ x, (offs.view.read (Elt F) fo x).toNat < s₀.size hg.axis)
    (hD : ∀ j : Fin (s.size hg.axis'), rowDone c src dst hg offs hn ho q qo fs fd fo hin j ⊢ D ⟨K + j, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D K u)
      ⊢ iprop((Batch EC c (.dma sem) ι N D (K + s.size hg.axis') u
              -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem := fun j =>
    gatherRow c src dst hg sem hsrc he hsp hr j (rows (offs.view.read (Elt F) fo) hn hin j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ j, (rd j).dst.view.dmaCredit = s.size hg.axis' * N :=
    sum_rowCredit_eq (K := N) _ hN rfl
  unfold Batch
  iintro ⟨Hs, Hd, Ho, %γ, %γ₀, %κ, #Hinv, HI, H0, Hcred⟩ Hk
  ihave HI := (bigSep_pending_add _ K (s.size hg.axis') hK) $$ HI
  icases HI with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ j : Fin (s.size hg.axis'), iprop(inv κ (batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{pieceOf q _ ho j} fs)) ∗ count EC (γ ⟨K + j, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare} ((dst.view.slice (s.rowRect hg.axis' j)).write (Elt F) fd
          (fun (i : (s.rowShape hg.axis').Idx) => src.view.read (Elt F) fs (hg.rowIdx (rows (offs.view.read (Elt F) fo) hn hin j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hcu : iprop(inv κ (batchBody EC (c, SemLoc.dma sem) N D γ γ₀) ∗ count EC (γ ⟨K + j, by omega⟩) 0)
            ⊢ creditUpdate (c, SemLoc.dma sem) ((rd j).dst.view.amount (SemLoc.dma sem)) 0
              (rowDone c src dst hg offs hn ho q qo fs fd fo hin j) := by
          have he : (rd j).dst.view.amount (SemLoc.dma sem) = N := hN j
          rw [he]
          exact batch_creditUpdate EC ⟨K + j, by omega⟩ (hD j)
        iapply hcu
        isplitr; · iexact Hinv
        iexact Hγj
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun j _ => hrow j)
    isplitr; · iexact Hinv
    iexact H3
  · iintro Hc
    iapply Hk
    iexists γ, γ₀, κ
    isplitr; · iexact Hinv
    isplitl [HI]; · iexact HI
    isplitl [H0]; · iexact H0
    have hsplit : (K + s.size hg.axis') * N - u = (K * N - u) + s.size hg.axis' * N := by rw [Nat.add_mul]; omega
    rw [hsplit, ← tallyAt_add]
    icombine Hcred Hc as H
    iexact H

end Proof01
-- ==== Proof.Recipe.lean ====
/-
  What the SparseCore body computes for one group of sixteen keypoints, as a recipe over the group's 36 patch
  vectors `V 0 … V 35` (patch row `k / 6`, patch column `k % 6`) and its integer coordinates `X`, `Y`: the running
  maximum, the softmax weights, their sums, the dispersion and the bilinear sample, each sum a recursion on the number
  of its terms. Each straight-line window of the printed body is shown to compute the recipe's next values.
-/
module

public import proofs.«01_k».proof.Proof.Gen.KernelIdeal
public import proofs.«01_k».proof.Proof.Gen.KernelIdeal.Skeleton

@[expose] public section

noncomputable section

namespace Cert.KernelIdeal.Tile

open Cert.KernelIdeal Cert.KernelIdeal.Gen
open Idealize.ShloMosaic Idealize.SL.Sem

variable {F : FTy → Type} [FloatOps F]

/-- A constant in every lane. -/
def cst (b : BitVec 32) : FVec F S16 .f32 := broadcast S16 (Scalar.ofBits .f32 b)

/-- The bits of the offsets −2, −1, 0, 1, 2, 3. -/
def offc : ℕ → BitVec 32
  | 0 => 0xC0000000#32
  | 1 => 0xBF800000#32
  | 2 => 0x00000000#32
  | 3 => 0x3F800000#32
  | 4 => 0x40000000#32
  | _ => 0x40400000#32

/-- A vector of integers as floats. -/
def toF (X : IVec S16 32) : FVec F S16 .f32 := sitofp .f32 X

variable (V : ℕ → Vec F S16 .f32) (X Y : IVec S16 32)

/-- The `k`-th entry of the inner 5×5 patch, row by row. -/
def inn (k : ℕ) : FVec F S16 .f32 := V (k / 5 * 6 + k % 5)

/-- The maximum of the first `k + 1` entries of the inner patch. -/
def mx : ℕ → FVec F S16 .f32
  | 0 => inn V 0
  | k + 1 => maximumf (mx k) (inn V (k + 1))

/-- The softmax weight of entry `k`, not normalised. -/
def ex (k : ℕ) : FVec F S16 .f32 := exp (divf (subf (inn V k) (mx V 24)) (cst 0x3DCCCCCD#32))

/-- The sum of the first `k` weights. -/
def den : ℕ → FVec F S16 .f32
  | 0 => cst 0x00000000#32
  | k + 1 => addf (den k) (ex V k)

/-- The weighted sum of the first `k` column offsets. -/
def sx : ℕ → FVec F S16 .f32
  | 0 => cst 0x00000000#32
  | k + 1 => addf (sx k) (mulf (ex V k) (cst (offc (k % 5))))

/-- The weighted sum of the first `k` row offsets. -/
def sy : ℕ → FVec F S16 .f32
  | 0 => cst 0x00000000#32
  | k + 1 => addf (sy k) (mulf (ex V k) (cst (offc (k / 5))))

/-- The soft-argmax's column residual. -/
def rx : FVec F S16 .f32 := divf (sx V 25) (den V 25)
/-- The soft-argmax's row residual. -/
def ry : FVec F S16 .f32 := divf (sy V 25) (den V 25)

/-- The halved distance of column `j` from the residual. -/
def dfx (j : ℕ) : FVec F S16 .f32 := divf (subf (cst (offc j)) (rx V)) (cst 0x40000000#32)
/-- The halved distance of row `j` from the residual. -/
def dfy (j : ℕ) : FVec F S16 .f32 := divf (subf (cst (offc j)) (ry V)) (cst 0x40000000#32)

/-- The weighted sum of the first `k` squared distances. -/
def ds : ℕ → FVec F S16 .f32
  | 0 => cst 0x00000000#32
  | k + 1 => addf (ds k) (mulf (ex V k) (addf (mulf (dfx V (k % 5)) (dfx V (k % 5))) (mulf (dfy V (k / 5)) (dfy V (k / 5)))))

/-- The dispersion. -/
def disp : FVec F S16 .f32 := divf (ds V 25) (den V 25)

/-- A refined coordinate scaled to [−1, 1]. -/
def nrm (t : FVec F S16 .f32) : FVec F S16 .f32 :=
  subf (mulf (divf t (cst 0x43FF8000#32)) (cst 0x40000000#32)) (cst 0x3F800000#32)
/-- A scaled coordinate back in pixels. -/
def pix (t : FVec F S16 .f32) : FVec F S16 .f32 :=
  mulf (divf (addf t (cst 0x3F800000#32)) (cst 0x40000000#32)) (cst 0x43FF8000#32)

/-- The keypoint's column. -/
def kpx : FVec F S16 .f32 := nrm (addf (toF X) (rx V))
/-- The keypoint's row. -/
def kpy : FVec F S16 .f32 := nrm (addf (toF Y) (ry V))
/-- The sampled column, in pixels. -/
def ixx : FVec F S16 .f32 := pix (kpx V X)
/-- The sampled row, in pixels. -/
def iyy : FVec F S16 .f32 := pix (kpy V Y)

/-- The hat weight of patch column `j`. -/
def wx (j : ℕ) : FVec F S16 .f32 :=
  maximumf (cst 0x00000000#32) (subf (cst 0x3F800000#32) (absf (subf (ixx V X) (addf (toF X) (cst (offc j))))))
/-- The hat weight of patch row `j`. -/
def wy (j : ℕ) : FVec F S16 .f32 :=
  maximumf (cst 0x00000000#32) (subf (cst 0x3F800000#32) (absf (subf (iyy V Y) (addf (toF Y) (cst (offc j))))))

/-- The sum of the first `k` hat-weighted patch entries; `sc V X Y 36` is the score. -/
def sc : ℕ → FVec F S16 .f32
  | 0 => cst 0x00000000#32
  | k + 1 => addf (sc k) (mulf (mulf (V k) (wx V X (k % 6))) (wy V Y (k / 6)))

variable (i : grid1.Coords) (arg2 : Memref sig .scVector .hbm S83200x16 .f32) (harg2 : arg2.IsWhole) (arg3 : Memref sig .scVector .hbm S20480 .i32) (harg3 : arg3.IsWhole) (arg4 : Memref sig .scVector .hbm S20480 .f32) (harg4 : arg4.IsWhole) (arg5 : Memref sig .scVector .hbm S20480 .f32) (harg5 : arg5.IsWhole) (arg6 : Memref sig .scVector .hbm S20480 .f32) (harg6 : arg6.IsWhole) (arg7 : Memref sig .scVector .hbm S20480 .f32) (harg7 : arg7.IsWhole) (arg8 : Memref sig .scVector .vmem S128 .i32) (harg8 : arg8.IsWhole) (arg9 : Memref sig .scVector .vmem S1536 .i32) (harg9 : arg9.IsWhole) (arg10 : Memref sig .scVector .vmem S1536x16 .f32) (harg10 : arg10.IsWhole) (arg11 : Memref sig .scVector .vmem S128 .f32) (harg11 : arg11.IsWhole) (arg12 : Memref sig .scVector .vmem S128 .f32) (harg12 : arg12.IsWhole) (arg13 : Memref sig .scVector .vmem S128 .f32) (harg13 : arg13.IsWhole) (arg14 : Memref sig .scVector .vmem S128 .f32) (harg14 : arg14.IsWhole) (arg15 : DmaSems sig S_) (v83_r0 : DmaSems sig S_) (v83_r1 : DmaSems sig S_) (v83_r2 : DmaSems sig S_) (v83_r3 : DmaSems sig S_) (v83_r4 : DmaSems sig S_)

/-- The kernel's window 12 computes the next values of the recipe. -/
theorem part12  :
    k1_part12 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (V 2) (V 3) (V 4) (V 6) (mx V 24) (sx V 1) (ex V 1) (den V 2) (sx V 2)
      = pure ⟨(ex V 2), (ex V 3), (ex V 4), (ex V 5), (den V 6), (sx V 6), (sy V 6)⟩ := rfl

/-- The kernel's window 13 computes the next values of the recipe. -/
theorem part13  :
    k1_part13 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (V 7) (V 8) (V 9) (V 10) (V 12) (mx V 24) (den V 6) (sx V 6) (sy V 6)
      = pure ⟨(ex V 6), (ex V 7), (ex V 8), (ex V 9), (den V 10), (sx V 10), (sy V 10), (divf (subf (V 12) (mx V 24)) (cst (F := F) 0x3DCCCCCD#32))⟩ := rfl

/-- The kernel's window 14 computes the next values of the recipe. -/
theorem part14  :
    k1_part14 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (V 13) (V 14) (V 15) (V 16) (mx V 24) (den V 10) (sx V 10) (sy V 10) (divf (subf (V 12) (mx V 24)) (cst (F := F) 0x3DCCCCCD#32))
      = pure ⟨(ex V 10), (ex V 11), (ex V 12), (ex V 13), (sx V 14), (sy V 14), (ex V 14), (den V 15), (cst (F := F) 0x40000000#32)⟩ := rfl

/-- The kernel's window 15 computes the next values of the recipe. -/
theorem part15  :
    k1_part15 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (V 18) (V 19) (V 20) (V 21) (mx V 24) (sx V 14) (sy V 14) (ex V 14) (den V 15) (cst (F := F) 0x40000000#32)
      = pure ⟨(ex V 15), (ex V 16), (ex V 17), (sy V 18), (ex V 18), (den V 19), (sx V 19), (cst (F := F) 0x3F800000#32)⟩ := rfl

/-- The kernel's window 16 computes the next values of the recipe. -/
theorem part16  :
    k1_part16 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (V 22) (V 24) (V 25) (V 26) (V 27) (mx V 24) (sy V 18) (ex V 18) (den V 19) (sx V 19) (cst (F := F) 0x3F800000#32)
      = pure ⟨(ex V 19), (ex V 20), (ex V 21), (ex V 22), (den V 23), (sx V 23), (sy V 23), (subf (V 27) (mx V 24)), (Scalar.ofBits .f32 0x3DCCCCCD#32)⟩ := rfl

/-- The kernel's window 17 computes the next values of the recipe. -/
theorem part17  :
    k1_part17 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (V 28) (mx V 24) (ex V 0) (den V 23) (sx V 23) (sy V 23) (subf (V 27) (mx V 24)) (Scalar.ofBits .f32 0x3DCCCCCD#32)
      = pure ⟨(ex V 23), (ex V 24), (den V 25), (rx V), (ry V), (ds V 1), (dfy V 0), (mulf (dfx V 1) (dfx V 1))⟩ := rfl

/-- The kernel's window 18 computes the next values of the recipe. -/
theorem part18  :
    k1_part18 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (ex V 1) (ex V 2) (ex V 3) (ex V 4) (rx V) (ry V) (ds V 1) (dfy V 0) (mulf (dfx V 1) (dfx V 1))
      = pure ⟨(ds V 5), (subf (cst (F := F) 0xC0000000#32) (rx V)), (cst (F := F) 0x40000000#32)⟩ := rfl

/-- The kernel's window 19 computes the next values of the recipe. -/
theorem part19  :
    k1_part19 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (ex V 5) (ex V 6) (ex V 7) (rx V) (ry V) (ds V 5) (subf (cst (F := F) 0xC0000000#32) (rx V)) (cst (F := F) 0x40000000#32)
      = pure ⟨(ds V 8), (mulf (dfx V 3) (dfx V 3)), (mulf (dfy V 1) (dfy V 1))⟩ := rfl

/-- The kernel's window 20 computes the next values of the recipe. -/
theorem part20  :
    k1_part20 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (ex V 8) (ex V 9) (ex V 10) (ex V 11) (rx V) (ry V) (ds V 8) (mulf (dfx V 3) (dfx V 3)) (mulf (dfy V 1) (dfy V 1))
      = pure ⟨(ds V 12), (dfx V 2)⟩ := rfl

/-- The kernel's window 21 computes the next values of the recipe. -/
theorem part21  :
    k1_part21 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (ex V 12) (ex V 13) (ex V 14) (rx V) (ry V) (ds V 12) (dfx V 2)
      = pure ⟨(ds V 15), (addf (mulf (dfx V 0) (dfx V 0)) (mulf (dfy V 3) (dfy V 3)))⟩ := rfl

/-- The kernel's window 22 computes the next values of the recipe. -/
theorem part22  :
    k1_part22 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (ex V 15) (ex V 16) (ex V 17) (ex V 18) (rx V) (ry V) (ds V 15) (addf (mulf (dfx V 0) (dfx V 0)) (mulf (dfy V 3) (dfy V 3)))
      = pure ⟨(ds V 19), (dfx V 4), (Scalar.ofBits .f32 0x3F800000#32)⟩ := rfl

/-- The kernel's window 23 computes the next values of the recipe. -/
theorem part23  :
    k1_part23 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (ex V 19) (ex V 20) (ex V 21) (ex V 22) (rx V) (ry V) (ds V 19) (dfx V 4) (Scalar.ofBits .f32 0x3F800000#32)
      = pure ⟨(ds V 22), (mulf (ex V 22) (addf (mulf (dfx V 2) (dfx V 2)) (mulf (dfy V 4) (dfy V 4))))⟩ := rfl

/-- The kernel's window 24 computes the next values of the recipe. -/
theorem part24 (X Y : IVec S16 32) :
    k1_part24 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 Y X (ex V 23) (ex V 24) (den V 25) (rx V) (ry V) (ds V 22) (mulf (ex V 22) (addf (mulf (dfx V 2) (dfx V 2)) (mulf (dfy V 4) (dfy V 4))))
      = pure ⟨(disp V), (toF X), (toF Y), (kpx V X), (kpy V Y), (cst (F := F) 0x3F800000#32)⟩ := rfl

/-- The kernel's window 25 computes the next values of the recipe. -/
theorem part25 (X Y : IVec S16 32) :
    k1_part25 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (V 0) (V 1) (toF X) (toF Y) (kpx V X) (kpy V Y) (cst (F := F) 0x3F800000#32)
      = pure ⟨(ixx V X), (iyy V Y), (wy V Y 0), (sc V X Y 2), (addf (toF X) (cst (F := F) 0x00000000#32))⟩ := rfl

/-- The kernel's window 26 computes the next values of the recipe. -/
theorem part26 (X Y : IVec S16 32) :
    k1_part26 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (V 2) (V 3) (V 4) (V 5) (toF X) (toF Y) (ixx V X) (iyy V Y) (wy V Y 0) (sc V X Y 2) (addf (toF X) (cst (F := F) 0x00000000#32))
      = pure ⟨(sc V X Y 6), (absf (subf (iyy V Y) (addf (toF Y) (cst (F := F) 0xBF800000#32)))), (cst (F := F) 0x3F800000#32)⟩ := rfl

/-- The kernel's window 27 computes the next values of the recipe. -/
theorem part27 (X Y : IVec S16 32) :
    k1_part27 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (V 6) (V 7) (V 8) (V 9) (toF X) (ixx V X) (sc V X Y 6) (absf (subf (iyy V Y) (addf (toF Y) (cst (F := F) 0xBF800000#32)))) (cst (F := F) 0x3F800000#32)
      = pure ⟨(wy V Y 1), (sc V X Y 10)⟩ := rfl

/-- The kernel's window 28 computes the next values of the recipe. -/
theorem part28 (X Y : IVec S16 32) :
    k1_part28 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (V 10) (V 11) (V 12) (toF X) (toF Y) (ixx V X) (iyy V Y) (wy V Y 1) (sc V X Y 10)
      = pure ⟨(wy V Y 2), (sc V X Y 13), (absf (subf (ixx V X) (addf (toF X) (cst (F := F) 0xBF800000#32)))), (cst (F := F) 0x3F800000#32)⟩ := rfl

/-- The kernel's window 29 computes the next values of the recipe. -/
theorem part29 (X Y : IVec S16 32) :
    k1_part29 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (V 13) (V 14) (V 15) (V 16) (toF X) (ixx V X) (wy V Y 2) (sc V X Y 13) (absf (subf (ixx V X) (addf (toF X) (cst (F := F) 0xBF800000#32)))) (cst (F := F) 0x3F800000#32)
      = pure ⟨(sc V X Y 17), (wx V X 5)⟩ := rfl

/-- The kernel's window 30 computes the next values of the recipe. -/
theorem part30 (X Y : IVec S16 32) :
    k1_part30 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (V 17) (V 18) (V 19) (V 20) (toF X) (toF Y) (ixx V X) (iyy V Y) (wy V Y 2) (sc V X Y 17) (wx V X 5)
      = pure ⟨(wy V Y 3), (sc V X Y 21), (subf (ixx V X) (addf (toF X) (cst (F := F) 0x3F800000#32)))⟩ := rfl

/-- The kernel's window 31 computes the next values of the recipe. -/
theorem part31 (X Y : IVec S16 32) :
    k1_part31 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (V 21) (V 22) (V 23) (toF X) (toF Y) (ixx V X) (iyy V Y) (wy V Y 3) (sc V X Y 21) (subf (ixx V X) (addf (toF X) (cst (F := F) 0x3F800000#32)))
      = pure ⟨(sc V X Y 24), (wy V Y 4), (wx V X 0)⟩ := rfl

/-- The kernel's window 32 computes the next values of the recipe. -/
theorem part32 (X Y : IVec S16 32) :
    k1_part32 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (V 24) (V 25) (V 26) (V 27) (V 28) (toF X) (ixx V X) (sc V X Y 24) (wy V Y 4) (wx V X 0)
      = pure ⟨(sc V X Y 29), (Scalar.ofBits .f32 0x40400000#32)⟩ := rfl

/-- The kernel's window 33 computes the next values of the recipe. -/
theorem part33 (X Y : IVec S16 32) :
    k1_part33 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (V 29) (V 30) (V 31) (toF X) (toF Y) (ixx V X) (iyy V Y) (wy V Y 4) (sc V X Y 29) (Scalar.ofBits .f32 0x40400000#32)
      = pure ⟨(wy V Y 5), (sc V X Y 32), (subf (cst (F := F) 0x3F800000#32) (absf (subf (ixx V X) (addf (toF X) (cst (F := F) 0x00000000#32)))))⟩ := rfl

end Cert.KernelIdeal.Tile
-- ==== Proof.Setup.lean ====
/-
  The program as the SparseCore launch theorem sees it, the resource algebra of the proof and the buffers' locations.
-/
module

public import proofs.«01_k».proof.Proof.GatherBatch
public import proofs.«01_k».proof.Proof.Recipe
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := Cert.KernelIdeal.sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores and buffers are where the launch theorem wants them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

/-- The resources the proof speaks of. -/
abbrev MM (F : FTy → Type) : Type := MT nD τ sig (HIx 1) (Elt F) ℕ UU ℕ

abbrev EH : Emb UH (MM F) := embL
/-- The pipeline's rounds lie in the middle of the three. -/
def EP : Emb UP (MM F) := (Emb.inl : Emb UP (UP × Counters)).trans (embR : Emb (UP × Counters) (MM F))

instance EP_landsIn : (EP (F := F)).LandsIn (upEmb : UEmb _ (MM F)) := by unfold EP; infer_instance

/-! ## Locations -/

abbrev cV (L : grid1.Coords) : Fin τ.nSC := (L 0).castLE hcore1
abbrev jV (L : grid1.Coords) : Fin τ.nSub := (L 1).castLE hsub1

end Cert.KernelIdeal.Tile
-- ==== Proof.Region.lean ====
module

public import proofs.«01_k».proof.Proof.Setup
public import Idealize.ShloMosaic.Lib.Pipeline.FrameBody
public import Idealize.ShloMosaic.Lib.Pipeline.RegionArraysS
public import Idealize.ShloMosaic.Lib.Pipeline.Kit
public import Idealize.ShloMosaic.Lib.Ring
public import Idealize.ShloMosaic.Lib.VecWindow
public import proofs.«01_k».proof.Proof.Gen.KernelIdeal.Points

/-!
The TensorCore call: what its body leaves in the two output blocks as functions of the input block, the proof data of
its pipeline on a core that still owes the SparseCore call its start signals, and the region's record.
-/

@[expose] public section

noncomputable section

namespace Cert.KernelIdeal.Region

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window cellOf)

variable {F : FTy → Type} [FloatOps F]
open Cert.KernelIdeal.Tile

/-- The first output block of the TensorCore body: the suppressed scores of the input block. -/
def nmsBlk (x : Vec F S1x512x512 .f32) : FVec F S1x512x512 .f32 :=
  k0_pay9 (k0_pay2 x) k0_pay3
    (k0_pay6 (k0_pay2 x) k0_pay3 (k0_pay4 x) (k0_pay5 x) (Scalar.ofBits .f32 0x00000000#32))
    (k0_pay7 (k0_pay2 x) k0_pay3 (k0_pay4 x) (k0_pay5 x) (Scalar.ofBits .f32 0x00000000#32)) k0_pay8

/-- The second output block of the TensorCore body: the input block inside a frame of zeros. -/
def padBlk (x : Vec F S1x512x512 .f32) : FVec F S1x520x640 .f32 :=
  k0_pay1 (k0_pay2 x) k0_pay10 (Scalar.ofBits .f32 0x00000000#32)

set_option maxHeartbeats 1000000 in
/-- The TensorCore body on whole staging buffers: it reads the input block and writes the two output blocks. -/
theorem body_run (c : Dev nD) (i : grid0.Coords) (arg1 : Memref sig .tc .vmem S1x512x512 .f32) (harg1 : arg1.IsWhole)
    (arg2 : Memref sig .tc .vmem S1x512x512 .f32) (harg2 : arg2.IsWhole) (arg3 : Memref sig .tc .vmem S1x520x640 .f32) (harg3 : arg3.IsWhole)
    (x : Vec F S1x512x512 .f32) (Q : PUnit → sProp (MM F)) :
    iprop(owns (c : Thread nD τ) arg1 fullShare x ∗ (∃ d, owns (c : Thread nD τ) arg2 fullShare d) ∗ (∃ d, owns (c : Thread nD τ) arg3 fullShare d)
        ∗ (iprop(owns (c : Thread nD τ) arg1 fullShare x ∗ owns (c : Thread nD τ) arg2 fullShare (nmsBlk x)
            ∗ owns (c : Thread nD τ) arg3 fullShare (padBlk x)) -∗ Q ⟨⟩))
      ⊢ wp frame (wpE (defs₀ (F := F)) 𝒱₀ c none) Set.univ (cc0__nms_body i arg1 harg1 arg2 harg2 arg3 harg3) Q := by
  simp only [cc0__nms_body_eq_skeleton]; unfold cc0__nms_body_skel
  simp only [k0_part1_eq_skeleton, k0_part2_eq_skeleton, k0_part3_eq_skeleton]
  unfold owns
  iintro ⟨⟨%f0, %hf0, H0⟩, ⟨%d1, %f1, -, H1⟩, ⟨%d2, %f2, -, H2⟩, Hk⟩
  obtain rfl := harg1.eq_unread hf0
  have hx : View.readAt (Elt F) arg1.view (Rect.unit ![0, 0, 0] S1x512x512.size inb_S1x512x512_S1x512x512_0_0_0).toLoadRect
      (harg1.unread x) = x := (View.readAt_full arg1.view _ _).trans hf0
  sl_exec
  sl_step
  iapply Hk
  isplitl [H0]
  · iexists _; isplitr; · ipureintro; exact harg1.read_unread _
    iexact H0
  isplitl [H1]
  · iexists _; isplitr
    swap; · iexact H1
    ipureintro
    refine (View.read_writes_full arg2.view f1 inb_S1x512x512_S1x512x512_0_0_0 _ []).trans ?_
    rfl
  iexists _; isplitr
  swap; · iexact H2
  ipureintro
  refine (View.read_writes_full arg3.view f2 inb_S1x520x640_S1x520x640_0_0_0 _ []).trans ?_
  rfl

/-! ## The proof data -/

section Data

variable (V : Dev nD → Valuation τ sig (Elt F))

/-- A window's block at point `t`, read off its array as the region finds it. -/
def iblk (c : Dev nD) (t : Fin cfg0.N) : Vec F S1x512x512 .f32 :=
  ((cfg0.win 0).blk t).view.read (Elt F) (V c (Proc.devRef .tc (Pipeline.arrRef spec0 0)))

/-- The proof data of the call on core `c`: the arrays as found, the outputs the two functions of the input block, the
    core owing the start signals of the SparseCore call all along, the waits it has recorded all of level 0. -/
def dat (c : Dev nD) : Dat τ (Elt F) (HIx 1) ℕ UU ℕ cfg0 c where
  A w := V c (Proc.devRef .tc (Pipeline.arrRef spec0 w))
  after w t := match w with
    | ⟨0, _⟩ => iblk V c t
    | ⟨1, _⟩ => nmsBlk (iblk V c t)
    | ⟨2, _⟩ => padBlk (iblk V c t)
  Φ _ := iprop(Pipeline.scopedRest (Ix := HIx 1) (Name := ℕ) (U := UU) (Lvl := ℕ) (Val := Elt F) spec0 c ∗ ∃ r, prngReg c r)
  q _ := fullShare
  owed _ := (K (F := F)).Otc c 0
  recorded _ := {p | (K (F := F)).lev (T c, p.1) p.2 ≤ 0}

theorem A_eq (c : Dev nD) (w : Fin cfg0.W) : (dat V c).A w = V c (Proc.devRef .tc (Pipeline.arrRef spec0 w)) := by dsimp only [dat]
theorem share_eq (c : Dev nD) (w : Fin cfg0.W) : (dat V c).share w = fullShare := by
  unfold Dat.share; split <;> rfl
theorem after_0 (c : Dev nD) (t : Fin cfg0.N) : (dat V c).after 0 t = iblk V c t := by dsimp only [dat]
theorem after_1 (c : Dev nD) (t : Fin cfg0.N) : (dat V c).after 1 t = nmsBlk (iblk V c t) := by dsimp only [dat]
theorem after_2 (c : Dev nD) (t : Fin cfg0.N) : (dat V c).after 2 t = padBlk (iblk V c t) := by dsimp only [dat]

/-- The input's staging buffer holds its block at every point. -/
theorem before_0 (c : Dev nD) (t : Fin cfg0.N) (d) : (dat V c).before 0 t d = iblk V c t :=
  ((dat V c).before_in_eq_fetched 0 rfl (fun _ => rfl) (fun _ _ _ => rfl)
      (fun t => by rw [after_0]; unfold Dat.blockOf iblk; rw [A_eq]) t d).trans
    (by unfold Dat.fetched Dat.blockOf iblk; rw [A_eq]; rfl)

/-- The body's triple at point `t`, window by window. -/
theorem body_at (c : Dev nD) (t : Fin cfg0.N) :
    iprop((dat V c).Φ t.castSucc ∗ (dat V c).owesAt none t.castSucc
      ∗ (∃ d, owns (c : Thread nD τ) (win0_0.stage (cfg0.slots t 0)) fullShare ((dat V c).before 0 t d))
      ∗ (∃ d, owns (c : Thread nD τ) (win0_1.stage (cfg0.slots t 1)) fullShare ((dat V c).before 1 t d))
      ∗ (∃ d, owns (c : Thread nD τ) (win0_2.stage (cfg0.slots t 2)) fullShare ((dat V c).before 2 t d)))
    ⊢ wp frame (wpE (defs₀ (F := F)) 𝒱₀ c none) Set.univ (bodyAt0 t) (fun _ =>
      iprop((dat V c).Φ t.succ ∗ (dat V c).owesAt none t.succ
        ∗ owns (c : Thread nD τ) (win0_0.stage (cfg0.slots t 0)) fullShare ((dat V c).after 0 t)
        ∗ owns (c : Thread nD τ) (win0_1.stage (cfg0.slots t 1)) fullShare ((dat V c).after 1 t)
        ∗ owns (c : Thread nD τ) (win0_2.stage (cfg0.slots t 2)) fullShare ((dat V c).after 2 t))) := by
  simp only [before_0]
  rw [show (dat V c).Φ t.succ = (dat V c).Φ t.castSucc from rfl,
    show (dat V c).owesAt none t.succ = (dat V c).owesAt none t.castSucc from rfl, after_0, after_1, after_2]
  iintro ⟨HΦ, Ho, ⟨%d0, H0⟩, ⟨%d1, H1⟩, ⟨%d2, H2⟩⟩
  iapply (body_run c (grid0.coords t) _ _ _ _ _ _ (iblk V c t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row (t : Fin cfg0.N) : defs₀ (F := F) .tc cfg0.body (cfg0.bodyArgs t (cfg0.slots t)) = bodyAt0 t := rfl

/-- The body obligation of the pipeline, at every point. -/
theorem body_obligation (c : Dev nD) : Pipeline.BodyObligation (dat V c) (defs₀ (F := F)) 𝒱₀ none Set.univ := fun t => by
  rw [bigSep_W0, bigSep_W0, row]
  exact triple_restated (body_at V c t) rfl .rfl fun _ => .rfl

/-! ## The region -/

abbrev adm (p : Fin 1) : (pcfgs (F := F) p).Adm := (cfgs p).toPCfg_adm

abbrev pdats (p : Fin 1) (c : Dev nD) : Dat τ (Elt F) (HIx 1) ℕ UU ℕ (Pipeline.pin (Val := Elt F) pcfgs (adm) p) c :=
  match p with | 0 => dat V c

/-- Every buffer of the device when the TensorCore call has ended. -/
def Vend (c : Dev nD) : Valuation τ sig (Elt F) := Pipeline.afterRegion (dat V c) (V c)

/-- What the core holds beside the arrays: its signals owed, the waits of level 0, the generator's register. -/
abbrev side (c : Dev nD) : sProp (MM F) :=
  iprop((∃ W, ⌜(K (F := F)).WBelow (T c) W 0⌝ ∗ owes (T c) ((K (F := F)).Otc c 0) W) ∗ ∃ r, prngReg c r)

/-- What the launch still owes lies above level 0. -/
theorem otc_above (c : Dev nD) (g : GSem nD τ sig) (i : HIx 1) (h : 0 < (K (F := F)).Otc c 0 g i) :
    i ∈ (K (F := F)).L g ∧ 0 < (K (F := F)).lev g i := by
  have := SparseCore.Cfg.lev_of_Otc_pos h
  exact ⟨Finset.mem_univ _, by omega⟩

set_option backward.isDefEq.respectTransparency.types false in
/-- The TensorCore call as a region of @main: entered with every buffer at `V c`, left with every buffer at `Vend c`. -/
def region : Pipeline.RegionSeg (pcfgs (F := F)) adm (pdats V) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_of_cut _ (pdats V) none 0 c 0 ((K (F := F)).Otc c 0) (fun _ => rfl)
    (fun w s => Finset.mem_univ _) (fun w s => le_refl _) (fun g i h => otc_above c g i h)
  pre c := iprop(StableHlo.held (T c) (Pipeline.ucRefs τ sig) (V c) ∗ side c)
  post c := iprop(StableHlo.held (T c) (Pipeline.ucRefs τ sig) (Vend V c) ∗ side c)
  X c := iprop(∃ r, prngReg c r)
  Y c := iprop(∃ r, prngReg c r)
  Z c := StableHlo.held (T c) (Pipeline.ucRefs τ sig \ Pipeline.arrRefs spec0) (V c)
  hentry c := by
    rw [Pipeline.ownSems0_none, Pipeline.prefHeld_of_none _ rfl, StableHlo.held_sub_split (T c) (Pipeline.arrRefs_sub_ucRefs spec0 launch0.win.arr_unscoped) (V c),
      Pipeline.arrays_held (pcfgs (F := F)) adm (pdats V) 0 launch0.toP c (share_eq V c) ((pdats V 0 c).arrAt · 0) (V c) (fun w => A_eq V c w)]
    iintro ⟨⟨⟨Ha, Hu⟩, ⟨%W, %hW, HO⟩, HX⟩, -, -⟩
    imodintro
    isplitl [Ha]; · iexact Ha
    isplitr; · iempintro
    isplitl [HO]
    · iexists W; isplitr
      · ipureintro; exact fun p hp => Or.inl (hW p hp)
      iexact HO
    isplitl [HX]; · iexact HX
    iexact Hu
  hin c := by
    show _ ⊢ iprop(Pipeline.scopedRest (Ix := HIx 1) (Name := ℕ) (U := UU) (Lvl := ℕ) (Val := Elt F) spec0 c ∗ ∃ r, prngReg c r)
    iintro ⟨HX, -, Hr⟩
    isplitl [Hr]; · iexact Hr
    iexact HX
  hout c := by
    rw [Pipeline.ownSems0_none]
    show iprop(Pipeline.scopedRest (Ix := HIx 1) (Name := ℕ) (U := UU) (Lvl := ℕ) (Val := Elt F) spec0 c ∗ ∃ r, prngReg c r) ⊢ _
    iintro ⟨Hr, HX⟩
    isplitl [HX]; · iexact HX
    isplitr; · iempintro
    iexact Hr
  hexit c := by
    rw [StableHlo.held_sub_split (T c) (Pipeline.arrRefs_sub_ucRefs spec0 launch0.win.arr_unscoped) (Vend V c),
      StableHlo.held_congr (T c) (S := Pipeline.ucRefs τ sig \ Pipeline.arrRefs spec0) (V := Vend V c) (V' := V c)
        (Pipeline.afterRegion_off (dat V c) (V c) _),
      Pipeline.arrays_held (pcfgs (F := F)) adm (pdats V) 0 launch0.toP c (share_eq V c) ((pdats V 0 c).arrAt · (Pipeline.pin (pcfgs (F := F)) adm 0).N) (Vend V c)
        (fun w => (Pipeline.afterRegion_arr (dat V c) (V c) launch0.win.arr_inj w).symm)]
    iintro ⟨Ha, ⟨%W, %hW, HO⟩, HX, Hu⟩
    imodintro
    isplitl [Ha Hu]
    · isplitl [Ha]; · iexact Ha
      iexact Hu
    isplitl [HO]
    · iexists W; isplitr
      · ipureintro
        intro p hp
        rcases hW hp with h | ⟨w, s, rfl⟩
        · exact h
        · exact le_refl _
      iexact HO
    iexact HX

end Data

end Cert.KernelIdeal.Region

end
-- ==== Proof.Compute.lean ====
/-
  The loads of the compute loop: 36 indexed loads of the gathered rows, each in range, bring in the recipe's patch
  vectors.
-/
module

public import proofs.«01_k».proof.Proof.Setup

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- An assumed fact that holds, then an indexed load whose result is known: the program goes on with that result. -/
theorem wp_loadKnown {c : Thread nD τ} {s t : Shape} {e : EltTy} {base : Memref sig c.2.kind .vmem s e}
    {P : Prop} {dec : Decidable P} (hP : P) {idxs : Fin s.rank → IVec t 32} {hin : P → ∀ a x, (idxs a x).toNat < s.size a}
    {hl : base.view.Loads} {α : Type} {k : PLift P → Vec F t e → Prog (TpuEff nD τ sig (Elt F) Λ₀ c.2) α}
    {q : PosShare TreeShare} {f : Buf (Elt F) ((base.access (.whole s)).loc c)} {Q : α → sProp (MM F)} {g : Vec F t e}
    (hg : ∀ h, loadIdx ((base.access (.whole s)).read (Elt F) f) idxs h = g) :
    ((base.access (.whole s)).loc c ↦{q} f : sProp (MM F))
      ⊢ iprop((((base.access (.whole s)).loc c ↦{q} f)
          -∗ wp frame (wpE (defs₀ (F := F)) 𝒱₀ c none) Set.univ (k ⟨hP⟩ g) Q)
        -∗ wp frame (wpE (defs₀ (F := F)) 𝒱₀ c none) Set.univ
          (.op (.assume P dec) fun h => SparseCore.vectorLoadIdx base idxs (hin h.down) hl >>= k h) Q) := by
  rw [wp_assume_of _ _ _ _ hP]
  have h := SparseCore.wp_vectorLoadIdx (defs := defs₀ (F := F)) (Ix := HIx 1) (Name := ℕ) (U := UU) (Lvl := ℕ) 𝒱₀ c none Set.univ (base := base) (idxs := idxs) (h := hin hP) (hl := hl) (k := k ⟨hP⟩)
    (Q := Q) (S := Finset.univ) (q := q) (f := f) (Finset.subset_univ _)
  rw [hg] at h
  exact h

/-- The row of the gathered block that entry `k` of each lane's patch is in, its offset `b` given. -/
def rw (b : IVec S16 32) (k : ℕ) : IVec S16 32 :=
  shrsi (addi b (broadcast S16 (BitVec.ofNat 32 (32 * (k / 6) + k % 6)))) (broadcast S16 4#32)
/-- The column of that entry. -/
def cl (b : IVec S16 32) (k : ℕ) : IVec S16 32 :=
  andi (addi b (broadcast S16 (BitVec.ofNat 32 (32 * (k / 6) + k % 6)))) (broadcast S16 15#32)

/-- The thread of tile `i`. -/
abbrev V' (d : Dev nD) (i : grid1.Coords) : Thread nD τ := V d (cV i) (jV i)

/-- A share of the gathered block. -/
def dataPts (i : grid1.Coords) (d : Dev nD) (arg10 : Memref sig .scVector .vmem S1536x16 .f32) (q : PosShare TreeShare) (f : Buf (Elt F) ((arg10.access (.whole S1536x16)).loc (V' d i))) : sProp (MM F) :=
  (arg10.access (.whole S1536x16)).loc (V' d i) ↦{q} f

/-- Every patch entry is in range in the gathered block `f`, and what is there is the recipe's vector. -/
def Patches (i : grid1.Coords) (d : Dev nD) (arg10 : Memref sig .scVector .vmem S1536x16 .f32) (f : Buf (Elt F) ((arg10.access (.whole S1536x16)).loc (V' d i))) (b : IVec S16 32) (V : ℕ → Vec F S16 .f32) : Prop :=
  ∀ k, k < 36 → (∀ a x, ((![rw b k, cl b k] : Fin 2 → IVec S16 32) a x).toNat < S1536x16.size a)
    ∧ ∀ h, loadIdx (F := F) ((arg10.access (.whole S1536x16)).read (Elt F) f) ![rw b k, cl b k] h = V k

variable (i : grid1.Coords) (d : Dev nD) (arg2 : Memref sig .scVector .hbm S83200x16 .f32) (harg2 : arg2.IsWhole) (arg3 : Memref sig .scVector .hbm S20480 .i32) (harg3 : arg3.IsWhole) (arg4 : Memref sig .scVector .hbm S20480 .f32) (harg4 : arg4.IsWhole) (arg5 : Memref sig .scVector .hbm S20480 .f32) (harg5 : arg5.IsWhole) (arg6 : Memref sig .scVector .hbm S20480 .f32) (harg6 : arg6.IsWhole) (arg7 : Memref sig .scVector .hbm S20480 .f32) (harg7 : arg7.IsWhole) (arg8 : Memref sig .scVector .vmem S128 .i32) (harg8 : arg8.IsWhole) (arg9 : Memref sig .scVector .vmem S1536 .i32) (harg9 : arg9.IsWhole) (arg10 : Memref sig .scVector .vmem S1536x16 .f32) (harg10 : arg10.IsWhole) (arg11 : Memref sig .scVector .vmem S128 .f32) (harg11 : arg11.IsWhole) (arg12 : Memref sig .scVector .vmem S128 .f32) (harg12 : arg12.IsWhole) (arg13 : Memref sig .scVector .vmem S128 .f32) (harg13 : arg13.IsWhole) (arg14 : Memref sig .scVector .vmem S128 .f32) (harg14 : arg14.IsWhole) (arg15 : DmaSems sig S_) (v83_r0 : DmaSems sig S_) (v83_r1 : DmaSems sig S_) (v83_r2 : DmaSems sig S_) (v83_r3 : DmaSems sig S_) (v83_r4 : DmaSems sig S_)
variable {V : ℕ → Vec F S16 .f32} {q : PosShare TreeShare} {f : Buf (Elt F) ((arg10.access (.whole S1536x16)).loc (V' d i))}

variable {i d arg10} in
/-- One checked load of a patch entry. -/
theorem wp_patch {b : IVec S16 32} (H : Patches i d arg10 f b V) {k : ℕ} (hk : k < 36) {A B : IVec S16 32} (hA : A = rw b k)
    (hB : B = cl b k) {P : Prop} {dec : Decidable P}
    (hP : P = ∀ a x, ((![A, B] : Fin 2 → IVec S16 32) a x).toNat < S1536x16.size a)
    {hin : P → ∀ a x, ((![A, B] : Fin 2 → IVec S16 32) a x).toNat < S1536x16.size a}
    {hl : arg10.view.Loads} {α : Type} {kk : Vec F S16 .f32 → Prog (TpuEff nD τ sig (Elt F) Λ₀ (V' d i).2) α} {Q : α → sProp (MM F)} :
    ((arg10.access (.whole S1536x16)).loc (V' d i) ↦{q} f : sProp (MM F))
      ⊢ iprop((((arg10.access (.whole S1536x16)).loc (V' d i) ↦{q} f)
          -∗ wp frame (wpE (defs₀ (F := F)) 𝒱₀ (V' d i) none) Set.univ (kk (V k)) Q)
        -∗ wp frame (wpE (defs₀ (F := F)) 𝒱₀ (V' d i) none) Set.univ
          (.op (.assume P dec) fun h => SparseCore.vectorLoadIdx arg10 ![A, B] (hin h.down) hl >>= kk) Q) := by
  subst hA hB
  exact wp_loadKnown (k := fun _ => kk) (hP ▸ (H k hk).1) (H k hk).2

/-- Window 5 of the loads. -/
theorem wp_part5 {v101 : IVec S16 32} (H : Patches i d arg10 f v101 V) (v117 : IVec S16 32) (v119 : IVec S16 32) (v120 : IVec S16 32) (hr2 : v119 = rw v101 2) (hc2 : andi v117 v120 = cl v101 2) {α : Type} {kk} {Q : α → sProp (MM F)} :
    dataPts i d arg10 q f
      ⊢ iprop((dataPts i d arg10 q f -∗ wp frame (wpE (defs₀ (F := F)) 𝒱₀ (V' d i) none) Set.univ (kk ⟨(V 2), (V 3), (V 4), (V 5), (V 6), (V 7), k1_pay54⟩) Q)
        -∗ wp frame (wpE (defs₀ (F := F)) 𝒱₀ (V' d i) none) Set.univ (k1_part5 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 v101 v117 v119 v120 >>= kk) Q) := by
  rw [k1_part5_eq_skeleton]
  unfold k1_part5_skel dataPts
  simp only [Prog.lift, bind_assoc, Prog.bind_op, Prog.bind_ret, pure_bind]
  iintro Hd HQ
  iapply (wp_patch (arg10 := arg10) H (k := 2) (by decide) hr2 hc2 rfl) $$ Hd; iintro Hd
  iapply (wp_patch (arg10 := arg10) H (k := 3) (by decide) rfl rfl rfl) $$ Hd; iintro Hd
  iapply (wp_patch (arg10 := arg10) H (k := 4) (by decide) rfl rfl rfl) $$ Hd; iintro Hd
  iapply (wp_patch (arg10 := arg10) H (k := 5) (by decide) rfl rfl rfl) $$ Hd; iintro Hd
  iapply (wp_patch (arg10 := arg10) H (k := 6) (by decide) rfl rfl rfl) $$ Hd; iintro Hd
  iapply (wp_patch (arg10 := arg10) H (k := 7) (by decide) rfl rfl rfl) $$ Hd; iintro Hd
  iapply HQ $$ Hd

/-- Window 6 of the loads. -/
theorem wp_part6 {v101 : IVec S16 32} (H : Patches i d arg10 f v101 V) (v158 : IVec S16 32) (hr8 : k1_pay56 v101 v158 = rw v101 8) (hc8 : k1_pay57 v101 v158 = cl v101 8) {α : Type} {kk} {Q : α → sProp (MM F)} :
    dataPts i d arg10 q f
      ⊢ iprop((dataPts i d arg10 q f -∗ wp frame (wpE (defs₀ (F := F)) 𝒱₀ (V' d i) none) Set.univ (kk ⟨(V 8), (V 9), (V 10), (V 11), (V 12), k1_pay70 v101, k1_pay71 v101, 15#32⟩) Q)
        -∗ wp frame (wpE (defs₀ (F := F)) 𝒱₀ (V' d i) none) Set.univ (k1_part6 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 v101 v158 >>= kk) Q) := by
  rw [k1_part6_eq_skeleton]
  unfold k1_part6_skel dataPts
  simp only [Prog.lift, bind_assoc, Prog.bind_op, Prog.bind_ret, pure_bind]
  iintro Hd HQ
  iapply (wp_patch (arg10 := arg10) H (k := 8) (by decide) hr8 hc8 rfl) $$ Hd; iintro Hd
  iapply (wp_patch (arg10 := arg10) H (k := 9) (by decide) rfl rfl rfl) $$ Hd; iintro Hd
  iapply (wp_patch (arg10 := arg10) H (k := 10) (by decide) rfl rfl rfl) $$ Hd; iintro Hd
  iapply (wp_patch (arg10 := arg10) H (k := 11) (by decide) rfl rfl rfl) $$ Hd; iintro Hd
  iapply (wp_patch (arg10 := arg10) H (k := 12) (by decide) rfl rfl rfl) $$ Hd; iintro Hd
  iapply HQ $$ Hd

/-- Window 7 of the loads. -/
theorem wp_part7 {v101 : IVec S16 32} (H : Patches i d arg10 f v101 V) (v194 : IVec S16 32) (v196 : IVec S16 32) (c15_i32_155 : BitVec 32) (hr13 : v196 = rw v101 13) (hc13 : k1_pay72 v194 c15_i32_155 = cl v101 13) {α : Type} {kk} {Q : α → sProp (MM F)} :
    dataPts i d arg10 q f
      ⊢ iprop((dataPts i d arg10 q f -∗ wp frame (wpE (defs₀ (F := F)) 𝒱₀ (V' d i) none) Set.univ (kk ⟨(V 13), (V 14), (V 15), (V 16), (V 17), (V 18), 97#32⟩) Q)
        -∗ wp frame (wpE (defs₀ (F := F)) 𝒱₀ (V' d i) none) Set.univ (k1_part7 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 v101 v194 v196 c15_i32_155 >>= kk) Q) := by
  rw [k1_part7_eq_skeleton]
  unfold k1_part7_skel dataPts
  simp only [Prog.lift, bind_assoc, Prog.bind_op, Prog.bind_ret, pure_bind]
  iintro Hd HQ
  iapply (wp_patch (arg10 := arg10) H (k := 13) (by decide) hr13 hc13 rfl) $$ Hd; iintro Hd
  iapply (wp_patch (arg10 := arg10) H (k := 14) (by decide) rfl rfl rfl) $$ Hd; iintro Hd
  iapply (wp_patch (arg10 := arg10) H (k := 15) (by decide) rfl rfl rfl) $$ Hd; iintro Hd
  iapply (wp_patch (arg10 := arg10) H (k := 16) (by decide) rfl rfl rfl) $$ Hd; iintro Hd
  iapply (wp_patch (arg10 := arg10) H (k := 17) (by decide) rfl rfl rfl) $$ Hd; iintro Hd
  iapply (wp_patch (arg10 := arg10) H (k := 18) (by decide) rfl rfl rfl) $$ Hd; iintro Hd
  iapply HQ $$ Hd

/-- Window 8 of the loads. -/
theorem wp_part8 {v101 : IVec S16 32} (H : Patches i d arg10 f v101 V) (c97_i32 : BitVec 32) (hr19 : k1_pay89 v101 c97_i32 = rw v101 19) (hc19 : k1_pay90 v101 c97_i32 = cl v101 19) {α : Type} {kk} {Q : α → sProp (MM F)} :
    dataPts i d arg10 q f
      ⊢ iprop((dataPts i d arg10 q f -∗ wp frame (wpE (defs₀ (F := F)) 𝒱₀ (V' d i) none) Set.univ (kk ⟨(V 19), (V 20), (V 21), (V 22), (V 23), k1_pay103 v101, k1_pay104 v101⟩) Q)
        -∗ wp frame (wpE (defs₀ (F := F)) 𝒱₀ (V' d i) none) Set.univ (k1_part8 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 v101 c97_i32 >>= kk) Q) := by
  rw [k1_part8_eq_skeleton]
  unfold k1_part8_skel dataPts
  simp only [Prog.lift, bind_assoc, Prog.bind_op, Prog.bind_ret, pure_bind]
  iintro Hd HQ
  iapply (wp_patch (arg10 := arg10) H (k := 19) (by decide) hr19 hc19 rfl) $$ Hd; iintro Hd
  iapply (wp_patch (arg10 := arg10) H (k := 20) (by decide) rfl rfl rfl) $$ Hd; iintro Hd
  iapply (wp_patch (arg10 := arg10) H (k := 21) (by decide) rfl rfl rfl) $$ Hd; iintro Hd
  iapply (wp_patch (arg10 := arg10) H (k := 22) (by decide) rfl rfl rfl) $$ Hd; iintro Hd
  iapply (wp_patch (arg10 := arg10) H (k := 23) (by decide) rfl rfl rfl) $$ Hd; iintro Hd
  iapply HQ $$ Hd

/-- Window 9 of the loads. -/
theorem wp_part9 {v101 : IVec S16 32} (H : Patches i d arg10 f v101 V) (v271 : IVec S16 32) (v273 : IVec S16 32) (hr24 : v273 = rw v101 24) (hc24 : k1_pay105 v271 = cl v101 24) {α : Type} {kk} {Q : α → sProp (MM F)} :
    dataPts i d arg10 q f
      ⊢ iprop((dataPts i d arg10 q f -∗ wp frame (wpE (defs₀ (F := F)) 𝒱₀ (V' d i) none) Set.univ (kk ⟨(V 24), (V 25), (V 26), (V 27), (V 28), (V 29)⟩) Q)
        -∗ wp frame (wpE (defs₀ (F := F)) 𝒱₀ (V' d i) none) Set.univ (k1_part9 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 v101 v271 v273 >>= kk) Q) := by
  rw [k1_part9_eq_skeleton]
  unfold k1_part9_skel dataPts
  simp only [Prog.lift, bind_assoc, Prog.bind_op, Prog.bind_ret, pure_bind]
  iintro Hd HQ
  iapply (wp_patch (arg10 := arg10) H (k := 24) (by decide) hr24 hc24 rfl) $$ Hd; iintro Hd
  iapply (wp_patch (arg10 := arg10) H (k := 25) (by decide) rfl rfl rfl) $$ Hd; iintro Hd
  iapply (wp_patch (arg10 := arg10) H (k := 26) (by decide) rfl rfl rfl) $$ Hd; iintro Hd
  iapply (wp_patch (arg10 := arg10) H (k := 27) (by decide) rfl rfl rfl) $$ Hd; iintro Hd
  iapply (wp_patch (arg10 := arg10) H (k := 28) (by decide) rfl rfl rfl) $$ Hd; iintro Hd
  iapply (wp_patch (arg10 := arg10) H (k := 29) (by decide) rfl rfl rfl) $$ Hd; iintro Hd
  iapply HQ $$ Hd

/-- Window 10 of the loads. -/
theorem wp_part10 {v101 : IVec S16 32} (H : Patches i d arg10 f v101 V)   {α : Type} {kk} {Q : α → sProp (MM F)} :
    dataPts i d arg10 q f
      ⊢ iprop((dataPts i d arg10 q f -∗ wp frame (wpE (defs₀ (F := F)) 𝒱₀ (V' d i) none) Set.univ (kk ⟨(V 30), (V 31), (V 32), (V 33), (V 34), k1_pay136 v101, k1_pay137⟩) Q)
        -∗ wp frame (wpE (defs₀ (F := F)) 𝒱₀ (V' d i) none) Set.univ (k1_part10 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 v101 >>= kk) Q) := by
  rw [k1_part10_eq_skeleton]
  unfold k1_part10_skel dataPts
  simp only [Prog.lift, bind_assoc, Prog.bind_op, Prog.bind_ret, pure_bind]
  iintro Hd HQ
  iapply (wp_patch (arg10 := arg10) H (k := 30) (by decide) rfl rfl rfl) $$ Hd; iintro Hd
  iapply (wp_patch (arg10 := arg10) H (k := 31) (by decide) rfl rfl rfl) $$ Hd; iintro Hd
  iapply (wp_patch (arg10 := arg10) H (k := 32) (by decide) rfl rfl rfl) $$ Hd; iintro Hd
  iapply (wp_patch (arg10 := arg10) H (k := 33) (by decide) rfl rfl rfl) $$ Hd; iintro Hd
  iapply (wp_patch (arg10 := arg10) H (k := 34) (by decide) rfl rfl rfl) $$ Hd; iintro Hd
  iapply HQ $$ Hd

/-- Window 11 of the loads. -/
theorem wp_part11 {v101 : IVec S16 32} (H : Patches i d arg10 f v101 V) (v348 : IVec S16 32) (v349 : IVec S16 32) (hr35 : shrsi v348 v349 = rw v101 35) (hc35 : k1_pay138 v348 = cl v101 35) {α : Type} {kk} {Q : α → sProp (MM F)} :
    dataPts i d arg10 q f
      ⊢ iprop((dataPts i d arg10 q f -∗ wp frame (wpE (defs₀ (F := F)) 𝒱₀ (V' d i) none) Set.univ (kk ⟨V 35, (mx V 24), (ex V 0), (sx V 1), (ex V 1), (den V 2), (sx V 2)⟩) Q)
        -∗ wp frame (wpE (defs₀ (F := F)) 𝒱₀ (V' d i) none) Set.univ (k1_part11 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 (V 0) (V 1) (V 2) (V 3) (V 4) (V 6) (V 7) (V 8) (V 9) (V 10) (V 12) (V 13) (V 14) (V 15) (V 16) (V 18) (V 19) (V 20) (V 21) (V 22) (V 24) (V 25) (V 26) (V 27) (V 28) v348 v349 >>= kk) Q) := by
  rw [k1_part11_eq_skeleton]
  unfold k1_part11_skel dataPts
  simp only [Prog.lift, bind_assoc, Prog.bind_op, Prog.bind_ret, pure_bind]
  iintro Hd HQ
  iapply (wp_patch (arg10 := arg10) H (k := 35) (by decide) hr35 hc35 rfl) $$ Hd; iintro Hd
  iapply HQ $$ Hd

end Cert.KernelIdeal.Tile
-- ==== Proof.Words.lean ====
/-
  The words the SparseCore body computes: the row of the padded map each gathered block row is fetched from, the
  place of each patch entry in the gathered block, and the scalar form of the recipe at one keypoint.
-/
module

public import proofs.«01_k».proof.Proof.Recipe
public import Idealize.ShloMosaic.Lib.Pointwise.Index

@[expose] public section

noncomputable section

namespace Cert.KernelIdeal.Tile

open Cert.KernelIdeal Cert.KernelIdeal.Gen
open Idealize.ShloMosaic

variable {F : FTy → Type} [FloatOps F]

/-! ## Machine words as naturals -/

/-- A right shift of a non-negative word is a division. -/
theorem shr_toNat (x s : BitVec 32) (hs : s.toNat < 32) (hx : x.toNat < 2 ^ 31) :
    (IntOp.shrsi .vector x s).toNat = x.toNat / 2 ^ s.toNat := by
  have hm : x.msb = false := by
    rw [BitVec.msb_eq_false_iff_two_mul_lt]; omega
  rw [IntOp.shrsi, if_pos hs, BitVec.sshiftRight', BitVec.sshiftRight_eq_of_msb_false hm, BitVec.toNat_ushiftRight,
    Nat.shiftRight_eq_div_pow]

/-- The mask of `n` low bits takes the remainder by `2 ^ n`. -/
theorem and_toNat (x m : BitVec 32) (n : ℕ) (hm : m.toNat = 2 ^ n - 1) : (IntOp.andi x m).toNat = x.toNat % 2 ^ n := by
  rw [IntOp.andi, BitVec.toNat_and, hm, Nat.and_two_pow_sub_one_eq_mod]

/-- A sum that does not overflow. -/
theorem add_toNat (x y : BitVec 32) (h : x.toNat + y.toNat < 2 ^ 32) : (IntOp.addi x y).toNat = x.toNat + y.toNat := by
  rw [IntOp.addi, BitVec.toNat_add, Nat.mod_eq_of_lt h]

/-- A product that does not overflow. -/
theorem mul_toNat (x y : BitVec 32) (h : x.toNat * y.toNat < 2 ^ 32) : (IntOp.muli x y).toNat = x.toNat * y.toNat := by
  rw [IntOp.muli, BitVec.toNat_mul, Nat.mod_eq_of_lt h]

/-! ## Rows and patch entries -/

/-- The row of the padded map that holds the `k`-th sixteenth-row of the patch at flat index `g`. -/
def rowN (g k : ℕ) : ℕ := g / 262144 * 20800 + (g / 512 % 512 + 1) * 40 + (g % 512 + 1) / 16 + k / 2 * 40 + k % 2

theorem rowN_lt {g k : ℕ} (hg : g < 2 ^ 20) (hk : k < 12) : rowN g k < 83200 := by
  unfold rowN; omega

/-- The entry `k` of the patch at flat index `g`, read from the padded map. -/
def patchP (P : S83200x16.Idx → F .f32) (g : BitVec 32) (k : ℕ) : F .f32 :=
  P (ix2 (Fin.ofNat 83200 (rowN g.toNat (2 * (k / 6) + ((g.toNat % 512 + 1) % 16 + k % 6) / 16)))
    (Fin.ofNat 16 ((g.toNat % 512 + 1) % 16 + k % 6)))

/-- The column of a flat index. -/
def xW (g : BitVec 32) : BitVec 32 := BitVec.ofNat 32 (g.toNat % 512)
/-- The row of a flat index. -/
def yW (g : BitVec 32) : BitVec 32 := BitVec.ofNat 32 (g.toNat / 512 % 512)

variable (V : ℕ → Vec F S16 .f32) (X Y : IVec S16 32) (l : S16.Idx)

/-- The patch vectors of one lane, in every lane. -/
abbrev sp (V : ℕ → Vec F S16 .f32) (l : S16.Idx) : ℕ → Vec F S16 .f32 := fun k _ => V k l

theorem mx_lane (k : ℕ) (l' : S16.Idx) : mx V k l = mx (sp V l) k l' := by
  induction k with
  | zero => rfl
  | succ k ih => simp only [mx, maximumf, ih]; rfl
theorem ex_lane (k : ℕ) (l' : S16.Idx) : ex V k l = ex (sp V l) k l' := by
  simp only [ex, exp, divf, subf, mx_lane V l 24 l']; rfl
theorem den_lane (k : ℕ) (l' : S16.Idx) : den V k l = den (sp V l) k l' := by
  induction k with
  | zero => rfl
  | succ k ih => simp only [den, addf, ih, ex_lane V l k l']
theorem sx_lane (k : ℕ) (l' : S16.Idx) : sx V k l = sx (sp V l) k l' := by
  induction k with
  | zero => rfl
  | succ k ih => simp only [sx, addf, mulf, ih, ex_lane V l k l']; rfl
theorem sy_lane (k : ℕ) (l' : S16.Idx) : sy V k l = sy (sp V l) k l' := by
  induction k with
  | zero => rfl
  | succ k ih => simp only [sy, addf, mulf, ih, ex_lane V l k l']; rfl
theorem rx_lane (l' : S16.Idx) : rx V l = rx (sp V l) l' := by
  simp only [rx, divf, sx_lane V l 25 l', den_lane V l 25 l']
theorem ry_lane (l' : S16.Idx) : ry V l = ry (sp V l) l' := by
  simp only [ry, divf, sy_lane V l 25 l', den_lane V l 25 l']
theorem dfx_lane (j : ℕ) (l' : S16.Idx) : dfx V j l = dfx (sp V l) j l' := by
  simp only [dfx, divf, subf, rx_lane V l l']; rfl
theorem dfy_lane (j : ℕ) (l' : S16.Idx) : dfy V j l = dfy (sp V l) j l' := by
  simp only [dfy, divf, subf, ry_lane V l l']; rfl
theorem ds_lane (k : ℕ) (l' : S16.Idx) : ds V k l = ds (sp V l) k l' := by
  induction k with
  | zero => rfl
  | succ k ih => simp only [ds, addf, mulf, ih, ex_lane V l k l', dfx_lane V l _ l', dfy_lane V l _ l']
theorem disp_lane (l' : S16.Idx) : disp V l = disp (sp V l) l' := by
  simp only [disp, divf, ds_lane V l 25 l', den_lane V l 25 l']
theorem kpx_lane (l' : S16.Idx) : kpx V X l = kpx (sp V l) (fun _ => X l) l' := by
  simp only [kpx, nrm, subf, mulf, divf, addf, rx_lane V l l']; rfl
theorem kpy_lane (l' : S16.Idx) : kpy V Y l = kpy (sp V l) (fun _ => Y l) l' := by
  simp only [kpy, nrm, subf, mulf, divf, addf, ry_lane V l l']; rfl
theorem wx_lane (j : ℕ) (l' : S16.Idx) : wx V X j l = wx (sp V l) (fun _ => X l) j l' := by
  simp only [wx, ixx, pix, subf, mulf, divf, addf, absf, maximumf, kpx_lane V X l l']; rfl
theorem wy_lane (j : ℕ) (l' : S16.Idx) : wy V Y j l = wy (sp V l) (fun _ => Y l) j l' := by
  simp only [wy, iyy, pix, subf, mulf, divf, addf, absf, maximumf, kpy_lane V Y l l']; rfl
theorem sc_lane (k : ℕ) (l' : S16.Idx) : sc V X Y k l = sc (sp V l) (fun _ => X l) (fun _ => Y l) k l' := by
  induction k with
  | zero => rfl
  | succ k ih => simp only [sc, addf, mulf, ih, wx_lane V X l _ l', wy_lane V Y l _ l']

/-- A keypoint's patch, in every lane. -/
abbrev pv (P : S83200x16.Idx → F .f32) (g : BitVec 32) : ℕ → Vec F S16 .f32 := fun k _ => patchP P g k

/-- The four results at flat index `g`: the scaled column, -/
def oX (P : S83200x16.Idx → F .f32) (g : BitVec 32) : F .f32 := kpx (pv P g) (fun _ => xW g) (ix1 0)
/-- the scaled row, -/
def oY (P : S83200x16.Idx → F .f32) (g : BitVec 32) : F .f32 := kpy (pv P g) (fun _ => yW g) (ix1 0)
/-- the score, -/
def oS (P : S83200x16.Idx → F .f32) (g : BitVec 32) : F .f32 := sc (pv P g) (fun _ => xW g) (fun _ => yW g) 36 (ix1 0)
/-- and the dispersion. -/
def oD (P : S83200x16.Idx → F .f32) (g : BitVec 32) : F .f32 := disp (pv P g) (ix1 0)

/-! ## Scatters -/

section Scatter
variable {d : Fin 1 → ℕ} {s : Shape} {e : EltTy} (I : Fin s.rank → IVec ⟨1, d⟩ 32) (v : Vec F ⟨1, d⟩ e)
  (h : ∀ a x, (I a x).toNat < s.size a)

/-- One lane's write of a scatter. -/
def put (g : Vec F s e) (k : Fin (d 0)) : Vec F s e :=
  fun j => if (∀ a, (j a).val = (idxAt I h (Shape.ofLane k) a).val) then v (Shape.ofLane k) else g j

/-- An unmasked scatter is its lanes' writes in order. -/
theorem storeIdx_eq (f : Vec F s e) : storeIdx (F := F) f I v (fun _ => 1#1) false h = (List.finRange (d 0)).foldl (put I v h) f := by
  unfold storeIdx
  congr 1
  funext g k
  dsimp only
  rw [if_pos (show (1#1 : BitVec 1) = 1 from rfl)]
  funext j
  unfold put
  by_cases hh : ∀ a, (j a).val = (idxAt I h (Shape.ofLane k) a).val
  · rw [if_pos hh, if_pos hh]; rfl
  · rw [if_neg hh, if_neg hh]

theorem ofLane_at (l : (⟨1, d⟩ : Shape).Idx) : Shape.ofLane (d := d) (l 0) = l := by
  funext a; match a with | ⟨0, _⟩ => rfl

theorem puts_hit (l : (⟨1, d⟩ : Shape).Idx) (j : s.Idx) (hj : ∀ a, (j a).val = (I a l).toNat)
    (hd : ∀ l', (∀ a, (I a l').toNat = (I a l).toNat) → l' = l) :
    ∀ (L : List (Fin (d 0))) (g : Vec F s e), ((l 0) ∈ L ∨ g j = v l) → L.foldl (put I v h) g j = v l := by
  intro L
  induction L with
  | nil => intro g hg; simpa using hg
  | cons k L ih =>
    intro g hg
    rw [List.foldl_cons]
    refine ih _ ?_
    by_cases hk : k = l 0
    · right
      subst hk
      rw [put, if_pos]
      · rw [ofLane_at]
      · intro a; rw [ofLane_at]; exact hj a
    · rcases hg with hg | hg
      · rcases List.mem_cons.1 hg with e | e
        · exact absurd e.symm hk
        · exact Or.inl e
      · right
        rw [put, if_neg, hg]
        intro ha
        have h2 := hd (Shape.ofLane (d := d) k) (fun a => by rw [← hj a, ha a]; rfl)
        exact hk (by rw [← h2]; rfl)

theorem puts_miss (j : s.Idx) (hj : ∀ l, ∃ a, (j a).val ≠ (I a l).toNat) :
    ∀ (L : List (Fin (d 0))) (g : Vec F s e), L.foldl (put I v h) g j = g j := by
  intro L
  induction L with
  | nil => intro g; rfl
  | cons k L ih =>
    intro g
    rw [List.foldl_cons, ih, put, if_neg]
    intro ha
    obtain ⟨a, hne⟩ := hj (Shape.ofLane k)
    exact hne (ha a)
end Scatter

/-- A scatter of sixteen lanes to distinct places: lane `l`'s value is at lane `l`'s place. -/
theorem storeIdx_hit {n : ℕ} {e : EltTy} (f : Vec F ⟨1, ![n]⟩ e) (I : IVec S16 32) (v : Vec F S16 e)
    (h : ∀ a x, ((![I] : Fin 1 → IVec S16 32) a x).toNat < (⟨1, ![n]⟩ : Shape).size a) (l : S16.Idx) (j : (⟨1, ![n]⟩ : Shape).Idx)
    (hj : (j 0).val = (I l).toNat) (hd : ∀ l', (I l').toNat = (I l).toNat → l' = l) :
    storeIdx (F := F) f ![I] v (fun _ => 1#1) false h j = v l := by
  rw [storeIdx_eq]
  exact puts_hit _ _ _ l j (fun a => by match a with | ⟨0, _⟩ => exact hj) (fun l' hl => hd l' (hl 0)) _ _ (Or.inl (List.mem_finRange _))

/-- Elsewhere a scatter leaves what was there. -/
theorem storeIdx_miss {n : ℕ} {e : EltTy} (f : Vec F ⟨1, ![n]⟩ e) (I : IVec S16 32) (v : Vec F S16 e)
    (h : ∀ a x, ((![I] : Fin 1 → IVec S16 32) a x).toNat < (⟨1, ![n]⟩ : Shape).size a) (j : (⟨1, ![n]⟩ : Shape).Idx)
    (hj : ∀ l, (j 0).val ≠ (I l).toNat) :
    storeIdx (F := F) f ![I] v (fun _ => 1#1) false h j = f j := by
  rw [storeIdx_eq]
  exact puts_miss _ _ _ j (fun l => ⟨0, hj l⟩) _ _

/-! ## The build loop's words -/

/-- The lane numbers. -/
abbrev lanes : IVec S16 32 := iota .scVector S16 32 [0] iota_S16_d0_w32_scVector

/-- The position in the chunk of group `t`'s lane. -/
abbrev nV (t : ℕ) : IVec S16 32 := addi (broadcast S16 (BitVec.ofNat 32 (16 * t))) lanes

theorem lanes_toNat (l : S16.Idx) : (lanes l).toNat = (l 0).val := by
  show (BitVec.ofNat 32 (0 * 16 + (l 0).val)).toNat = _
  have h16 : (l 0).val < 16 := (l 0).isLt
  rw [BitVec.toNat_ofNat, Nat.mod_eq_of_lt] <;> omega

theorem nV_toNat {t : ℕ} (ht : t < 8) (l : S16.Idx) : (nV t l).toNat = 16 * t + (l 0).val := by
  have h16 : (l 0).val < 16 := (l 0).isLt
  show (IntOp.addi (BitVec.ofNat 32 (16 * t)) (lanes l)).toNat = _
  have h1 : (BitVec.ofNat 32 (16 * t)).toNat = 16 * t := by rw [BitVec.toNat_ofNat, Nat.mod_eq_of_lt]; omega
  rw [add_toNat, h1, lanes_toNat]
  rw [h1, lanes_toNat]; omega

theorem nV_lt {t : ℕ} (ht : t < 8) (l : S16.Idx) : 16 * t + (l 0).val < 128 := by
  have h16 : (l 0).val < 16 := (l 0).isLt
  omega

theorem pay2_eq (t : Fin k1_t2_loop.trips) : k1_pay2 lanes 0#32 1#32 t = nV t.val := by
  have e : (Scalar.muli (Scalar.addi 0#32 (Scalar.muli (Scf.iv 0#32 1#32 t.val) 1#32)) 16#32 : BitVec 32) = BitVec.ofNat 32 (16 * t.val) := by
    simp only [Scalar.muli, Scalar.addi, IntOp.muli, IntOp.addi, Scf.iv]
    apply BitVec.eq_of_toNat_eq
    simp [BitVec.toNat_mul, BitVec.toNat_ofNat]
    omega
  unfold k1_pay2
  simp only [e]

theorem pay25_eq (t : Fin k1_t3_loop.trips) : k1_pay25 lanes 0#32 1#32 t = nV t.val := pay2_eq t

/-- A word of a flat index's lane. -/
theorem pay27_eq (v : Vec F S16 .i32) (hv : ∀ l, (v l).toNat < 2 ^ 20) : k1_pay27 v = fun l => yW (v l) := by
  funext l
  have h := hv l
  apply BitVec.eq_of_toNat_eq
  show (IntOp.shrsi .vector (IntOp.andi (v l) 262143#32) 9#32).toNat = _
  have h1 : (IntOp.andi (v l) 262143#32).toNat = (v l).toNat % 2 ^ 18 := and_toNat _ _ 18 rfl
  have h2 : (yW (v l)).toNat = (v l).toNat / 512 % 512 := by
    rw [yW, BitVec.toNat_ofNat, Nat.mod_eq_of_lt]; omega
  rw [shr_toNat _ _ (by decide) (by rw [h1]; omega), h1, h2]
  show (v l).toNat % 2 ^ 18 / 2 ^ 9 = _
  omega

theorem pay28_toNat (v : Vec F S16 .i32) (l : S16.Idx) : (k1_pay28 v l).toNat = (v l).toNat % 512 := by
  show (IntOp.andi (IntOp.andi (v l) 262143#32) 511#32).toNat = _
  rw [and_toNat _ _ 9 rfl, and_toNat _ _ 18 rfl]
  omega

theorem pay28_eq (v : Vec F S16 .i32) : k1_pay28 v = fun l => xW (v l) := by
  funext l
  apply BitVec.eq_of_toNat_eq
  rw [pay28_toNat, xW, BitVec.toNat_ofNat]
  omega

/-- The offset in the gathered block of a lane's patch. -/
theorem pay29_toNat {t : ℕ} (ht : t < 8) (v : Vec F S16 .i32) (l : S16.Idx) :
    (k1_pay29 (nV t) v l).toNat = (16 * t + (l 0).val) * 192 + ((v l).toNat % 512 + 1) % 16 := by
  have h16 := nV_lt ht l
  show (IntOp.addi (IntOp.muli (nV t l) 192#32) (IntOp.andi (IntOp.addi (k1_pay28 v l) 1#32) 15#32)).toNat = _
  have h0 := pay28_toNat v l
  have h1 : (IntOp.addi (k1_pay28 v l) 1#32).toNat = (v l).toNat % 512 + 1 := by
    rw [add_toNat, h0]; · rfl
    · rw [h0]; show _ + 1 < _; omega
  have h2 : (IntOp.andi (IntOp.addi (k1_pay28 v l) 1#32) 15#32).toNat = ((v l).toNat % 512 + 1) % 16 := by
    rw [and_toNat _ _ 4 rfl, h1]; rfl
  have h3 : (IntOp.muli (nV t l) 192#32).toNat = (16 * t + (l 0).val) * 192 := by
    rw [mul_toNat, nV_toNat ht]; · rfl
    · rw [nV_toNat ht]; show _ * 192 < _; omega
  rw [add_toNat, h2, h3]
  rw [h2, h3]; omega

/-- The row of the padded map for the first block row of a lane's patch. -/
theorem pay3_toNat (v : Vec F S16 .i32) (l : S16.Idx) (hv : (v l).toNat < 2 ^ 20) :
    (k1_pay3 v l).toNat = (v l).toNat / 262144 * 20800 + ((v l).toNat / 512 % 512 + 1) * 40 + ((v l).toNat % 512 + 1) / 16 := by
  show (IntOp.addi (IntOp.addi (IntOp.muli (IntOp.shrsi .vector (v l) 18#32) 20800#32)
    (IntOp.muli (IntOp.addi (k1_pay27 v l) 1#32) 40#32))
    (IntOp.shrsi .vector (IntOp.addi (k1_pay28 v l) 1#32) 4#32)).toNat = _
  have hx := pay28_toNat v l
  have hy : (k1_pay27 v l).toNat = (v l).toNat / 512 % 512 := by
    show (IntOp.shrsi .vector (IntOp.andi (v l) 262143#32) 9#32).toNat = _
    have h1 : (IntOp.andi (v l) 262143#32).toNat = (v l).toNat % 2 ^ 18 := and_toNat _ _ 18 rfl
    rw [shr_toNat _ _ (by decide) (by rw [h1]; omega), h1]
    show (v l).toNat % 2 ^ 18 / 2 ^ 9 = _
    omega
  have hb : (IntOp.shrsi .vector (v l) 18#32).toNat = (v l).toNat / 262144 := by
    rw [shr_toNat _ _ (by decide) (by omega)]; rfl
  have hx1 : (IntOp.addi (k1_pay28 v l) 1#32).toNat = (v l).toNat % 512 + 1 := by
    rw [add_toNat, hx]; · rfl
    · rw [hx]; show _ + 1 < _; omega
  have hy1 : (IntOp.addi (k1_pay27 v l) 1#32).toNat = (v l).toNat / 512 % 512 + 1 := by
    rw [add_toNat, hy]; · rfl
    · rw [hy]; show _ + 1 < _; omega
  have hc : (IntOp.shrsi .vector (IntOp.addi (k1_pay28 v l) 1#32) 4#32).toNat = ((v l).toNat % 512 + 1) / 16 := by
    rw [shr_toNat _ _ (by decide) (by rw [hx1]; omega), hx1]; rfl
  have hbm : (IntOp.muli (IntOp.shrsi .vector (v l) 18#32) 20800#32).toNat = (v l).toNat / 262144 * 20800 := by
    rw [mul_toNat, hb]; · rfl
    · rw [hb]; show _ * 20800 < _; omega
  have hym : (IntOp.muli (IntOp.addi (k1_pay27 v l) 1#32) 40#32).toNat = ((v l).toNat / 512 % 512 + 1) * 40 := by
    rw [mul_toNat, hy1]; · rfl
    · rw [hy1]; show _ * 40 < _; omega
  have h1 : (IntOp.addi (IntOp.muli (IntOp.shrsi .vector (v l) 18#32) 20800#32) (IntOp.muli (IntOp.addi (k1_pay27 v l) 1#32) 40#32)).toNat
      = (v l).toNat / 262144 * 20800 + ((v l).toNat / 512 % 512 + 1) * 40 := by
    rw [add_toNat, hbm, hym]; rw [hbm, hym]; omega
  rw [add_toNat, h1, hc]; rw [h1, hc]; omega

/-- The value and the place of the `k`-th scatter of the build loop. -/
abbrev stV (b : IVec S16 32) (k : ℕ) : IVec S16 32 :=
  addi (addi b (broadcast S16 (BitVec.ofNat 32 (k / 2 * 40)))) (broadcast S16 (BitVec.ofNat 32 (k % 2)))
abbrev stA (n : IVec S16 32) (k : ℕ) : IVec S16 32 := addi (muli n (broadcast S16 12#32)) (broadcast S16 (BitVec.ofNat 32 k))

theorem stA_toNat {t : ℕ} (ht : t < 8) {k : ℕ} (hk : k < 12) (l : S16.Idx) :
    (stA (nV t) k l).toNat = (16 * t + (l 0).val) * 12 + k := by
  have h16 := nV_lt ht l
  show (IntOp.addi (IntOp.muli (nV t l) 12#32) (BitVec.ofNat 32 k)).toNat = _
  have h1 : (IntOp.muli (nV t l) 12#32).toNat = (16 * t + (l 0).val) * 12 := by
    rw [mul_toNat, nV_toNat ht]; · rfl
    · rw [nV_toNat ht]; show _ * 12 < _; omega
  have h2 : (BitVec.ofNat 32 k).toNat = k := by rw [BitVec.toNat_ofNat, Nat.mod_eq_of_lt]; omega
  rw [add_toNat, h1, h2]; rw [h1, h2]; omega

theorem stV_eq (v : Vec F S16 .i32) {k : ℕ} (hk : k < 12) (l : S16.Idx) (hv : (v l).toNat < 2 ^ 20) :
    stV (k1_pay3 v) k l = BitVec.ofNat 32 (rowN (v l).toNat k) := by
  apply BitVec.eq_of_toNat_eq
  have hr := rowN_lt hv hk
  rw [BitVec.toNat_ofNat, Nat.mod_eq_of_lt (show rowN (v l).toNat k < 2 ^ 32 by omega)]
  show (IntOp.addi (IntOp.addi (k1_pay3 v l) (BitVec.ofNat 32 (k / 2 * 40))) (BitVec.ofNat 32 (k % 2))).toNat = _
  have h0 := pay3_toNat v l hv
  have h1 : (BitVec.ofNat 32 (k / 2 * 40)).toNat = k / 2 * 40 := by rw [BitVec.toNat_ofNat, Nat.mod_eq_of_lt]; omega
  have h2 : (BitVec.ofNat 32 (k % 2)).toNat = k % 2 := by rw [BitVec.toNat_ofNat, Nat.mod_eq_of_lt]; omega
  have h3 : (IntOp.addi (k1_pay3 v l) (BitVec.ofNat 32 (k / 2 * 40))).toNat
      = (v l).toNat / 262144 * 20800 + ((v l).toNat / 512 % 512 + 1) * 40 + ((v l).toNat % 512 + 1) / 16 + k / 2 * 40 := by
    rw [add_toNat, h0, h1]; rw [h0, h1]; omega
  rw [add_toNat, h3, h2, rowN]
  rw [h3, h2]; omega

/-! ## The loops' invariants -/

/-- The list of rows after `t` groups of the build loop and `m` scatters of the next. -/
def GiInv (ig : S128.Idx → BitVec 32) (t m : ℕ) (gi : S1536.Idx → BitVec 32) : Prop :=
  ∀ j : Fin 1536, (j.val / 12 < 16 * t ∨ (j.val / 12 < 16 * (t + 1) ∧ j.val % 12 < m)) →
    gi (ix1 j) = BitVec.ofNat 32 (rowN (ig (ix1 ⟨j.val / 12, by omega⟩)).toNat (j.val % 12))

/-- What an indexed load of group `t` finds in the chunk. -/
abbrev grp (ig : S128.Idx → BitVec 32) (t : ℕ) : Vec F S16 .i32 := fun l => ig (ix1 (Fin.ofNat 128 (16 * t + (l 0).val)))

theorem nV_inb {t : ℕ} (ht : t < 8) : ∀ a x, ((![nV t] : Fin 1 → IVec S16 32) a x).toNat < S128.size a := by
  intro a x
  match a with
  | ⟨0, _⟩ => show (nV t x).toNat < 128; rw [nV_toNat ht]; exact nV_lt ht x

theorem load_grp (ig : S128.Idx → BitVec 32) {t : ℕ} (ht : t < 8) (h) : loadIdx (F := F) (e := .i32) ig ![nV t] h = grp (F := F) ig t := by
  funext l
  show ig _ = ig _
  congr 1
  funext a
  match a with
  | ⟨0, _⟩ =>
    apply Fin.ext
    show (nV t l).toNat = (16 * t + (l 0).val) % 128
    rw [nV_toNat ht, Nat.mod_eq_of_lt (nV_lt ht l)]

theorem stA_inb {t : ℕ} (ht : t < 8) {k : ℕ} (hk : k < 12) : ∀ a x, ((![stA (nV t) k] : Fin 1 → IVec S16 32) a x).toNat < S1536.size a := by
  intro a x
  match a with
  | ⟨0, _⟩ => show (stA (nV t) k x).toNat < 1536; rw [stA_toNat ht hk]; have := nV_lt ht x; omega

/-- One scatter of the build loop extends the list. -/
theorem GiInv.step {ig : S128.Idx → BitVec 32} (hig : ∀ p, (ig p).toNat < 2 ^ 20) {t m : ℕ} (ht : t < 8) (hm : m < 12) {gi : S1536.Idx → BitVec 32}
    (H : GiInv ig t m gi) (h) :
    GiInv ig t (m + 1) (storeIdx (F := F) (e := .i32) gi ![stA (nV t) m] (stV (k1_pay3 (grp (F := F) ig t)) m) (fun _ => 1#1) false h) := by
  intro j hj
  by_cases hit : 16 * t ≤ j.val / 12 ∧ j.val / 12 < 16 * (t + 1) ∧ j.val % 12 = m
  · obtain ⟨h1, h2, h3⟩ := hit
    have hl : j.val / 12 - 16 * t < 16 := by omega
    rw [storeIdx_hit _ _ _ _ (ix1 ⟨j.val / 12 - 16 * t, hl⟩) _ (by
        rw [stA_toNat ht hm]; show j.val = (16 * t + (j.val / 12 - 16 * t)) * 12 + m; have : 16 * t + (j.val / 12 - 16 * t) = j.val / 12 := by { omega }; rw [this]; omega) (by
        intro l' hl'
        rw [stA_toNat ht hm, stA_toNat ht hm] at hl'
        rw [eq_ix1 l']
        congr 1
        apply Fin.ext
        have : (l' 0).val = j.val / 12 - 16 * t := by
          have : (16 * t + (l' 0).val) * 12 + m = (16 * t + (j.val / 12 - 16 * t)) * 12 + m := hl'
          omega
        exact this),
      stV_eq _ hm _ (hig _), h3]
    have e : (Fin.ofNat 128 (16 * t + (j.val / 12 - 16 * t)) : Fin 128) = ⟨j.val / 12, by omega⟩ := by
      apply Fin.ext; show (16 * t + (j.val / 12 - 16 * t)) % 128 = j.val / 12; rw [Nat.mod_eq_of_lt] <;> omega
    show BitVec.ofNat 32 (rowN (ig (ix1 (Fin.ofNat 128 (16 * t + (j.val / 12 - 16 * t))))).toNat m) = _
    rw [e]
  · rw [storeIdx_miss _ _ _ _ _ (by
      intro l
      rw [stA_toNat ht hm]
      have hl := nV_lt ht l
      have h16 : (l 0).val < 16 := (l 0).isLt
      show j.val ≠ _
      intro e
      exact hit ⟨by omega, by omega, by omega⟩)]
    exact H j (by omega)

theorem GiInv.next {ig : S128.Idx → BitVec 32} {t : ℕ} {gi : S1536.Idx → BitVec 32} (H : GiInv ig t 12 gi) : GiInv ig (t + 1) 0 gi := by
  intro j hj
  exact H j (by omega)

/-- The gathered block: row `j` is the row of the padded map its list entry names. -/
def DataOK (P : S83200x16.Idx → F .f32) (ig : S128.Idx → BitVec 32) (D : S1536x16.Idx → F .f32) : Prop :=
  ∀ (j : Fin 1536) (c : Fin 16), D (ix2 j c) = P (ix2 (Fin.ofNat 83200 (rowN (ig (ix1 ⟨j.val / 12, by omega⟩)).toNat (j.val % 12))) c)

/-- Results of the compute loop after `t` groups. -/
def OutInv (tg : S128.Idx → F .f32) (t : ℕ) (o : S128.Idx → F .f32) : Prop :=
  ∀ p : Fin 128, p.val < 16 * t → o (ix1 p) = tg (ix1 p)

/-- One scatter of the compute loop extends a result. -/
theorem OutInv.step {tg : S128.Idx → F .f32} {t : ℕ} (ht : t < 8) {o : S128.Idx → F .f32} (H : OutInv tg t o) {v : Vec F S16 .f32}
    (hv : ∀ l : S16.Idx, v l = tg (ix1 (Fin.ofNat 128 (16 * t + (l 0).val)))) (h) :
    OutInv tg (t + 1) (storeIdx (F := F) (e := .f32) o ![nV t] v (fun _ => 1#1) false h) := by
  intro p hp
  by_cases hit : 16 * t ≤ p.val
  · have hl : p.val - 16 * t < 16 := by omega
    rw [storeIdx_hit _ _ _ _ (ix1 ⟨p.val - 16 * t, hl⟩) _ (by
        rw [nV_toNat ht]; show p.val = 16 * t + (p.val - 16 * t); omega) (by
        intro l' hl'
        rw [nV_toNat ht, nV_toNat ht] at hl'
        rw [eq_ix1 l']
        congr 1
        apply Fin.ext
        have : 16 * t + (l' 0).val = 16 * t + (p.val - 16 * t) := hl'
        show (l' 0).val = p.val - 16 * t
        omega), hv]
    congr 2
    apply Fin.ext
    show (16 * t + (p.val - 16 * t)) % 128 = p.val
    rw [Nat.mod_eq_of_lt] <;> omega
  · rw [storeIdx_miss _ _ _ _ _ (by
      intro l
      rw [nV_toNat ht]
      show p.val ≠ _
      omega)]
    exact H p (by omega)

end Cert.KernelIdeal.Tile
-- ==== Proof.Iter.lean ====
/-
  One group of the compute loop: sixteen keypoints' results from the gathered rows.
-/
module

public import proofs.«01_k».proof.Proof.Compute
public import proofs.«01_k».proof.Proof.Words

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The patch vectors of group `t`. -/
def pvs (P : S83200x16.Idx → F .f32) (ig : S128.Idx → BitVec 32) (t : ℕ) : ℕ → Vec F S16 .f32 := fun k l => patchP P (grp (F := F) ig t l) k
/-- Its columns -/
def xs (ig : S128.Idx → BitVec 32) (t : ℕ) : IVec S16 32 := fun l => xW (grp (F := F) ig t l)
/-- and rows. -/
def ys (ig : S128.Idx → BitVec 32) (t : ℕ) : IVec S16 32 := fun l => yW (grp (F := F) ig t l)

/-- The place of patch entry `k` of a lane in the gathered block. -/
theorem place_toNat {t : ℕ} (ht : t < 8) (v : Vec F S16 .i32) (l : S16.Idx) {k : ℕ} (hk : k < 36) :
    (addi (k1_pay29 (nV t) v) (broadcast S16 (BitVec.ofNat 32 (32 * (k / 6) + k % 6))) l).toNat
      = (16 * t + (l 0).val) * 192 + ((v l).toNat % 512 + 1) % 16 + (32 * (k / 6) + k % 6) := by
  have h0 := pay29_toNat ht v l
  have hl := nV_lt ht l
  have h1 : (BitVec.ofNat 32 (32 * (k / 6) + k % 6)).toNat = 32 * (k / 6) + k % 6 := by
    rw [BitVec.toNat_ofNat, Nat.mod_eq_of_lt]; omega
  show (IntOp.addi (k1_pay29 (nV t) v l) (BitVec.ofNat 32 (32 * (k / 6) + k % 6))).toNat = _
  rw [add_toNat, h0, h1]; rw [h0, h1]; omega

theorem rw_toNat {t : ℕ} (ht : t < 8) (v : Vec F S16 .i32) (l : S16.Idx) {k : ℕ} (hk : k < 36) :
    (rw (k1_pay29 (nV t) v) k l).toNat = (16 * t + (l 0).val) * 12 + (2 * (k / 6) + (((v l).toNat % 512 + 1) % 16 + k % 6) / 16) := by
  have h0 := place_toNat ht v l hk
  have hl := nV_lt ht l
  show (IntOp.shrsi .vector (addi (k1_pay29 (nV t) v) (broadcast S16 (BitVec.ofNat 32 (32 * (k / 6) + k % 6))) l) 4#32).toNat = _
  rw [shr_toNat _ _ (by decide) (by rw [h0]; omega), h0]
  show _ / 2 ^ 4 = _
  omega

theorem cl_toNat {t : ℕ} (ht : t < 8) (v : Vec F S16 .i32) (l : S16.Idx) {k : ℕ} (hk : k < 36) :
    (cl (k1_pay29 (nV t) v) k l).toNat = (((v l).toNat % 512 + 1) % 16 + k % 6) % 16 := by
  have h0 := place_toNat ht v l hk
  have hl := nV_lt ht l
  show (IntOp.andi (addi (k1_pay29 (nV t) v) (broadcast S16 (BitVec.ofNat 32 (32 * (k / 6) + k % 6))) l) 15#32).toNat = _
  rw [and_toNat _ _ 4 rfl, h0]
  omega

variable (i : grid1.Coords) (d : Dev nD) (arg2 : Memref sig .scVector .hbm S83200x16 .f32) (harg2 : arg2.IsWhole) (arg3 : Memref sig .scVector .hbm S20480 .i32) (harg3 : arg3.IsWhole) (arg4 : Memref sig .scVector .hbm S20480 .f32) (harg4 : arg4.IsWhole) (arg5 : Memref sig .scVector .hbm S20480 .f32) (harg5 : arg5.IsWhole) (arg6 : Memref sig .scVector .hbm S20480 .f32) (harg6 : arg6.IsWhole) (arg7 : Memref sig .scVector .hbm S20480 .f32) (harg7 : arg7.IsWhole) (arg8 : Memref sig .scVector .vmem S128 .i32) (harg8 : arg8.IsWhole) (arg9 : Memref sig .scVector .vmem S1536 .i32) (harg9 : arg9.IsWhole) (arg10 : Memref sig .scVector .vmem S1536x16 .f32) (harg10 : arg10.IsWhole) (arg11 : Memref sig .scVector .vmem S128 .f32) (harg11 : arg11.IsWhole) (arg12 : Memref sig .scVector .vmem S128 .f32) (harg12 : arg12.IsWhole) (arg13 : Memref sig .scVector .vmem S128 .f32) (harg13 : arg13.IsWhole) (arg14 : Memref sig .scVector .vmem S128 .f32) (harg14 : arg14.IsWhole) (arg15 : DmaSems sig S_) (v83_r0 : DmaSems sig S_) (v83_r1 : DmaSems sig S_) (v83_r2 : DmaSems sig S_) (v83_r3 : DmaSems sig S_) (v83_r4 : DmaSems sig S_)

variable {i d arg10} in
/-- The gathered block holds each lane's patch. -/
theorem patches {P : S83200x16.Idx → F .f32} {ig : S128.Idx → BitVec 32} {t : ℕ} (ht : t < 8)
    {f : Buf (Elt F) ((arg10.access (.whole S1536x16)).loc (V' d i))} (HD : DataOK P ig ((arg10.access (.whole S1536x16)).read (Elt F) f)) :
    Patches i d arg10 f (k1_pay29 (nV t) (grp (F := F) ig t)) (pvs P ig t) := by
  intro k hk
  have hr := fun l => rw_toNat ht (grp (F := F) ig t) l hk
  have hc := fun l => cl_toNat ht (grp (F := F) ig t) l hk
  refine ⟨fun a x => ?_, fun h => ?_⟩
  · match a with
    | ⟨0, _⟩ => show (rw _ k x).toNat < 1536; rw [hr]; have := nV_lt ht x; omega
    | ⟨1, _⟩ => show (cl _ k x).toNat < 16; rw [hc]; omega
  · funext l
    have hl := nV_lt ht l
    have hb : (16 * t + (l 0).val) * 12 + (2 * (k / 6) + (((grp (F := F) ig t l).toNat % 512 + 1) % 16 + k % 6) / 16) < 1536 := by omega
    have e := HD ⟨_, hb⟩ ⟨(((grp (F := F) ig t l).toNat % 512 + 1) % 16 + k % 6) % 16, by omega⟩
    show (arg10.access (.whole S1536x16)).read (Elt F) f _ = _
    refine Eq.trans (congrArg _ ?_) (e.trans ?_)
    · funext a
      match a with
      | ⟨0, _⟩ => exact Fin.ext (hr l)
      | ⟨1, _⟩ => exact Fin.ext (hc l)
    · have e1 : (⟨((16 * t + (l 0).val) * 12 + (2 * (k / 6) + (((grp (F := F) ig t l).toNat % 512 + 1) % 16 + k % 6) / 16)) / 12, by omega⟩ : Fin 128)
          = Fin.ofNat 128 (16 * t + (l 0).val) := by
        apply Fin.ext
        show _ = (16 * t + (l 0).val) % 128
        rw [Nat.mod_eq_of_lt hl]
        show ((16 * t + (l 0).val) * 12 + (2 * (k / 6) + (((grp (F := F) ig t l).toNat % 512 + 1) % 16 + k % 6) / 16)) / 12 = _
        omega
      have e2 : ((16 * t + (l 0).val) * 12 + (2 * (k / 6) + (((grp (F := F) ig t l).toNat % 512 + 1) % 16 + k % 6) / 16)) % 12
          = 2 * (k / 6) + (((grp (F := F) ig t l).toNat % 512 + 1) % 16 + k % 6) / 16 := by omega
      have e3 : ig (ix1 (⟨((16 * t + (l 0).val) * 12 + (2 * (k / 6) + (((grp (F := F) ig t l).toNat % 512 + 1) % 16 + k % 6) / 16)) / 12, by omega⟩ : Fin 128))
          = grp (F := F) ig t l := congrArg (fun z => ig (ix1 z)) e1
      dsimp only
      rw [e2, e3]
      rfl

/-- The chunk's indices, a share of them. -/
def idxPts (i : grid1.Coords) (d : Dev nD) (arg8 : Memref sig .scVector .vmem S128 .i32) (q : PosShare TreeShare) (f : Buf (Elt F) ((arg8.access (.whole S128)).loc (V' d i))) : sProp (MM F) :=
  (arg8.access (.whole S128)).loc (V' d i) ↦{q} f

variable {P : S83200x16.Idx → F .f32} {ig : S128.Idx → BitVec 32} {q q' : PosShare TreeShare} {f : Buf (Elt F) ((arg10.access (.whole S1536x16)).loc (V' d i))}
  {f8 : Buf (Elt F) ((arg8.access (.whole S128)).loc (V' d i))}

theorem chk14 {t : ℕ} (ht : t < 8) : k1_chk14 (nV t) :=
  ⟨nV_inb ht, nV_inb ht, nV_inb ht, nV_inb ht, nV_inb ht⟩

/-- The first window: the lanes' flat indices and the first two patch entries. -/
theorem wp_part4 (t : Fin k1_t3_loop.trips) (h8 : (arg8.access (.whole S128)).read (Elt F) f8 = ig)
    (HD : DataOK P ig ((arg10.access (.whole S1536x16)).read (Elt F) f)) {α : Type} {kk} {Q : α → sProp (MM F)} :
    iprop(idxPts i d arg8 q' f8 ∗ dataPts i d arg10 q f)
      ⊢ iprop((iprop(idxPts i d arg8 q' f8 ∗ dataPts i d arg10 q f)
          -∗ wp frame (wpE (defs₀ (F := F)) 𝒱₀ (V' d i) none) Set.univ (kk ⟨nV t.val, chk14 t.isLt, k1_pay27 (grp (F := F) ig t.val), k1_pay28 (grp (F := F) ig t.val),
            k1_pay29 (nV t.val) (grp (F := F) ig t.val), pvs P ig t.val 0, pvs P ig t.val 1, k1_pay36 (nV t.val) (grp (F := F) ig t.val), k1_pay37 (nV t.val) (grp (F := F) ig t.val), k1_pay38⟩) Q)
        -∗ wp frame (wpE (defs₀ (F := F)) 𝒱₀ (V' d i) none) Set.univ (k1_part4 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 lanes 0#32 1#32 t >>= kk) Q) := by
  have ht : t.val < 8 := t.isLt
  have H := patches (i := i) (d := d) (arg10 := arg10) ht HD
  rw [k1_part4_eq_skeleton]
  unfold k1_part4_skel idxPts dataPts
  have hv := pay25_eq t
  generalize k1_pay25 lanes 0#32 1#32 t = v at hv
  subst hv
  simp only [Prog.lift, bind_assoc, Prog.bind_op, Prog.bind_ret, pure_bind]
  iintro ⟨Hi, Hd⟩ HQ
  iapply (wp_loadKnown (c := V' d i) (base := arg8) (g := grp (F := F) ig t.val) (chk14 ht) (by rw [h8]; exact load_grp ig ht)) $$ Hi; iintro Hi
  iapply (wp_patch (arg10 := arg10) H (k := 0) (by decide) rfl rfl rfl) $$ Hd; iintro Hd
  iapply (wp_patch (arg10 := arg10) H (k := 1) (by decide) rfl rfl rfl) $$ Hd; iintro Hd
  iapply HQ $$ [$Hi $Hd]

/-- The whole group's arithmetic: the vectors the group stores. -/
theorem wp_part34 (t : Fin k1_t3_loop.trips) (hig : ∀ p, (ig p).toNat < 2 ^ 20) (h8 : (arg8.access (.whole S128)).read (Elt F) f8 = ig)
    (HD : DataOK P ig ((arg10.access (.whole S1536x16)).read (Elt F) f)) {α : Type} {kk} {Q : α → sProp (MM F)} :
    iprop(idxPts i d arg8 q' f8 ∗ dataPts i d arg10 q f)
      ⊢ iprop((iprop(idxPts i d arg8 q' f8 ∗ dataPts i d arg10 q f)
          -∗ wp frame (wpE (defs₀ (F := F)) 𝒱₀ (V' d i) none) Set.univ (kk ⟨nV t.val, chk14 t.isLt, pvs P ig t.val 34, pvs P ig t.val 35, disp (pvs P ig t.val), toF (xs (F := F) ig t.val),
            kpx (pvs P ig t.val) (xs (F := F) ig t.val), kpy (pvs P ig t.val) (ys (F := F) ig t.val), ixx (pvs P ig t.val) (xs (F := F) ig t.val), wy (pvs P ig t.val) (ys (F := F) ig t.val) 5,
            sc (pvs P ig t.val) (xs (F := F) ig t.val) (ys (F := F) ig t.val) 34, k1_pay240 (toF (xs (F := F) ig t.val)) (ixx (pvs P ig t.val) (xs (F := F) ig t.val)), k1_pay241⟩) Q)
        -∗ wp frame (wpE (defs₀ (F := F)) 𝒱₀ (V' d i) none) Set.univ (k1_part34 (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 lanes 0#32 1#32 t >>= kk) Q) := by
  have ht : t.val < 8 := t.isLt
  have H := patches (i := i) (d := d) (arg10 := arg10) ht HD
  rw [k1_part34_eq_skeleton]
  unfold k1_part34_skel
  simp only [bind_assoc]
  iintro ⟨Hi, Hd⟩ HQ
  iapply (wp_part4 i d (t := t) (h8 := h8) (HD := HD)) $$ [$Hi $Hd]; iintro ⟨Hi, Hd⟩
  rw [pay27_eq _ (fun l => hig _), pay28_eq, show (fun l => yW (grp (F := F) ig t.val l)) = ys (F := F) ig t.val from rfl, show (fun l => xW (grp (F := F) ig t.val l)) = xs (F := F) ig t.val from rfl]
  dsimp only
  iapply (wp_part5 (H := H) (hr2 := rfl) (hc2 := rfl)) $$ Hd; iintro Hd
  dsimp only
  iapply (wp_part6 (H := H) (hr8 := rfl) (hc8 := rfl)) $$ Hd; iintro Hd
  dsimp only
  iapply (wp_part7 (H := H) (hr13 := rfl) (hc13 := rfl)) $$ Hd; iintro Hd
  dsimp only
  iapply (wp_part8 (H := H) (hr19 := rfl) (hc19 := rfl)) $$ Hd; iintro Hd
  dsimp only
  iapply (wp_part9 (H := H) (hr24 := rfl) (hc24 := rfl)) $$ Hd; iintro Hd
  dsimp only
  iapply (wp_part10 (H := H)) $$ Hd; iintro Hd
  dsimp only
  iapply (wp_part11 (H := H) (hr35 := rfl) (hc35 := rfl)) $$ Hd; iintro Hd
  simp only [part12, part13, part14, part15, part16, part17, part18, part19, part20, part21, part22, part23, part24, part25, part26, part27, part28, part29, part30, part31, part32, part33, pure_bind]
  iapply HQ $$ [$Hi $Hd]

/-! ## Scatters -/

/-- A whole buffer whose contents, read through `m`, satisfy `R`. -/
def holds (c : Thread nD τ) {s : Shape} {e : EltTy} (m : Memref sig c.2.kind .vmem s e) (R : (s.Idx → Elt F e) → Prop) : sProp (MM F) :=
  iprop(∃ f, ⌜R ((m.access (.whole s)).read (Elt F) f)⌝ ∗ (m.access (.whole s)).loc c ↦[(m.access (.whole s)).set]{fullShare} f)

/-- A scatter that takes contents satisfying `R` to contents satisfying `R'`. -/
theorem wp_put {c : Thread nD τ} {n : Fin 1 → ℕ} {s : Shape} {e : EltTy} {base : Memref sig c.2.kind .vmem s e} {idxs : Fin s.rank → IVec ⟨1, n⟩ 32} {v : Vec F ⟨1, n⟩ e}
    {mask : IVec ⟨1, n⟩ 1} {add : Bool} {h : ∀ a x, (idxs a x).toNat < s.size a} {hs : (base.access (.whole s)).Stores Finset.univ}
    {α : Type} {k : PUnit → Prog (TpuEff nD τ sig (Elt F) Λ₀ c.2) α} {Q : α → sProp (MM F)} {R : (s.Idx → Elt F e) → Prop} (R' : (s.Idx → Elt F e) → Prop)
    (hR : ∀ g, R g → R' (storeIdx (F := F) g idxs v mask add h)) :
    holds c base R ⊢ iprop((holds c base R' -∗ wp frame (wpE (defs₀ (F := F)) 𝒱₀ c none) Set.univ (k ⟨⟩) Q)
      -∗ wp frame (wpE (defs₀ (F := F)) 𝒱₀ c none) Set.univ (SparseCore.vectorStoreIdx base idxs v mask add h hs >>= k) Q) := by
  unfold holds
  iintro ⟨%f, %hf, Hf⟩ HQ
  iapply (SparseCore.wp_vectorStoreIdx (defs := defs₀ (F := F)) (Ix := HIx 1) (Name := ℕ) (U := UU) (Lvl := ℕ) 𝒱₀ c none Set.univ) $$ Hf
  iintro Hf
  iapply HQ
  iexists ((base.access (.whole s)).write (Elt F) f (storeIdx ((base.access (.whole s)).read (Elt F) f) idxs v mask add h) Finset.univ); isplitr
  · ipureintro
    rw [View.read_write_univ]
    exact hR _ hf
  · iexact Hf

/-- An assumed fact that holds, then such a scatter. -/
theorem wp_checkPut {c : Thread nD τ} {n : Fin 1 → ℕ} {s : Shape} {e : EltTy} {base : Memref sig c.2.kind .vmem s e} {idxs : Fin s.rank → IVec ⟨1, n⟩ 32} {v : Vec F ⟨1, n⟩ e}
    {mask : IVec ⟨1, n⟩ 1} {add : Bool} {P : Prop} {dec : Decidable P} (hP : P) {h : P → ∀ a x, (idxs a x).toNat < s.size a} {hs : (base.access (.whole s)).Stores Finset.univ}
    {α : Type} {k : PLift P → PUnit → Prog (TpuEff nD τ sig (Elt F) Λ₀ c.2) α} {Q : α → sProp (MM F)} {R : (s.Idx → Elt F e) → Prop} (R' : (s.Idx → Elt F e) → Prop)
    (hR : ∀ g, R g → ∀ h, R' (storeIdx (F := F) g idxs v mask add h)) :
    holds c base R ⊢ iprop((holds c base R' -∗ wp frame (wpE (defs₀ (F := F)) 𝒱₀ c none) Set.univ (k ⟨hP⟩ ⟨⟩) Q)
      -∗ wp frame (wpE (defs₀ (F := F)) 𝒱₀ c none) Set.univ (.op (.assume P dec) fun hh => SparseCore.vectorStoreIdx base idxs v mask add (h hh.down) hs >>= k hh) Q) := by
  rw [wp_assume_of _ _ _ _ hP]
  exact wp_put R' (fun g hg => hR g hg _)

/-- One group of the build loop. -/
theorem wp_build (t : Fin k1_t2_loop.trips) (u : BitVec 32) (t1 : Fin k1_t1_loop.trips) (hig : ∀ p, (ig p).toNat < 2 ^ 20) (h8 : (arg8.access (.whole S128)).read (Elt F) f8 = ig) :
    iprop(idxPts i d arg8 q' f8 ∗ holds (V' d i) arg9 (GiInv ig t.val 0))
      ⊢ wp frame (wpE (defs₀ (F := F)) 𝒱₀ (V' d i) none) Set.univ (k1_t2_body (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 u lanes 0#32 1#32 t1 t ⟨⟩)
        (fun _ => iprop(idxPts i d arg8 q' f8 ∗ holds (V' d i) arg9 (GiInv ig (t.val + 1) 0))) := by
  have ht : t.val < 8 := t.isLt
  have hstep : ∀ m, m < 12 → ∀ g, GiInv ig t.val m g → ∀ h, GiInv ig t.val (m + 1) (storeIdx (F := F) (e := .i32) g ![stA (nV t.val) m] (stV (k1_pay3 (grp (F := F) ig t.val)) m) (fun _ => 1#1) false h) :=
    fun m hm g hg h => hg.step hig ht hm h
  unfold k1_t2_body
  rw [k1_part1_eq_skeleton, k1_part2_eq_skeleton, k1_part3_eq_skeleton]
  unfold k1_part1_skel k1_part2_skel k1_part3_skel idxPts
  have hv := pay2_eq t
  dsimp only
  generalize k1_pay2 lanes 0#32 1#32 t = v at hv
  subst hv
  simp only [Prog.lift, bind_assoc, Prog.bind_op, Prog.bind_ret, pure_bind]
  iintro ⟨Hi, Hg⟩
  iapply (wp_loadKnown (c := V' d i) (base := arg8) (g := grp (F := F) ig t.val) (nV_inb ht) (by rw [h8]; exact load_grp ig ht)) $$ Hi; iintro Hi
  iapply (wp_checkPut (c := V' d i) (base := arg9) (stA_inb ht (by decide)) (GiInv ig t.val 1) (hstep 0 (by decide))) $$ Hg; iintro Hg
  iapply (wp_checkPut (c := V' d i) (base := arg9) (stA_inb ht (by decide)) (GiInv ig t.val 2) (hstep 1 (by decide))) $$ Hg; iintro Hg
  iapply (wp_checkPut (c := V' d i) (base := arg9) (stA_inb ht (by decide)) (GiInv ig t.val 3) (hstep 2 (by decide))) $$ Hg; iintro Hg
  iapply (wp_checkPut (c := V' d i) (base := arg9) (stA_inb ht (by decide)) (GiInv ig t.val 4) (hstep 3 (by decide))) $$ Hg; iintro Hg
  iapply (wp_checkPut (c := V' d i) (base := arg9) (stA_inb ht (by decide)) (GiInv ig t.val 5) (hstep 4 (by decide))) $$ Hg; iintro Hg
  iapply (wp_checkPut (c := V' d i) (base := arg9) (h := k1_idx7_inb _) (stA_inb ht (by decide)) (GiInv ig t.val 6) (hstep 5 (by decide))) $$ Hg; iintro Hg
  iapply (wp_checkPut (c := V' d i) (base := arg9) (stA_inb ht (by decide)) (GiInv ig t.val 7) (hstep 6 (by decide))) $$ Hg; iintro Hg
  iapply (wp_checkPut (c := V' d i) (base := arg9) (stA_inb ht (by decide)) (GiInv ig t.val 8) (hstep 7 (by decide))) $$ Hg; iintro Hg
  iapply (wp_checkPut (c := V' d i) (base := arg9) (stA_inb ht (by decide)) (GiInv ig t.val 9) (hstep 8 (by decide))) $$ Hg; iintro Hg
  iapply (wp_checkPut (c := V' d i) (base := arg9) (stA_inb ht (by decide)) (GiInv ig t.val 10) (hstep 9 (by decide))) $$ Hg; iintro Hg
  iapply (wp_checkPut (c := V' d i) (base := arg9) (stA_inb ht (by decide)) (GiInv ig t.val 11) (hstep 10 (by decide))) $$ Hg; iintro Hg
  iapply (wp_checkPut (c := V' d i) (base := arg9) (stA_inb ht (by decide)) (GiInv ig (t.val + 1) 0) (fun g hg h => (hstep 11 (by decide) g hg h).next)) $$ Hg; iintro Hg
  rw [wp_pure]
  imodintro
  isplitl [Hi]; · iexact Hi
  iexact Hg

/-! ## A group of the compute loop -/

/-- The four results of a chunk, as functions of the position. -/
abbrev tX (P : S83200x16.Idx → F .f32) (ig : S128.Idx → BitVec 32) : S128.Idx → F .f32 := fun p => oX P (ig p)
abbrev tY (P : S83200x16.Idx → F .f32) (ig : S128.Idx → BitVec 32) : S128.Idx → F .f32 := fun p => oY P (ig p)
abbrev tS (P : S83200x16.Idx → F .f32) (ig : S128.Idx → BitVec 32) : S128.Idx → F .f32 := fun p => oS P (ig p)
abbrev tD (P : S83200x16.Idx → F .f32) (ig : S128.Idx → BitVec 32) : S128.Idx → F .f32 := fun p => oD P (ig p)

/-- The four result buffers after `t` groups. -/
def outs (i : grid1.Coords) (d : Dev nD) (arg11 arg12 arg13 arg14 : Memref sig .scVector .vmem S128 .f32) (P : S83200x16.Idx → F .f32) (ig : S128.Idx → BitVec 32) (t : ℕ) : sProp (MM F) :=
  iprop(holds (V' d i) arg11 (OutInv (tX P ig) t) ∗ holds (V' d i) arg12 (OutInv (tY P ig) t) ∗ holds (V' d i) arg13 (OutInv (tS P ig) t) ∗ holds (V' d i) arg14 (OutInv (tD P ig) t))

theorem pay1_eq (W : ℕ → Vec F S16 .f32) (X Y : IVec S16 32) :
    k1_pay1 (W 34) (W 35) (toF X) (ixx W X) (wy W Y 5) (sc W X Y 34) (k1_pay240 (toF X) (ixx W X)) k1_pay241 = sc W X Y 36 := rfl

theorem tX_lane (t : ℕ) (l : S16.Idx) : kpx (pvs P ig t) (xs (F := F) ig t) l = tX P ig (ix1 (Fin.ofNat 128 (16 * t + (l 0).val))) := kpx_lane _ _ _ (ix1 0)
theorem tY_lane (t : ℕ) (l : S16.Idx) : kpy (pvs P ig t) (ys (F := F) ig t) l = tY P ig (ix1 (Fin.ofNat 128 (16 * t + (l 0).val))) := kpy_lane _ _ _ (ix1 0)
theorem tS_lane (t : ℕ) (l : S16.Idx) : sc (pvs P ig t) (xs (F := F) ig t) (ys (F := F) ig t) 36 l = tS P ig (ix1 (Fin.ofNat 128 (16 * t + (l 0).val))) := sc_lane _ _ _ _ _ (ix1 0)
theorem tD_lane (t : ℕ) (l : S16.Idx) : disp (pvs P ig t) l = tD P ig (ix1 (Fin.ofNat 128 (16 * t + (l 0).val))) := disp_lane _ _ (ix1 0)

/-- One group of the compute loop. -/
theorem wp_compute (t : Fin k1_t3_loop.trips) (hig : ∀ p, (ig p).toNat < 2 ^ 20) (h8 : (arg8.access (.whole S128)).read (Elt F) f8 = ig)
    (HD : DataOK P ig ((arg10.access (.whole S1536x16)).read (Elt F) f)) :
    iprop(idxPts i d arg8 q' f8 ∗ dataPts i d arg10 q f ∗ outs i d arg11 arg12 arg13 arg14 P ig t.val)
      ⊢ wp frame (wpE (defs₀ (F := F)) 𝒱₀ (V' d i) none) Set.univ (k1_t3_body (F := F) i arg2 harg2 arg3 harg3 arg4 harg4 arg5 harg5 arg6 harg6 arg7 harg7 arg8 harg8 arg9 harg9 arg10 harg10 arg11 harg11 arg12 harg12 arg13 harg13 arg14 harg14 arg15 v83_r0 v83_r1 v83_r2 v83_r3 v83_r4 lanes 0#32 t ⟨⟩)
        (fun _ => iprop(idxPts i d arg8 q' f8 ∗ dataPts i d arg10 q f ∗ outs i d arg11 arg12 arg13 arg14 P ig (t.val + 1))) := by
  have ht : t.val < 8 := t.isLt
  unfold k1_t3_body outs
  dsimp only
  iintro ⟨Hi, Hd, Hx, Hy, Hs, Hdi⟩
  iapply (wp_part34 i d (t := t) (hig := hig) (h8 := h8) (HD := HD)) $$ [$Hi $Hd]; iintro ⟨Hi, Hd⟩
  dsimp only
  rw [pay1_eq]
  iapply (wp_put (c := V' d i) (base := arg11) (OutInv (tX P ig) (t.val + 1)) (fun g hg => hg.step ht (tX_lane t.val) _)) $$ Hx; iintro Hx
  iapply (wp_put (c := V' d i) (base := arg12) (OutInv (tY P ig) (t.val + 1)) (fun g hg => hg.step ht (tY_lane t.val) _)) $$ Hy; iintro Hy
  iapply (wp_put (c := V' d i) (base := arg13) (OutInv (tS P ig) (t.val + 1)) (fun g hg => hg.step ht (tS_lane t.val) _)) $$ Hs; iintro Hs
  iapply (wp_put (c := V' d i) (base := arg14) (OutInv (tD P ig) (t.val + 1)) (fun g hg => hg.step ht (tD_lane t.val) _)) $$ Hdi; iintro Hdi
  rw [wp_pure]
  imodintro
  isplitl [Hi]; · iexact Hi
  isplitl [Hd]; · iexact Hd
  isplitl [Hx]; · iexact Hx
  isplitl [Hy]; · iexact Hy
  isplitl [Hs]; · iexact Hs
  iexact Hdi

end Cert.KernelIdeal.Tile
-- ==== Proof.Gather.lean ====
/-
  The twelve gathers of a chunk: the slices of the gathered block and of the row list, the batch's deliveries, and what
  the block holds once all have landed.
-/
module

public import proofs.«01_k».proof.Proof.Iter

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.SparseCore Idealize.ShloMosaic.Transfers
open Proof01

/-- The rows of the padded map, the whole of it. -/
abbrev srcS : Memref sig .scVector .hbm S83200x16 .f32 :=
  (Memref.whole main_v12_scv).slice (Rect.unit (s := S83200x16) ![0, 0] S83200x16.size inb_S83200x16_S83200x16_0_0) (fun _ => rfl)

theorem inbD (k : Fin 12) : ∀ a, (![128 * k.val, 0] : Fin 2 → ℕ) a + S128x16.size a ≤ S1536x16.size a := by
  intro a
  match a with
  | ⟨0, _⟩ => show 128 * k.val + 128 ≤ 1536; omega
  | ⟨1, _⟩ => show 0 + 16 ≤ 16; omega
theorem inbO (k : Fin 12) : ∀ a, (![128 * k.val] : Fin 1 → ℕ) a + S128.size a ≤ S1536.size a := by
  intro a
  match a with
  | ⟨0, _⟩ => show 128 * k.val + 128 ≤ 1536; omega

/-- The rows gather `k` fills -/
abbrev dstS (k : Fin 12) : Memref sig .scVector .vmem S128x16 .f32 :=
  (Memref.whole cc1_scratch2).slice (Rect.unit (s := S1536x16) ![128 * k.val, 0] S128x16.size (inbD k)) (fun _ => rfl)
/-- and the part of the list that names its rows. -/
abbrev offS (k : Fin 12) : Memref sig .scVector .vmem S128 .i32 :=
  (Memref.whole cc1_scratch1).slice (Rect.unit (s := S1536) ![128 * k.val] S128.size (inbO k)) (fun _ => rfl)

theorem set_dstS (k : Fin 12) : (dstS k).view.set = (Rect.unit (s := S1536x16) ![128 * k.val, 0] S128x16.size (inbD k)).set := View.set_slice_whole _ _
theorem set_offS (k : Fin 12) : (offS k).view.set = (Rect.unit (s := S1536) ![128 * k.val] S128.size (inbO k)).set := View.set_slice_whole _ _

theorem mem_dstS {k : Fin 12} {x : S1536x16.Idx} : x ∈ (dstS k).view.set ↔ 128 * k.val ≤ (x 0).val ∧ (x 0).val < 128 * k.val + 128 := by
  rw [set_dstS, Rect.mem_set_unit]
  constructor
  · intro h; exact h 0
  · intro h a
    match a with
    | ⟨0, _⟩ => exact h
    | ⟨1, _⟩ => exact ⟨Nat.zero_le _, by have : (x 1).val < 16 := (x 1).isLt; show (x 1).val < 0 + 16; omega⟩
theorem mem_offS {k : Fin 12} {x : S1536.Idx} : x ∈ (offS k).view.set ↔ 128 * k.val ≤ (x 0).val ∧ (x 0).val < 128 * k.val + 128 := by
  rw [set_offS, Rect.mem_set_unit]
  constructor
  · intro h; exact h 0
  · intro h a
    match a with
    | ⟨0, _⟩ => exact h

/-- The list names rows of the map. -/
def InRange (fo : S1536.Idx → BitVec 32) : Prop := ∀ j, (fo j).toNat < 83200

theorem InRange.hin {fo : S1536.Idx → BitVec 32} (h : InRange fo) (k : Fin 12) :
    ∀ x, ((offS k).view.read (Elt F) fo x).toNat < S83200x16.size gathers_S83200x16_S128x16.axis :=
  fun x => h _

variable (i : grid1.Coords) (d : Dev nD)

theorem dstS_split (f : Buf (Elt F) ((V' d i).loc cc1_scratch2)) :
    ((V' d i).loc cc1_scratch2 ↦{fullShare} f : sProp (MM F)) = bigSep Finset.univ fun k : Fin 12 => (dstS k).view.loc (V' d i) ↦[(dstS k).view.set]{fullShare} f := by
  have hd : ∀ k ∈ (Finset.univ : Finset (Fin 12)), ∀ k' ∈ (Finset.univ : Finset (Fin 12)), k ≠ k' → Disjoint (dstS k).view.set (dstS k').view.set := by
    intro k _ k' _ h
    rw [Finset.disjoint_left]
    intro x hx hx'
    rw [mem_dstS] at hx hx'
    exact h (Fin.ext (by omega))
  have hu : (Finset.univ : Finset (Fin 12)).biUnion (fun k : Fin 12 => (show Finset S1536x16.Idx from (dstS k).view.set)) = Finset.univ := by
    ext x
    simp only [Finset.mem_biUnion, Finset.mem_univ, true_and, iff_true]
    have hx : (x 0).val < 1536 := (x 0).isLt
    have hb : (x 0).val / 128 < 12 := by omega
    have hm := (mem_dstS (k := ⟨(x 0).val / 128, hb⟩) (x := x)).mpr ⟨by show 128 * ((x 0).val / 128) ≤ (x 0).val; omega, by show (x 0).val < 128 * ((x 0).val / 128) + 128; omega⟩
    exact ⟨⟨(x 0).val / 128, hb⟩, hm⟩
  have h := pointsTo_biUnion (Ix := HIx 1) (Name := ℕ) (U := UU) (Lvl := ℕ) (ℓ := (V' d i).loc cc1_scratch2) (q := fullShare) (f := f) Finset.univ (fun k : Fin 12 => (show Finset S1536x16.Idx from (dstS k).view.set)) hd
  rw [hu] at h
  exact h

theorem offS_split (q : PosShare TreeShare) (f : Buf (Elt F) ((V' d i).loc cc1_scratch1)) :
    ((V' d i).loc cc1_scratch1 ↦{q} f : sProp (MM F)) = bigSep Finset.univ fun k : Fin 12 => (offS k).view.loc (V' d i) ↦[(offS k).view.set]{q} f := by
  have hd : ∀ k ∈ (Finset.univ : Finset (Fin 12)), ∀ k' ∈ (Finset.univ : Finset (Fin 12)), k ≠ k' → Disjoint (offS k).view.set (offS k').view.set := by
    intro k _ k' _ h
    rw [Finset.disjoint_left]
    intro x hx hx'
    rw [mem_offS] at hx hx'
    exact h (Fin.ext (by omega))
  have hu : (Finset.univ : Finset (Fin 12)).biUnion (fun k : Fin 12 => (show Finset S1536.Idx from (offS k).view.set)) = Finset.univ := by
    ext x
    simp only [Finset.mem_biUnion, Finset.mem_univ, true_and, iff_true]
    have hx : (x 0).val < 1536 := (x 0).isLt
    have hb : (x 0).val / 128 < 12 := by omega
    have hm := (mem_offS (k := ⟨(x 0).val / 128, hb⟩) (x := x)).mpr ⟨by show 128 * ((x 0).val / 128) ≤ (x 0).val; omega, by show (x 0).val < 128 * ((x 0).val / 128) + 128; omega⟩
    exact ⟨⟨(x 0).val / 128, hb⟩, hm⟩
  have h := pointsTo_biUnion (Ix := HIx 1) (Name := ℕ) (U := UU) (Lvl := ℕ) (ℓ := (V' d i).loc cc1_scratch1) (q := q) (f := f) Finset.univ (fun k : Fin 12 => (show Finset S1536.Idx from (offS k).view.set)) hd
  rw [hu] at h
  exact h

variable (P : Buf (Elt F) ((V' d i).loc main_v12_scv)) (fd : Buf (Elt F) ((V' d i).loc cc1_scratch2)) (fo : Buf (Elt F) ((V' d i).loc cc1_scratch1)) (q : PosShare TreeShare)

/-- What gather `k` is handed. -/
def gIn (k : Fin 12) : sProp (MM F) :=
  iprop((srcS.view.loc (V' d i) ↦[srcS.view.set]{pieceOf q 12 (by decide) k} P)
    ∗ ((dstS k).view.loc (V' d i) ↦[(dstS k).view.set]{fullShare} fd)
    ∗ ((offS k).view.loc (V' d i) ↦[(offS k).view.set]{fullShare} fo))

/-- What row `j` of gather `k` delivers. -/
def gRow (h : InRange fo) (k : Fin 12) (j : Fin 128) : sProp (MM F) :=
  rowDone (V' d i) srcS (dstS k) gathers_S83200x16_S128x16 (offS k) rfl (by decide) (pieceOf q 12 (by decide) k) fullShare P fd fo (h.hin k) j

instance (h : InRange fo) (k : Fin 12) (j : Fin 128) : Storable (upEmb : UEmb _ (MM F)) (gRow i d P fd fo q h k j) := by
  unfold gRow; exact rowDone_storable _ _ _ _ _ _ _ _ _ _ _ _ _ _

/-- The batch's deliveries: transfer `t` is row `t % 128` of gather `t / 128`. -/
def gAll (h : InRange fo) (t : Fin 1536) : sProp (MM F) :=
  gRow i d P fd fo q h ⟨t.val / 128, by omega⟩ ⟨t.val % 128, by omega⟩

instance (h : InRange fo) (t : Fin 1536) : Storable (upEmb : UEmb _ (MM F)) (gAll i d P fd fo q h t) := by
  unfold gAll; infer_instance

/-- The block once every gather has landed. -/
def gOut (P : S83200x16.Idx → F .f32) (fo : S1536.Idx → BitVec 32) : S1536x16.Idx → F .f32 :=
  fun x => P (ix2 (Fin.ofNat 83200 (fo (ix1 (x 0))).toNat) (x 1))

theorem payload_eq (h : InRange fo) (k : Fin 12) (x : S1536x16.Idx) (hx : x ∈ (dstS k).view.set) :
    (dstS k).view.write (Elt F) fd (gatherPayload gathers_S83200x16_S128x16 (srcS.view.read (Elt F) P) (rows ((offS k).view.read (Elt F) fo) rfl (h.hin k))) Finset.univ x
      = gOut P fo x := by
  obtain ⟨hlo, hhi⟩ := mem_dstS.mp hx
  have hx1 : (x 1).val < 16 := (x 1).isLt
  have he : (dstS k).view.emb (ix2 ⟨(x 0).val - 128 * k.val, by omega⟩ ⟨(x 1).val, hx1⟩) = x := by
    funext a
    apply Fin.ext
    match a with
    | ⟨0, _⟩ => show 128 * k.val + 1 * ((x 0).val - 128 * k.val) = (x 0).val; omega
    | ⟨1, _⟩ => show 0 + 1 * (x 1).val = (x 1).val; omega
  conv_lhs => rw [← he]
  rw [View.write_emb_of_mem _ _ (Finset.mem_univ _)]
  show P _ = P _
  congr 1
  funext a
  apply Fin.ext
  match a with
  | ⟨0, _⟩ =>
    show 0 + 1 * (fo _).toNat = (fo (ix1 (x 0))).toNat % 83200
    rw [Nat.mod_eq_of_lt (h _)]
    rw [Nat.zero_add, Nat.one_mul]
    congr 2
    funext b
    apply Fin.ext
    match b with
    | ⟨0, _⟩ =>
      have e : S128.rowMajor.symm ((⟨(x 0).val - 128 * k.val, by omega⟩ : Fin 128).cast rfl) = ix1 ⟨(x 0).val - 128 * k.val, by omega⟩ :=
        (S128.rowMajor.symm_apply_eq).2 (Fin.ext (by rw [Shape.rowMajor_val_one]; rfl))
      have e0 := congrArg (fun z : S128.Idx => (z 0).val) e
      show 128 * k.val + 1 * (S128.rowMajor.symm ((⟨(x 0).val - 128 * k.val, by omega⟩ : Fin 128).cast rfl) 0).val = (x 0).val
      rw [show (S128.rowMajor.symm ((⟨(x 0).val - 128 * k.val, by omega⟩ : Fin 128).cast rfl) 0).val = (x 0).val - 128 * k.val from e0]
      omega
  | ⟨1, _⟩ => show 0 + 1 * (x 1).val = (x 1).val; omega

/-- Every transfer delivered: the block filled, the map's share and the list back. -/
theorem gAll_join (h : InRange fo) :
    bigSep Finset.univ (gAll i d P fd fo q h) ⊢ iprop(((V' d i).loc cc1_scratch2 ↦{fullShare} gOut P fo)
      ∗ (srcS.view.loc (V' d i) ↦[srcS.view.set]{q} P) ∗ ((V' d i).loc cc1_scratch1 ↦{fullShare} fo)) := by
  have e : (bigSep Finset.univ (gAll i d P fd fo q h) : sProp (MM F)) = bigSep Finset.univ fun k : Fin 12 => bigSep Finset.univ fun j : Fin 128 => gRow i d P fd fo q h k j := by
    rw [bigSep_univ_equiv (finProdFinEquiv (m := 12) (n := 128)), bigSep_univ_prod]
    refine bigSep_congr fun k _ => bigSep_congr fun j _ => ?_
    unfold gAll
    congr 1
    · apply Fin.ext; show (j.val + 128 * k.val) / 128 = k.val; omega
    · apply Fin.ext; show (j.val + 128 * k.val) % 128 = j.val; omega
  rw [e]
  have hk : ∀ k : Fin 12, (bigSep Finset.univ fun j : Fin 128 => gRow i d P fd fo q h k j)
      ⊢ iprop(((dstS k).view.loc (V' d i) ↦[(dstS k).view.set]{fullShare} gOut P fo)
          ∗ (srcS.view.loc (V' d i) ↦[srcS.view.set]{pieceOf q 12 (by decide) k} P) ∗ ((offS k).view.loc (V' d i) ↦[(offS k).view.set]{fullShare} fo)) := fun k => by
    have h1 := rowDone_join (F := F) (Ix := HIx 1) (Name := ℕ) (U := UU) (Lvl := ℕ) (c := V' d i) srcS (dstS k) gathers_S83200x16_S128x16 (offS k) rfl (by decide) (pieceOf q 12 (by decide) k) fullShare P fd fo (h.hin k)
    refine h1.trans (Entails.of_eq ?_)
    rw [pointsTo_congr (fun x hx => payload_eq i d P fd fo h k x hx)]
  refine (bigSep_mono fun k _ => hk k).trans ?_
  refine BIBase.Entails.trans (Transfers.bigSep_sep_out _ _ _) ?_
  iintro ⟨Hd, H2⟩
  ihave H3 := Transfers.bigSep_sep_out _ _ _ $$ H2
  icases H3 with ⟨Hs, Ho⟩
  isplitl [Hd]; · iapply (Entails.of_eq (dstS_split i d _).symm) $$ Hd
  isplitl [Hs]; · iapply (Entails.of_eq (pointsTo_piecesOf _ _ (show 0 < 12 by decide) q).symm) $$ Hs
  iapply (Entails.of_eq (offS_split i d _ _).symm) $$ Ho

/-- What the gathers are handed, from the block, the map's share and the list. -/
theorem gIn_split :
    iprop(((V' d i).loc cc1_scratch2 ↦{fullShare} fd) ∗ (srcS.view.loc (V' d i) ↦[srcS.view.set]{q} P) ∗ ((V' d i).loc cc1_scratch1 ↦{fullShare} fo))
      ⊢ bigSep Finset.univ (gIn i d P fd fo q) := by
  iintro ⟨Hd, Hs, Ho⟩
  ihave Hd' := (Entails.of_eq (dstS_split i d _)) $$ Hd
  ihave Hs' := (Entails.of_eq (pointsTo_piecesOf _ _ (show 0 < 12 by decide) q)) $$ Hs
  ihave Ho' := (Entails.of_eq (offS_split i d _ _)) $$ Ho
  ihave H1 := Transfers.bigSep_sep_in _ _ _ $$ [$Hd' $Ho']
  ihave H2 := Transfers.bigSep_sep_in _ _ _ $$ [$Hs' $H1]
  iexact H2

/-- Gather `k` issued as the next 128 transfers of the batch. -/
theorem wp_gather (h : InRange fo) (k : Fin 12) {hr he hsp hn hp} {hsrc} {α : Type} {kk} {Q : α → sProp (MM F)} :
    iprop(gIn i d P fd fo q k ∗ Transfers.Batch countersEmb (V' d i) (.dma cc1_scratch7.sem) (default : HIx 1) 512 (gAll i d P fd fo q h) (128 * k.val) 0)
      ⊢ iprop((Transfers.Batch countersEmb (V' d i) (.dma cc1_scratch7.sem) (default : HIx 1) 512 (gAll i d P fd fo q h) (128 * k.val + 128) 0
            -∗ wp frame (wpE (defs₀ (F := F)) 𝒱₀ (V' d i) none) Set.univ (kk ⟨⟩) Q)
        -∗ wp frame (wpE (defs₀ (F := F)) 𝒱₀ (V' d i) none) Set.univ (SparseCore.enqueueIndirectGather (F := F) (Λ := Λ₀) hp srcS (dstS k) gathers_S83200x16_S128x16 (offS k) hn cc1_scratch7.sem hsrc he hsp hr >>= kk) Q) := by
  unfold gIn
  iintro ⟨⟨Hs, Hd, Ho⟩, HB⟩ HQ
  iapply (wp_gatherBatch countersEmb 𝒱₀ (V' d i) none (default : HIx 1) (N := 512) (K := 128 * k.val) (u := 0) (ho := by decide) (hN := fun j => rfl) (hK := by show 128 * k.val + 128 ≤ 1536; omega) (Nat.zero_le _) (h.hin k)
    (hD := fun j => by
      have hj : j.val < 128 := j.isLt
      unfold gAll
      have e1 : (⟨(128 * k.val + j.val) / 128, by omega⟩ : Fin 12) = k := Fin.ext (by show (128 * k.val + j.val) / 128 = k.val; omega)
      have e2 : (⟨(128 * k.val + j.val) % 128, by omega⟩ : Fin 128) = j := Fin.ext (by show (128 * k.val + j.val) % 128 = j.val; omega)
      rw [e1, e2]; exact Entails.rfl)) $$ [$Hs $Hd $Ho $HB]
  iexact HQ

end Cert.KernelIdeal.Tile
-- ==== Proof.Chunk.lean ====
/-
  One chunk of 128 keypoints on one vector subcore: fetch the indices, write the list, gather, compute, write out.
-/
module

public import proofs.«01_k».proof.Proof.Gather

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
open Proof01

/-- The elements of a row array the chunk `t` of subcore `i` owns. -/
abbrev chunkR (i : grid1.Coords) (t : Fin k1_t1_loop.trips) : Rect S20480 :=
  Rect.unit (s := S20480) (k1_off1 i t) S128.size (k1_off1_inb i t)
abbrev iS (i : grid1.Coords) (t : Fin k1_t1_loop.trips) : Memref sig .scVector .hbm S128 .i32 :=
  (Memref.whole main_v11_scv).slice (chunkR i t) (fun _ => rfl)
abbrev xS (i : grid1.Coords) (t : Fin k1_t1_loop.trips) : Memref sig .scVector .hbm S128 .f32 :=
  (Memref.whole main_v13_0_scv).slice (chunkR i t) (fun _ => rfl)
abbrev yS (i : grid1.Coords) (t : Fin k1_t1_loop.trips) : Memref sig .scVector .hbm S128 .f32 :=
  (Memref.whole main_v13_1_scv).slice (chunkR i t) (fun _ => rfl)
abbrev sS (i : grid1.Coords) (t : Fin k1_t1_loop.trips) : Memref sig .scVector .hbm S128 .f32 :=
  (Memref.whole main_v13_2_scv).slice (chunkR i t) (fun _ => rfl)
abbrev dS (i : grid1.Coords) (t : Fin k1_t1_loop.trips) : Memref sig .scVector .hbm S128 .f32 :=
  (Memref.whole main_v13_3_scv).slice (chunkR i t) (fun _ => rfl)

/-- The chunk's indices. -/
def igOf (I : S20480.Idx → BitVec 32) (i : grid1.Coords) (t : Fin k1_t1_loop.trips) : S128.Idx → BitVec 32 :=
  fun p => I ((iS i t).view.emb p)

/-- The list of rows the chunk gathers. -/
def listOf (ig : S128.Idx → BitVec 32) : S1536.Idx → BitVec 32 :=
  fun x => BitVec.ofNat 32 (rowN (ig (ix1 ⟨(x 0).val / 12, by have : (x 0).val < 1536 := (x 0).isLt; omega⟩)).toNat ((x 0).val % 12))

theorem listOf_eq {ig : S128.Idx → BitVec 32} {gi : S1536.Idx → BitVec 32} (h : GiInv ig 8 0 gi) : gi = listOf ig := by
  funext x
  have hx : (x 0).val < 1536 := (x 0).isLt
  have := h ⟨(x 0).val, hx⟩ (Or.inl (by show (x 0).val / 12 < 16 * 8; omega))
  have e : ix1 (⟨(x 0).val, hx⟩ : Fin 1536) = x := by
    funext a; apply Fin.ext
    match a with
    | ⟨0, _⟩ => rfl
  rw [e] at this
  exact this

theorem listOf_inRange {ig : S128.Idx → BitVec 32} (hig : ∀ p, (ig p).toNat < 2 ^ 20) : InRange (listOf ig) := by
  intro x
  unfold listOf
  have h := rowN_lt (k := (x 0).val % 12) (hig (ix1 ⟨(x 0).val / 12, by have : (x 0).val < 1536 := (x 0).isLt; omega⟩)) (Nat.mod_lt _ (by decide))
  rw [BitVec.toNat_ofNat, Nat.mod_eq_of_lt (by omega)]
  exact h

/-- The gathered block holds every patch's rows. -/
theorem gOut_ok (P : S83200x16.Idx → F .f32) {ig : S128.Idx → BitVec 32} (hig : ∀ p, (ig p).toNat < 2 ^ 20) : DataOK P ig (gOut P (listOf ig)) := by
  intro j c
  unfold gOut listOf
  have h := rowN_lt (k := j.val % 12) (hig (ix1 ⟨j.val / 12, by omega⟩)) (Nat.mod_lt _ (by decide))
  show P (ix2 (Fin.ofNat 83200 (BitVec.ofNat 32 (rowN (ig (ix1 ⟨j.val / 12, _⟩)).toNat (j.val % 12))).toNat) c) = _
  rw [BitVec.toNat_ofNat, Nat.mod_eq_of_lt (by omega)]

variable (i : grid1.Coords) (d : Dev nD)
variable (P : Buf (Elt F) ((V' d i).loc main_v12_scv)) (I : Buf (Elt F) ((V' d i).loc main_v11_scv)) (fd : Buf (Elt F) ((V' d i).loc cc1_scratch2)) (q : PosShare TreeShare)
variable (O : CellTallies nD τ sig (HIx 1)) (W : Waits sig (HIx 1))

/-- The batch of a chunk. -/
abbrev BB (ig : S128.Idx → BitVec 32) (h : InRange (listOf ig)) (K u : ℕ) : sProp (MM F) :=
  Transfers.Batch countersEmb (V' d i) (.dma cc1_scratch7.sem) (default : HIx 1) 512 (gAll i d P fd (listOf ig) q h) K u

/-- Every wait so far was one the program may make. -/
def owesW : sProp (MM F) := iprop(∃ W', ⌜∀ p ∈ W', p ∈ W ∨ p.2 = none⌝ ∗ owes (V' d i) O W')

theorem owesW_ins {W' : Waits sig (HIx 1)} (h : ∀ p ∈ W', p ∈ W ∨ p.2 = none) (s : SemLoc sig) :
    owes (V' d i) O (insert (s, (default : HIx 1)) W') ⊢ owesW (F := F) i d O W := by
  unfold owesW
  iintro H
  iexists (insert (s, (default : HIx 1)) W')
  isplitr
  · ipureintro
    intro p hp
    rcases Finset.mem_insert.mp hp with hp | hp
    · exact .inr (hp ▸ rfl)
    · exact h p hp
  · iexact H

theorem wp_p36 (ig : S128.Idx → BitVec 32) (h : InRange (listOf ig)) :
    iprop(gIn i d P fd (listOf ig) q 4 ∗ gIn i d P fd (listOf ig) q 5 ∗ gIn i d P fd (listOf ig) q 6 ∗ gIn i d P fd (listOf ig) q 7 ∗ gIn i d P fd (listOf ig) q 8 ∗ gIn i d P fd (listOf ig) q 9
        ∗ BB i d P fd q ig h 512 0)
      ⊢ wp frame (wpE (defs₀ (F := F)) 𝒱₀ (V' d i) none) Set.univ (k1_part36 (F := F) i (Memref.whole main_v12_scv) (Memref.isWhole_whole _) (Memref.whole main_v11_scv) (Memref.isWhole_whole _) (Memref.whole main_v13_0_scv) (Memref.isWhole_whole _) (Memref.whole main_v13_1_scv) (Memref.isWhole_whole _) (Memref.whole main_v13_2_scv) (Memref.isWhole_whole _) (Memref.whole main_v13_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scoped0 cc1_scoped1 cc1_scoped2 cc1_scoped3 cc1_scoped4)
        (fun _ => BB i d P fd q ig h 1280 0) := by
  rw [k1_part36_eq_skeleton]
  unfold k1_part36_skel BB
  dsimp only
  iintro ⟨H4, H5, H6, H7, H8, H9, HB⟩
  iapply (wp_gather i d P fd (listOf ig) q h 4) $$ [$H4 $HB]; iintro HB
  iapply (wp_gather i d P fd (listOf ig) q h 5) $$ [$H5 $HB]; iintro HB
  iapply (wp_gather i d P fd (listOf ig) q h 6) $$ [$H6 $HB]; iintro HB
  iapply (wp_gather i d P fd (listOf ig) q h 7) $$ [$H7 $HB]; iintro HB
  iapply (wp_gather i d P fd (listOf ig) q h 8) $$ [$H8 $HB]; iintro HB
  iapply (wp_gather i d P fd (listOf ig) q h 9) $$ [$H9 $HB]; iintro HB
  rw [wp_pure]; imodintro
  iexact HB

/-- One wait of the batch that is not its last. -/
theorem wp_gwait (ig : S128.Idx → BitVec 32) (h : InRange (listOf ig)) (u : ℕ) (hu : u + 65536 ≤ 512 * 1536) {dstw : Memref sig .scVector .vmem S128x16 .f32} (hd : dstw.view.dmaCredit = 128 * 512)
    {srcw : Memref sig .scVector .hbm S83200x16 .f32} {h1 h2} {α : Type} {kk} {Q : α → sProp (MM F)} :
    iprop(BB i d P fd q ig h 1536 u ∗ owesW i d O W ∗ Transfers.MayWaits (V' d i) (default : HIx 1) O)
      ⊢ iprop((iprop(BB i d P fd q ig h 1536 (u + 65536) ∗ owesW i d O W) -∗ wp frame (wpE (defs₀ (F := F)) 𝒱₀ (V' d i) none) Set.univ (kk ⟨⟩) Q)
        -∗ wp frame (wpE (defs₀ (F := F)) 𝒱₀ (V' d i) none) Set.univ (SparseCore.waitIndirectGather (F := F) (Λ := Λ₀) cc1_scratch7.sem srcw dstw h1 h2 >>= kk) Q) := by
  unfold BB
  iintro ⟨HB, HO, HM⟩ HK
  ihave HO' := (Entails.of_eq (show owesW (F := F) i d O W = iprop(∃ W', ⌜∀ p ∈ W', p ∈ W ∨ p.2 = none⌝ ∗ owes (V' d i) O W') from rfl)) $$ HO
  icases HO' with ⟨%W', %hW, HO⟩
  ihave HM' := (Transfers.MayWaits.elim (SemLoc.dma cc1_scratch7.sem)) $$ HM
  iapply (Transfers.wp_waitBatchMulO countersEmb 𝒱₀ (V' d i) none (default : HIx 1) 128 hd hu) $$ [$HB $HO $HM']
  iintro ⟨HB, HO⟩
  iapply HK
  isplitl [HB]; · iexact HB
  iapply (owesW_ins i d O W hW _) $$ HO

theorem wp_gwaitLast (ig : S128.Idx → BitVec 32) (h : InRange (listOf ig)) {dstw : Memref sig .scVector .vmem S128x16 .f32} (hd : dstw.view.dmaCredit = 65536)
    {srcw : Memref sig .scVector .hbm S83200x16 .f32} {h1 h2} {α : Type} {kk} {Q : α → sProp (MM F)} :
    iprop(BB i d P fd q ig h 1536 720896 ∗ owesW i d O W ∗ Transfers.MayWaits (V' d i) (default : HIx 1) O)
      ⊢ iprop((iprop((((V' d i).loc cc1_scratch2 ↦{fullShare} gOut P (listOf ig))
          ∗ (srcS.view.loc (V' d i) ↦[srcS.view.set]{q} P) ∗ ((V' d i).loc cc1_scratch1 ↦{fullShare} listOf ig))
          ∗ semVal (V' d i, SemLoc.dma cc1_scratch7.sem) 0 ∗ owesW i d O W) -∗ wp frame (wpE (defs₀ (F := F)) 𝒱₀ (V' d i) none) Set.univ (kk ⟨⟩) Q)
        -∗ wp frame (wpE (defs₀ (F := F)) 𝒱₀ (V' d i) none) Set.univ (SparseCore.waitIndirectGather (F := F) (Λ := Λ₀) cc1_scratch7.sem srcw dstw h1 h2 >>= kk) Q) := by
  unfold BB
  iintro ⟨HB, HO, HM⟩ HK
  ihave HO' := (Entails.of_eq (show owesW (F := F) i d O W = iprop(∃ W', ⌜∀ p ∈ W', p ∈ W ∨ p.2 = none⌝ ∗ owes (V' d i) O W') from rfl)) $$ HO
  icases HO' with ⟨%W', %hW, HO⟩
  ihave HM' := (Transfers.MayWaits.elim (SemLoc.dma cc1_scratch7.sem)) $$ HM
  iapply (Transfers.wp_waitBatchAllO countersEmb 𝒱₀ (V' d i) none (default : HIx 1) hd (by decide) (by decide)) $$ [$HB $HO $HM']
  iintro ⟨HD, Hv, HO⟩
  iapply HK
  isplitl [HD]; · iapply (gAll_join i d P fd (listOf ig) q h) $$ HD
  isplitl [Hv]; · iexact Hv
  iapply (owesW_ins i d O W hW _) $$ HO

theorem wp_p37 (ig : S128.Idx → BitVec 32) (h : InRange (listOf ig)) :
    iprop(gIn i d P fd (listOf ig) q 10 ∗ gIn i d P fd (listOf ig) q 11 ∗ BB i d P fd q ig h 1280 0 ∗ owesW i d O W ∗ Transfers.MayWaits (V' d i) (default : HIx 1) O)
      ⊢ wp frame (wpE (defs₀ (F := F)) 𝒱₀ (V' d i) none) Set.univ (k1_part37 (F := F) i (Memref.whole main_v12_scv) (Memref.isWhole_whole _) (Memref.whole main_v11_scv) (Memref.isWhole_whole _) (Memref.whole main_v13_0_scv) (Memref.isWhole_whole _) (Memref.whole main_v13_1_scv) (Memref.isWhole_whole _) (Memref.whole main_v13_2_scv) (Memref.isWhole_whole _) (Memref.whole main_v13_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scoped0 cc1_scoped1 cc1_scoped2 cc1_scoped3 cc1_scoped4)
        (fun _ => iprop(BB i d P fd q ig h 1536 327680 ∗ owesW i d O W)) := by
  rw [k1_part37_eq_skeleton]
  unfold k1_part37_skel BB
  dsimp only
  iintro ⟨H4, H5, HB, HO, #HM⟩
  iapply (wp_gather i d P fd (listOf ig) q h 10) $$ [$H4 $HB]; iintro HB
  iapply (wp_gather i d P fd (listOf ig) q h 11) $$ [$H5 $HB]; iintro HB
  iapply (wp_gwait i d P fd q O W ig h 0 (by decide) rfl) $$ [$HB $HO $HM]; iintro ⟨HB, HO⟩
  iapply (wp_gwait i d P fd q O W ig h 65536 (by decide) rfl) $$ [$HB $HO $HM]; iintro ⟨HB, HO⟩
  iapply (wp_gwait i d P fd q O W ig h 131072 (by decide) rfl) $$ [$HB $HO $HM]; iintro ⟨HB, HO⟩
  iapply (wp_gwait i d P fd q O W ig h 196608 (by decide) rfl) $$ [$HB $HO $HM]; iintro ⟨HB, HO⟩
  iapply (wp_gwait i d P fd q O W ig h 262144 (by decide) rfl) $$ [$HB $HO $HM]; iintro ⟨HB, HO⟩
  rw [wp_pure]; imodintro
  isplitl [HB]; · iexact HB
  iexact HO

theorem wp_p38 (ig : S128.Idx → BitVec 32) (h : InRange (listOf ig)) :
    iprop(BB i d P fd q ig h 1536 327680 ∗ owesW i d O W ∗ Transfers.MayWaits (V' d i) (default : HIx 1) O)
      ⊢ wp frame (wpE (defs₀ (F := F)) 𝒱₀ (V' d i) none) Set.univ (k1_part38 (F := F) i (Memref.whole main_v12_scv) (Memref.isWhole_whole _) (Memref.whole main_v11_scv) (Memref.isWhole_whole _) (Memref.whole main_v13_0_scv) (Memref.isWhole_whole _) (Memref.whole main_v13_1_scv) (Memref.isWhole_whole _) (Memref.whole main_v13_2_scv) (Memref.isWhole_whole _) (Memref.whole main_v13_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scoped0 cc1_scoped1 cc1_scoped2 cc1_scoped3 cc1_scoped4)
        (fun r => iprop(⌜r = ⟨0#32, 8#32⟩⌝ ∗ (((V' d i).loc cc1_scratch2 ↦{fullShare} gOut P (listOf ig))
          ∗ (srcS.view.loc (V' d i) ↦[srcS.view.set]{q} P) ∗ ((V' d i).loc cc1_scratch1 ↦{fullShare} listOf ig))
          ∗ semVal (V' d i, SemLoc.dma cc1_scratch7.sem) 0 ∗ owesW i d O W)) := by
  rw [k1_part38_eq_skeleton]
  unfold k1_part38_skel BB
  dsimp only
  iintro ⟨HB, HO, #HM⟩
  iapply (wp_gwait i d P fd q O W ig h 327680 (by decide) rfl) $$ [$HB $HO $HM]; iintro ⟨HB, HO⟩
  iapply (wp_gwait i d P fd q O W ig h 393216 (by decide) rfl) $$ [$HB $HO $HM]; iintro ⟨HB, HO⟩
  iapply (wp_gwait i d P fd q O W ig h 458752 (by decide) rfl) $$ [$HB $HO $HM]; iintro ⟨HB, HO⟩
  iapply (wp_gwait i d P fd q O W ig h 524288 (by decide) rfl) $$ [$HB $HO $HM]; iintro ⟨HB, HO⟩
  iapply (wp_gwait i d P fd q O W ig h 589824 (by decide) rfl) $$ [$HB $HO $HM]; iintro ⟨HB, HO⟩
  iapply (wp_gwait i d P fd q O W ig h 655360 (by decide) rfl) $$ [$HB $HO $HM]; iintro ⟨HB, HO⟩
  iapply (wp_gwaitLast i d P fd q O W ig h rfl) $$ [$HB $HO $HM]; iintro ⟨HB, HO⟩
  rw [wp_pure]; imodintro
  isplitr; · ipureintro; rfl
  isplitl [HB]; · iexact HB
  iexact HO

end Cert.KernelIdeal.Tile
-- ==== Proof.Body.lean ====
/-
  The rest of a chunk: One chunk of 128 keypoints on one vector subcore: fetch the indices, write the list, gather, compute, write out.
-/
module

public import proofs.«01_k».proof.Proof.Chunk

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
open Proof01

variable (i : grid1.Coords) (d : Dev nD)
variable (P : Buf (Elt F) ((V' d i).loc main_v12_scv)) (I : Buf (Elt F) ((V' d i).loc main_v11_scv)) (fd : Buf (Elt F) ((V' d i).loc cc1_scratch2)) (q : PosShare TreeShare)
variable (O : CellTallies nD τ sig (HIx 1)) (W : Waits sig (HIx 1))

variable {i d} in
/-- A program followed by another. -/
theorem wp_seq {α β : Type} {p : Prog (TpuEff nD τ sig (Elt F) Λ₀ (V' d i).2) α} {k : α → Prog (TpuEff nD τ sig (Elt F) Λ₀ (V' d i).2) β} {A : sProp (MM F)} {Q1 : α → sProp (MM F)} {Q : β → sProp (MM F)}
    (h : A ⊢ wp frame (wpE (defs₀ (F := F)) 𝒱₀ (V' d i) none) Set.univ p Q1) :
    A ⊢ iprop((∀ a, Q1 a -∗ wp frame (wpE (defs₀ (F := F)) 𝒱₀ (V' d i) none) Set.univ (k a) Q) -∗ wp frame (wpE (defs₀ (F := F)) 𝒱₀ (V' d i) none) Set.univ (p >>= k) Q) := by
  rw [wp_bind]
  iintro HA HK
  ihave H := h $$ HA
  iapply (wp_mono _ _ _ (fun a => show iprop(Q1 a ∗ (∀ a, Q1 a -∗ wp frame (wpE (defs₀ (F := F)) 𝒱₀ (V' d i) none) Set.univ (k a) Q)) ⊢ _ by
    iintro ⟨H, HK⟩; iapply HK $$ H))
  iapply (wp_frame_r _ _ _) $$ [$H $HK]

theorem read_fetched (f : Buf (Elt F) ((V' d i).loc cc1_scratch0)) (w : S128.Idx → BitVec 32) :
    ((Memref.whole cc1_scratch0).access (.whole S128)).read (Elt F) (View.write (Elt F) (Memref.whole cc1_scratch0).view f w Finset.univ) = w := by
  funext x
  rw [show View.write (Elt F) (Memref.whole cc1_scratch0).view f w Finset.univ = w from View.write_whole_univ cc1_scratch0 f w]
  show w _ = w x
  congr 1
  funext a; apply Fin.ext
  match a with
  | ⟨0, _⟩ => show 0 + 1 * (x 0).val = (x 0).val; omega

theorem set_acc {κ : Kind} (b : Ref sig κ) : ((Memref.whole b).access (.whole b.ty.shape)).set = Finset.univ :=
  (View.set_slice_whole _ _).trans (Rect.set_whole _)

theorem read_acc {κ : Kind} (b : Ref sig κ) (f : b.ty.Contents (Elt F)) : ((Memref.whole b).access (.whole b.ty.shape)).read (Elt F) f = f := by
  funext x
  show f _ = f x
  congr 1
  funext a; apply Fin.ext
  show 0 + 1 * (x a).val = (x a).val; omega

/-- A scratch buffer held at contents satisfying `R`, seen as the buffer's own points-to. -/
theorem acc_eq {κ : Kind} (c : Thread nD τ) (hc : c.2.kind = κ) (b : Ref sig c.2.kind) (R : b.ty.Contents (Elt F) → Prop) :
    (iprop(∃ f, ⌜R (((Memref.whole b).access (.whole b.ty.shape)).read (Elt F) f)⌝ ∗ ((Memref.whole b).access (.whole b.ty.shape)).loc c ↦[((Memref.whole b).access (.whole b.ty.shape)).set]{fullShare} f) : sProp (MM F))
      = iprop(∃ f, ⌜R f⌝ ∗ c.loc b ↦{fullShare} f) := by
  congr 1
  funext f
  rw [read_acc, set_acc]

theorem holds1 (R : (S1536.Idx → BitVec 32) → Prop) : holds (F := F) (V' d i) (Memref.whole cc1_scratch1) R = iprop(∃ f, ⌜R f⌝ ∗ (V' d i).loc cc1_scratch1 ↦{fullShare} f) :=
  acc_eq (V' d i) rfl cc1_scratch1 R
theorem holds3 (R : (S128.Idx → F .f32) → Prop) : holds (F := F) (V' d i) (Memref.whole cc1_scratch3) R = iprop(∃ f, ⌜R f⌝ ∗ (V' d i).loc cc1_scratch3 ↦{fullShare} f) :=
  acc_eq (V' d i) rfl cc1_scratch3 R
theorem holds4 (R : (S128.Idx → F .f32) → Prop) : holds (F := F) (V' d i) (Memref.whole cc1_scratch4) R = iprop(∃ f, ⌜R f⌝ ∗ (V' d i).loc cc1_scratch4 ↦{fullShare} f) :=
  acc_eq (V' d i) rfl cc1_scratch4 R
theorem holds5 (R : (S128.Idx → F .f32) → Prop) : holds (F := F) (V' d i) (Memref.whole cc1_scratch5) R = iprop(∃ f, ⌜R f⌝ ∗ (V' d i).loc cc1_scratch5 ↦{fullShare} f) :=
  acc_eq (V' d i) rfl cc1_scratch5 R
theorem holds6 (R : (S128.Idx → F .f32) → Prop) : holds (F := F) (V' d i) (Memref.whole cc1_scratch6) R = iprop(∃ f, ⌜R f⌝ ∗ (V' d i).loc cc1_scratch6 ↦{fullShare} f) :=
  acc_eq (V' d i) rfl cc1_scratch6 R

/-- What the twelve gathers are handed, one by one. -/
theorem gIn_univ (fo : Buf (Elt F) ((V' d i).loc cc1_scratch1)) : (bigSep Finset.univ (gIn i d P fd fo q) : sProp (MM F))
    = iprop(gIn i d P fd fo q 0 ∗ gIn i d P fd fo q 1 ∗ gIn i d P fd fo q 2 ∗ gIn i d P fd fo q 3 ∗ gIn i d P fd fo q 4 ∗ gIn i d P fd fo q 5
      ∗ gIn i d P fd fo q 6 ∗ gIn i d P fd fo q 7 ∗ gIn i d P fd fo q 8 ∗ gIn i d P fd fo q 9 ∗ gIn i d P fd fo q 10 ∗ gIn i d P fd fo q 11) := by
  rw [bigSep_univ_succ, bigSep_univ_succ, bigSep_univ_succ, bigSep_univ_succ, bigSep_univ_succ, bigSep_univ_succ, bigSep_univ_succ, bigSep_univ_succ, bigSep_univ_succ, bigSep_univ_succ, bigSep_univ_succ]
  rw [show (Finset.univ : Finset (Fin 1)) = {0} from rfl, bigSep_singleton]
  rfl

theorem wp_p35 (t : Fin k1_t1_loop.trips) (u : BitVec 32) (hig : ∀ p, (igOf I i t p).toNat < 2 ^ 20) (h : InRange (listOf (igOf I i t)))
    (f8 : Buf (Elt F) ((V' d i).loc cc1_scratch0)) (fo : Buf (Elt F) ((V' d i).loc cc1_scratch1)) :
    iprop(Transfers.MayWaits (V' d i) (default : HIx 1) O
        ∗ ((iS i t).view.loc (V' d i) ↦[(iS i t).view.set]{fullShare} I)
        ∗ ((Memref.whole cc1_scratch0).view.loc (V' d i) ↦{fullShare} f8)
        ∗ ((V' d i).loc cc1_scratch1 ↦{fullShare} fo)
        ∗ ((V' d i).loc cc1_scratch2 ↦{fullShare} fd)
        ∗ (srcS.view.loc (V' d i) ↦[srcS.view.set]{q} P)
        ∗ semVal (V' d i, SemLoc.dma cc1_scratch7.sem) 0
        ∗ semVal (V' d i, SemLoc.dma cc1_scoped0.sem) 0
        ∗ owes (V' d i) O W)
      ⊢ wp frame (wpE (defs₀ (F := F)) 𝒱₀ (V' d i) none) Set.univ (k1_part35 (F := F) i (Memref.whole main_v12_scv) (Memref.isWhole_whole _) (Memref.whole main_v11_scv) (Memref.isWhole_whole _) (Memref.whole main_v13_0_scv) (Memref.isWhole_whole _) (Memref.whole main_v13_1_scv) (Memref.isWhole_whole _) (Memref.whole main_v13_2_scv) (Memref.isWhole_whole _) (Memref.whole main_v13_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scoped0 cc1_scoped1 cc1_scoped2 cc1_scoped3 cc1_scoped4 u lanes 0#32 1#32 t)
        (fun _ => iprop(((iS i t).view.loc (V' d i) ↦[(iS i t).view.set]{fullShare} I)
          ∗ (∃ f8, ⌜((Memref.whole cc1_scratch0).access (.whole S128)).read (Elt F) f8 = igOf I i t⌝ ∗ idxPts i d (Memref.whole cc1_scratch0) fullShare f8)
          ∗ gIn i d P fd (listOf (igOf I i t)) q 4 ∗ gIn i d P fd (listOf (igOf I i t)) q 5 ∗ gIn i d P fd (listOf (igOf I i t)) q 6 ∗ gIn i d P fd (listOf (igOf I i t)) q 7 ∗ gIn i d P fd (listOf (igOf I i t)) q 8 ∗ gIn i d P fd (listOf (igOf I i t)) q 9
          ∗ gIn i d P fd (listOf (igOf I i t)) q 10 ∗ gIn i d P fd (listOf (igOf I i t)) q 11
          ∗ BB i d P fd q (igOf I i t) h 512 0
          ∗ semVal (V' d i, SemLoc.dma cc1_scoped0.sem) 0
          ∗ owesW i d O W)) := by
  rw [k1_part35_eq_skeleton]
  unfold k1_part35_skel
  iintro ⟨#HM, Hi, H8, H9, Hd, Hs, Hg, Hv, HO⟩
  sl_exec
  have hread : ((Memref.whole cc1_scratch0).access (.whole S128)).read (Elt F) (View.write (Elt F) (Memref.whole cc1_scratch0).view f8 (wp_p35.sl.dma0 i d I t) Finset.univ) = igOf I i t :=
    (read_fetched i d f8 (wp_p35.sl.dma0 i d I t)).trans rfl
  generalize View.write (Elt F) (Memref.whole cc1_scratch0).view f8 (wp_p35.sl.dma0 i d I t) Finset.univ = f8' at hread
  sl_for (fun (k : ℕ) (_ : Unit) => iprop(idxPts i d (Memref.whole cc1_scratch0) fullShare f8' ∗ holds (F := F) (V' d i) (Memref.whole cc1_scratch1) (GiInv (igOf I i t) k 0))) $$ [H8 H9]
  case region =>
    intro k _
    exact wp_build i d _ _ _ _ _ _ _ _ _ _ _ _ _ _ _ _ _ _ _ _ _ _ _ _ _ _ _ _ _ _ _ _ k u t hig hread
  · isplitl [H8]; · unfold idxPts; iexact H8
    rw [holds1]
    iexists fo
    isplitr
    · ipureintro; intro j hj; rcases hj with hj | ⟨_, hj⟩ <;> omega
    · iexact H9
  iintro %_acc ⟨H8, H9⟩
  ihave H9 := (Entails.of_eq (holds1 (F := F) i d _)) $$ H9
  icases H9 with ⟨%gi, %hgi, H9⟩
  obtain rfl := listOf_eq (show GiInv (igOf I i t) 8 0 gi from hgi)
  ihave HO := (owesW_ins i d O W (fun p hp => .inl hp) _) $$ HO
  imod (Transfers.batch_alloc' countersEmb (V' d i) (default : HIx 1) 512 (gAll i d P fd (listOf (igOf I i t)) q h) (E := Set.univ)) $$ Hg with HB
  ihave HG := (gIn_split i d P fd (listOf (igOf I i t)) q) $$ [$Hd $Hs $H9]
  ihave HG := (Entails.of_eq (gIn_univ i d P fd q (listOf (igOf I i t)))) $$ HG
  icases HG with ⟨G0, G1, G2, G3, G4, G5, G6, G7, G8, G9, G10, G11⟩
  unfold wp_p35.sl.prog.cont_1
  iapply (wp_gather i d P fd (listOf (igOf I i t)) q h 0) $$ [$G0 $HB]; iintro HB
  iapply (wp_gather i d P fd (listOf (igOf I i t)) q h 1) $$ [$G1 $HB]; iintro HB
  iapply (wp_gather i d P fd (listOf (igOf I i t)) q h 2) $$ [$G2 $HB]; iintro HB
  iapply (wp_gather i d P fd (listOf (igOf I i t)) q h 3) $$ [$G3 $HB]; iintro HB
  rw [wp_pure]; imodintro
  isplitl [Hi]; · iexact Hi
  isplitl [H8]
  · iexists f8'; isplitr
    · ipureintro; exact hread
    · iexact H8
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [HB]; · iexact HB
  isplitl [Hv]; · iexact Hv
  iexact HO

end Cert.KernelIdeal.Tile
-- ==== Proof.Whole.lean ====
/-
  A whole chunk: one chunk of 128 keypoints on one vector subcore: fetch the indices, write the list, gather, compute, write out.
-/
module

public import proofs.«01_k».proof.Proof.Body

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
open Proof01

variable (i : grid1.Coords) (d : Dev nD)
variable (P : Buf (Elt F) ((V' d i).loc main_v12_scv)) (I : Buf (Elt F) ((V' d i).loc main_v11_scv)) (q : PosShare TreeShare)
variable (O : CellTallies nD τ sig (HIx 1)) (W : Waits sig (HIx 1))

/-- The subcore's scratch: its buffers at any contents, its copies' semaphores at rest. -/
def kit : sProp (MM F) :=
  iprop((∃ f, (V' d i).loc cc1_scratch0 ↦{fullShare} f) ∗ (∃ f, (V' d i).loc cc1_scratch1 ↦{fullShare} f) ∗ (∃ f, (V' d i).loc cc1_scratch2 ↦{fullShare} f)
    ∗ (∃ f, (V' d i).loc cc1_scratch3 ↦{fullShare} f) ∗ (∃ f, (V' d i).loc cc1_scratch4 ↦{fullShare} f) ∗ (∃ f, (V' d i).loc cc1_scratch5 ↦{fullShare} f) ∗ (∃ f, (V' d i).loc cc1_scratch6 ↦{fullShare} f)
    ∗ semVal (V' d i, SemLoc.dma cc1_scratch7.sem) 0
    ∗ semVal (V' d i, SemLoc.dma cc1_scoped0.sem) 0 ∗ semVal (V' d i, SemLoc.dma cc1_scoped1.sem) 0 ∗ semVal (V' d i, SemLoc.dma cc1_scoped2.sem) 0
    ∗ semVal (V' d i, SemLoc.dma cc1_scoped3.sem) 0 ∗ semVal (V' d i, SemLoc.dma cc1_scoped4.sem) 0)

theorem OutInv.all {tg o : S128.Idx → F .f32} (h : OutInv tg 8 o) : o = tg := by
  funext x
  have hx : (x 0).val < 128 := (x 0).isLt
  have e : ix1 (⟨(x 0).val, hx⟩ : Fin 128) = x := by
    funext a; apply Fin.ext
    match a with
    | ⟨0, _⟩ => rfl
  have := h ⟨(x 0).val, hx⟩ (by show (x 0).val < 16 * 8; omega)
  rwa [e] at this

theorem ins_ok {W W' : Waits sig (HIx 1)} (h : ∀ p ∈ W', p ∈ W ∨ p.2 = none) (s : SemLoc sig) : ∀ p ∈ insert (s, (default : HIx 1)) W', p ∈ W ∨ p.2 = none := by
  intro p hp
  rcases Finset.mem_insert.mp hp with hp | hp
  · exact .inr (hp ▸ rfl)
  · exact h p hp

/-- The chunk of result 0 once its copy has landed. -/
theorem landed_x (t : Fin k1_t1_loop.trips) (f : Buf (Elt F) ((xS i t).view.loc (V' d i))) (hf : (xS i t).view.read (Elt F) f = tX P (igOf I i t)) :
    ((xS i t).view.loc (V' d i) ↦[(xS i t).view.set]{fullShare} f : sProp (MM F))
      = ((xS i t).view.loc (V' d i) ↦[(xS i t).view.set]{fullShare} fun p => oX P (I p)) := by
  refine pointsTo_congr fun x hx => ?_
  obtain ⟨p, -, rfl⟩ := Finset.mem_map.mp hx
  exact congrFun hf p

/-- The chunk of result 1 once its copy has landed. -/
theorem landed_y (t : Fin k1_t1_loop.trips) (f : Buf (Elt F) ((yS i t).view.loc (V' d i))) (hf : (yS i t).view.read (Elt F) f = tY P (igOf I i t)) :
    ((yS i t).view.loc (V' d i) ↦[(yS i t).view.set]{fullShare} f : sProp (MM F))
      = ((yS i t).view.loc (V' d i) ↦[(yS i t).view.set]{fullShare} fun p => oY P (I p)) := by
  refine pointsTo_congr fun x hx => ?_
  obtain ⟨p, -, rfl⟩ := Finset.mem_map.mp hx
  exact congrFun hf p

/-- The chunk of result 2 once its copy has landed. -/
theorem landed_s (t : Fin k1_t1_loop.trips) (f : Buf (Elt F) ((sS i t).view.loc (V' d i))) (hf : (sS i t).view.read (Elt F) f = tS P (igOf I i t)) :
    ((sS i t).view.loc (V' d i) ↦[(sS i t).view.set]{fullShare} f : sProp (MM F))
      = ((sS i t).view.loc (V' d i) ↦[(sS i t).view.set]{fullShare} fun p => oS P (I p)) := by
  refine pointsTo_congr fun x hx => ?_
  obtain ⟨p, -, rfl⟩ := Finset.mem_map.mp hx
  exact congrFun hf p

/-- The chunk of result 3 once its copy has landed. -/
theorem landed_d (t : Fin k1_t1_loop.trips) (f : Buf (Elt F) ((dS i t).view.loc (V' d i))) (hf : (dS i t).view.read (Elt F) f = tD P (igOf I i t)) :
    ((dS i t).view.loc (V' d i) ↦[(dS i t).view.set]{fullShare} f : sProp (MM F))
      = ((dS i t).view.loc (V' d i) ↦[(dS i t).view.set]{fullShare} fun p => oD P (I p)) := by
  refine pointsTo_congr fun x hx => ?_
  obtain ⟨p, -, rfl⟩ := Finset.mem_map.mp hx
  exact congrFun hf p

set_option maxHeartbeats 2000000 in
/-- One chunk: its indices' patches gathered and refined, the four results written out. -/
theorem wp_chunk (t : Fin k1_t1_loop.trips) (u : BitVec 32) (hig : ∀ p, (igOf I i t p).toNat < 2 ^ 20)
    (fx : Buf (Elt F) ((xS i t).view.loc (V' d i))) (fy : Buf (Elt F) ((yS i t).view.loc (V' d i))) (fs : Buf (Elt F) ((sS i t).view.loc (V' d i))) (fe : Buf (Elt F) ((dS i t).view.loc (V' d i))) :
    iprop(Transfers.MayWaits (V' d i) (default : HIx 1) O
        ∗ ((iS i t).view.loc (V' d i) ↦[(iS i t).view.set]{fullShare} I)
        ∗ (srcS.view.loc (V' d i) ↦[srcS.view.set]{q} P)
        ∗ kit i d
        ∗ ((xS i t).view.loc (V' d i) ↦[(xS i t).view.set]{fullShare} fx) ∗ ((yS i t).view.loc (V' d i) ↦[(yS i t).view.set]{fullShare} fy)
        ∗ ((sS i t).view.loc (V' d i) ↦[(sS i t).view.set]{fullShare} fs) ∗ ((dS i t).view.loc (V' d i) ↦[(dS i t).view.set]{fullShare} fe)
        ∗ owesW i d O W)
      ⊢ wp frame (wpE (defs₀ (F := F)) 𝒱₀ (V' d i) none) Set.univ (k1_t1_body (F := F) i (Memref.whole main_v12_scv) (Memref.isWhole_whole _) (Memref.whole main_v11_scv) (Memref.isWhole_whole _) (Memref.whole main_v13_0_scv) (Memref.isWhole_whole _) (Memref.whole main_v13_1_scv) (Memref.isWhole_whole _) (Memref.whole main_v13_2_scv) (Memref.isWhole_whole _) (Memref.whole main_v13_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scoped0 cc1_scoped1 cc1_scoped2 cc1_scoped3 cc1_scoped4 u lanes t ⟨⟩)
        (fun _ => iprop(((iS i t).view.loc (V' d i) ↦[(iS i t).view.set]{fullShare} I)
          ∗ (srcS.view.loc (V' d i) ↦[srcS.view.set]{q} P)
          ∗ kit i d
          ∗ ((xS i t).view.loc (V' d i) ↦[(xS i t).view.set]{fullShare} fun p => oX P (I p)) ∗ ((yS i t).view.loc (V' d i) ↦[(yS i t).view.set]{fullShare} fun p => oY P (I p))
          ∗ ((sS i t).view.loc (V' d i) ↦[(sS i t).view.set]{fullShare} fun p => oS P (I p)) ∗ ((dS i t).view.loc (V' d i) ↦[(dS i t).view.set]{fullShare} fun p => oD P (I p))
          ∗ owesW i d O W)) := by
  have h : InRange (listOf (igOf I i t)) := listOf_inRange hig
  unfold k1_t1_body kit
  iintro ⟨#HM, Hi, Hs, ⟨⟨%f0, H0⟩, ⟨%f1, H1⟩, ⟨%f2, H2⟩, H3, H4, H5, H6, Hg, S0, S1, S2, S3, S4⟩, Ox, Oy, Os, Od, HO⟩
  ihave HO' := (Entails.of_eq (show owesW (F := F) i d O W = iprop(∃ W', ⌜∀ p ∈ W', p ∈ W ∨ p.2 = none⌝ ∗ owes (V' d i) O W') from rfl)) $$ HO
  icases HO' with ⟨%W', %hW, HO⟩
  iapply (wp_seq (wp_p35 i d P I f2 q O W' t u hig h f0 f1)) $$ [$HM $Hi $H0 $H1 $H2 $Hs $Hg $S0 $HO]
  iintro %_ ⟨Hi, ⟨%g0, %hg0, H0⟩, G4, G5, G6, G7, G8, G9, G10, G11, HB, S0, HO⟩
  iapply (wp_seq (wp_p36 i d P f2 q (igOf I i t) h)) $$ [$G4 $G5 $G6 $G7 $G8 $G9 $HB]
  iintro %_ HB
  iapply (wp_seq (wp_p37 i d P f2 q O W' (igOf I i t) h)) $$ [$G10 $G11 $HB $HO $HM]
  iintro %_ ⟨HB, HO⟩
  iapply (wp_seq (wp_p38 i d P f2 q O W' (igOf I i t) h)) $$ [$HB $HO $HM]
  iintro %r ⟨%hr, ⟨H2, Hs, H1⟩, Hg, HO⟩
  subst hr
  dsimp -proj only
  sl_for (fun (k : ℕ) (_ : Unit) => iprop(idxPts i d (Memref.whole cc1_scratch0) fullShare g0 ∗ dataPts i d (Memref.whole cc1_scratch2) fullShare (gOut P (listOf (igOf I i t)))
    ∗ outs i d (Memref.whole cc1_scratch3) (Memref.whole cc1_scratch4) (Memref.whole cc1_scratch5) (Memref.whole cc1_scratch6) P (igOf I i t) k)) $$ [H0 H2 H3 H4 H5 H6]
  case region =>
    intro k _
    exact wp_compute i d _ _ _ _ _ _ _ _ _ _ _ _ _ _ _ _ _ _ _ _ _ _ _ _ _ _ _ _ _ _ _ _ k hig hg0 (by
      rw [show ((Memref.whole cc1_scratch2).access (.whole S1536x16)).read (Elt F) (gOut P (listOf (igOf I i t))) = gOut P (listOf (igOf I i t)) from read_acc cc1_scratch2 _]
      exact gOut_ok P hig)
  · isplitl [H0]; · iexact H0
    isplitl [H2]; · unfold dataPts; iexact H2
    unfold outs
    isplitl [H3]
    · iapply (Entails.of_eq (holds3 (F := F) i d _).symm)
      icases H3 with ⟨%f, H⟩; iexists f; isplitr; · ipureintro; intro p hp; omega
      iexact H
    isplitl [H4]
    · iapply (Entails.of_eq (holds4 (F := F) i d _).symm)
      icases H4 with ⟨%f, H⟩; iexists f; isplitr; · ipureintro; intro p hp; omega
      iexact H
    isplitl [H5]
    · iapply (Entails.of_eq (holds5 (F := F) i d _).symm)
      icases H5 with ⟨%f, H⟩; iexists f; isplitr; · ipureintro; intro p hp; omega
      iexact H
    · iapply (Entails.of_eq (holds6 (F := F) i d _).symm)
      icases H6 with ⟨%f, H⟩; iexists f; isplitr; · ipureintro; intro p hp; omega
      iexact H
  iintro %_acc ⟨H0, H2, HR⟩
  unfold outs
  icases HR with ⟨H3, H4, H5, H6⟩
  ihave H3 := (Entails.of_eq (holds3 (F := F) i d _)) $$ H3
  ihave H4 := (Entails.of_eq (holds4 (F := F) i d _)) $$ H4
  ihave H5 := (Entails.of_eq (holds5 (F := F) i d _)) $$ H5
  ihave H6 := (Entails.of_eq (holds6 (F := F) i d _)) $$ H6
  icases H3 with ⟨%w3, %hw3, H3⟩
  icases H4 with ⟨%w4, %hw4, H4⟩
  icases H5 with ⟨%w5, %hw5, H5⟩
  icases H6 with ⟨%w6, %hw6, H6⟩
  obtain rfl := OutInv.all (show OutInv _ 8 _ from hw3)
  obtain rfl := OutInv.all (show OutInv _ 8 _ from hw4)
  obtain rfl := OutInv.all (show OutInv _ 8 _ from hw5)
  obtain rfl := OutInv.all (show OutInv _ 8 _ from hw6)
  ihave HO' := (Entails.of_eq (show owesW (F := F) i d O W' = iprop(∃ W'', ⌜∀ p ∈ W'', p ∈ W' ∨ p.2 = none⌝ ∗ owes (V' d i) O W'') from rfl)) $$ HO
  icases HO' with ⟨%W'', %hW', HO⟩
  ihave H3 := (Entails.of_eq (show ((V' d i).loc cc1_scratch3 ↦{fullShare} tX P (igOf I i t) : sProp (MM F)) = ((Memref.whole cc1_scratch3).view.loc (V' d i) ↦{fullShare} tX P (igOf I i t)) from rfl)) $$ H3
  ihave H4 := (Entails.of_eq (show ((V' d i).loc cc1_scratch4 ↦{fullShare} tY P (igOf I i t) : sProp (MM F)) = ((Memref.whole cc1_scratch4).view.loc (V' d i) ↦{fullShare} tY P (igOf I i t)) from rfl)) $$ H4
  ihave H5 := (Entails.of_eq (show ((V' d i).loc cc1_scratch5 ↦{fullShare} tS P (igOf I i t) : sProp (MM F)) = ((Memref.whole cc1_scratch5).view.loc (V' d i) ↦{fullShare} tS P (igOf I i t)) from rfl)) $$ H5
  ihave H6 := (Entails.of_eq (show ((V' d i).loc cc1_scratch6 ↦{fullShare} tD P (igOf I i t) : sProp (MM F)) = ((Memref.whole cc1_scratch6).view.loc (V' d i) ↦{fullShare} tD P (igOf I i t)) from rfl)) $$ H6
  sl_exec (disch := exact View.amount_pos _ _ (show 0 < S128.numel by decide))
  sl_step
  isplitl [Hi]; · iexact Hi
  isplitl [Hs]; · iexact Hs
  isplitl [H0 H1 H2 H3 H4 H5 H6 Hg S0 S1 S2 S3 S4]
  · isplitl [H0]; · iexists g0; unfold idxPts; iexact H0
    isplitl [H1]; · iexists (listOf (igOf I i t)); iexact H1
    isplitl [H2]; · iexists (gOut P (listOf (igOf I i t))); unfold dataPts; iexact H2
    isplitl [H3]; · iexists (tX P (igOf I i t)); iexact H3
    isplitl [H4]; · iexists (tY P (igOf I i t)); iexact H4
    isplitl [H5]; · iexists (tS P (igOf I i t)); iexact H5
    isplitl [H6]; · iexists (tD P (igOf I i t)); iexact H6
    isplitl [Hg]; · iexact Hg
    isplitl [S0]; · iexact S0
    isplitl [S1]; · iexact S1
    isplitl [S2]; · iexact S2
    isplitl [S3]; · iexact S3
    iexact S4
  isplitl [Ox]; · iapply (Entails.of_eq (landed_x i d P I t _ ((View.read_writes_whole (xS i t).view fx (wp_chunk.sl.dma0 i d P I t)).trans rfl))) $$ Ox
  isplitl [Oy]; · iapply (Entails.of_eq (landed_y i d P I t _ ((View.read_writes_whole (yS i t).view fy (wp_chunk.sl.dma0_1 i d P I t)).trans rfl))) $$ Oy
  isplitl [Os]; · iapply (Entails.of_eq (landed_s i d P I t _ ((View.read_writes_whole (sS i t).view fs (wp_chunk.sl.dma0_2 i d P I t)).trans rfl))) $$ Os
  isplitl [Od]; · iapply (Entails.of_eq (landed_d i d P I t _ ((View.read_writes_whole (dS i t).view fe (wp_chunk.sl.dma0_3 i d P I t)).trans rfl))) $$ Od
  unfold owesW
  iexists _
  isplitr
  rotate_left
  · iexact HO
  ipureintro
  exact ins_ok (ins_ok (ins_ok (ins_ok (fun p hp => (hW' p hp).elim (hW p) .inr) _) _) _) _

end Cert.KernelIdeal.Tile
-- ==== Proof.Tile.lean ====
/-
  The task of one vector subcore: its five chunks, from the resources the launch hands it.
-/
module

public import proofs.«01_k».proof.Proof.Whole

@[expose] public section

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
open Proof01
open Idealize.ShloMosaic.SparseCore.Cfg

variable (i : grid1.Coords) (d : Dev nD)
variable (P : Buf (Elt F) ((V' d i).loc main_v12_scv)) (I : Buf (Elt F) ((V' d i).loc main_v11_scv)) (q : PosShare TreeShare)
variable (O : CellTallies nD τ sig (HIx 1)) (W : Waits sig (HIx 1))

/-! ## The five chunks -/

/-- The elements of chunk `t` of subcore `i` in a row array. -/
abbrev chunkSet (i : grid1.Coords) (t : Fin k1_t1_loop.trips) : Finset S20480.Idx := (chunkR i t).set

theorem set_iS (t : Fin k1_t1_loop.trips) : (iS i t).view.set = chunkSet i t := View.set_slice_whole _ _
theorem set_xS (t : Fin k1_t1_loop.trips) : (xS i t).view.set = chunkSet i t := View.set_slice_whole _ _
theorem set_yS (t : Fin k1_t1_loop.trips) : (yS i t).view.set = chunkSet i t := View.set_slice_whole _ _
theorem set_sS (t : Fin k1_t1_loop.trips) : (sS i t).view.set = chunkSet i t := View.set_slice_whole _ _
theorem set_dS (t : Fin k1_t1_loop.trips) : (dS i t).view.set = chunkSet i t := View.set_slice_whole _ _
theorem set_srcS : srcS.view.set = Finset.univ := by
  refine (View.set_slice_whole _ _).trans ?_
  ext x
  simp only [Finset.mem_univ, iff_true]
  have z : ∀ a, (![0, 0] : Fin 2 → ℕ) a = 0 := by decide
  exact Rect.mem_set_unit.mpr fun a => ⟨by rw [z]; exact Nat.zero_le _, by rw [z, Nat.zero_add]; exact (x a).isLt⟩

/-- Chunk `t` of the indices. -/
def iChunk (t : Fin k1_t1_loop.trips) : sProp (MM F) := (V' d i).loc main_v11_scv ↦[chunkSet i t]{fullShare} I
/-- Chunk `t` of the four results, at the given contents. -/
def oChunk (fx : Buf (Elt F) ((V' d i).loc main_v13_0_scv)) (fy : Buf (Elt F) ((V' d i).loc main_v13_1_scv)) (fs : Buf (Elt F) ((V' d i).loc main_v13_2_scv)) (fe : Buf (Elt F) ((V' d i).loc main_v13_3_scv)) (t : Fin k1_t1_loop.trips) : sProp (MM F) :=
  iprop(((V' d i).loc main_v13_0_scv ↦[chunkSet i t]{fullShare} fx) ∗ ((V' d i).loc main_v13_1_scv ↦[chunkSet i t]{fullShare} fy)
    ∗ ((V' d i).loc main_v13_2_scv ↦[chunkSet i t]{fullShare} fs) ∗ ((V' d i).loc main_v13_3_scv ↦[chunkSet i t]{fullShare} fe))
/-- The same at the values the keypoints' patches give. -/
def rChunk (t : Fin k1_t1_loop.trips) : sProp (MM F) :=
  oChunk i d (fun p => oX P (I p)) (fun p => oY P (I p)) (fun p => oS P (I p)) (fun p => oD P (I p)) t

variable (fx : Buf (Elt F) ((V' d i).loc main_v13_0_scv)) (fy : Buf (Elt F) ((V' d i).loc main_v13_1_scv)) (fs : Buf (Elt F) ((V' d i).loc main_v13_2_scv)) (fe : Buf (Elt F) ((V' d i).loc main_v13_3_scv))

/-- Before chunk `k`: the chunks before it refined. -/
def sofar (k : ℕ) (t : Fin k1_t1_loop.trips) : sProp (MM F) :=
  if t.val < k then rChunk i d P I t else oChunk i d fx fy fs fe t

/-- The loop over chunks. -/
def chunkInv (k : ℕ) (_ : Unit) : sProp (MM F) :=
  iprop(Transfers.MayWaits (V' d i) (default : HIx 1) O ∗ bigSep Finset.univ (iChunk i d I) ∗ (srcS.view.loc (V' d i) ↦[srcS.view.set]{q} P) ∗ kit i d
    ∗ bigSep Finset.univ (sofar i d P I fx fy fs fe k) ∗ owesW i d O W)

theorem chunk_step (hI : ∀ p, (I p).toNat < 2 ^ 20) (u : BitVec 32) (k : Fin k1_t1_loop.trips) :
    chunkInv i d P I q O W fx fy fs fe k.val ⟨⟩
      ⊢ wp frame (wpE (defs₀ (F := F)) 𝒱₀ (V' d i) none) Set.univ (k1_t1_body (F := F) i (Memref.whole main_v12_scv) (Memref.isWhole_whole _) (Memref.whole main_v11_scv) (Memref.isWhole_whole _) (Memref.whole main_v13_0_scv) (Memref.isWhole_whole _) (Memref.whole main_v13_1_scv) (Memref.isWhole_whole _) (Memref.whole main_v13_2_scv) (Memref.isWhole_whole _) (Memref.whole main_v13_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scoped0 cc1_scoped1 cc1_scoped2 cc1_scoped3 cc1_scoped4 u lanes k ⟨⟩) (fun _ => chunkInv i d P I q O W fx fy fs fe (k.val + 1) ⟨⟩) := by
  unfold chunkInv
  have hrest : (bigSep (Finset.univ.erase k) (sofar i d P I fx fy fs fe k.val) : sProp (MM F)) = bigSep (Finset.univ.erase k) (sofar i d P I fx fy fs fe (k.val + 1)) := by
    refine bigSep_congr fun t ht => ?_
    have hne : t.val ≠ k.val := fun e => (Finset.mem_erase.mp ht).1 (Fin.ext e)
    unfold sofar
    by_cases h : t.val < k.val
    · rw [if_pos h, if_pos (by omega)]
    · rw [if_neg h, if_neg (by omega)]
  have hk0 : sofar i d P I fx fy fs fe k.val k = oChunk i d fx fy fs fe k := if_neg (lt_irrefl _)
  have hk1 : sofar i d P I fx fy fs fe (k.val + 1) k = rChunk i d P I k := if_pos (Nat.lt_succ_self _)
  rw [SparseCore.bigSep_erase' (Finset.mem_univ k), SparseCore.bigSep_erase' (Φ := sofar i d P I fx fy fs fe k.val) (Finset.mem_univ k),
    SparseCore.bigSep_erase' (Φ := sofar i d P I fx fy fs fe (k.val + 1)) (Finset.mem_univ k), hrest, hk0, hk1]
  unfold rChunk oChunk iChunk
  iintro ⟨#HM, ⟨Hi, Hir⟩, Hs, HK, ⟨⟨Ox, Oy, Os, Oe⟩, Hor⟩, HO⟩
  ihave Hi := (Entails.of_eq (show ((V' d i).loc main_v11_scv ↦[chunkSet i k]{fullShare} I : sProp (MM F)) = ((iS i k).view.loc (V' d i) ↦[(iS i k).view.set]{fullShare} I) by rw [set_iS])) $$ Hi
  ihave Ox := (Entails.of_eq (show ((V' d i).loc main_v13_0_scv ↦[chunkSet i k]{fullShare} fx : sProp (MM F)) = ((xS i k).view.loc (V' d i) ↦[(xS i k).view.set]{fullShare} fx) by rw [set_xS])) $$ Ox
  ihave Oy := (Entails.of_eq (show ((V' d i).loc main_v13_1_scv ↦[chunkSet i k]{fullShare} fy : sProp (MM F)) = ((yS i k).view.loc (V' d i) ↦[(yS i k).view.set]{fullShare} fy) by rw [set_yS])) $$ Oy
  ihave Os := (Entails.of_eq (show ((V' d i).loc main_v13_2_scv ↦[chunkSet i k]{fullShare} fs : sProp (MM F)) = ((sS i k).view.loc (V' d i) ↦[(sS i k).view.set]{fullShare} fs) by rw [set_sS])) $$ Os
  ihave Oe := (Entails.of_eq (show ((V' d i).loc main_v13_3_scv ↦[chunkSet i k]{fullShare} fe : sProp (MM F)) = ((dS i k).view.loc (V' d i) ↦[(dS i k).view.set]{fullShare} fe) by rw [set_dS])) $$ Oe
  ihave H := (wp_chunk i d P I q O W k u (fun p => hI _) fx fy fs fe) $$ [$HM $Hi $Hs $HK $Ox $Oy $Os $Oe $HO]
  ihave H := (wp_frame_r _ _ _ (R := iprop(Transfers.MayWaits (V' d i) (default : HIx 1) O ∗ bigSep (Finset.univ.erase k) (iChunk i d I) ∗ bigSep (Finset.univ.erase k) (sofar i d P I fx fy fs fe (k.val + 1))))) $$ [$H HM Hir Hor]
  · isplitr; · iexact HM
    isplitl [Hir]; · unfold iChunk; iexact Hir
    iexact Hor
  iapply (wp_mono _ _ _ ?_) $$ H
  intro _
  unfold iChunk
  iintro ⟨⟨Hi, Hs, HK, Ox, Oy, Os, Oe, HO⟩, HM, Hir, Hor⟩
  isplitl [HM]; · iexact HM
  isplitl [Hi Hir]
  · isplitl [Hi]; · iapply (Entails.of_eq (show ((iS i k).view.loc (V' d i) ↦[(iS i k).view.set]{fullShare} I : sProp (MM F)) = ((V' d i).loc main_v11_scv ↦[chunkSet i k]{fullShare} I) by rw [set_iS])) $$ Hi
    iexact Hir
  isplitl [Hs]; · iexact Hs
  isplitl [HK]; · iexact HK
  isplitr [HO]
  · isplitr [Hor]
    · isplitl [Ox]; · iapply (Entails.of_eq (show ((xS i k).view.loc (V' d i) ↦[(xS i k).view.set]{fullShare} (fun p => oX P (I p)) : sProp (MM F)) = ((V' d i).loc main_v13_0_scv ↦[chunkSet i k]{fullShare} fun p => oX P (I p)) by rw [set_xS])) $$ Ox
      isplitl [Oy]; · iapply (Entails.of_eq (show ((yS i k).view.loc (V' d i) ↦[(yS i k).view.set]{fullShare} (fun p => oY P (I p)) : sProp (MM F)) = ((V' d i).loc main_v13_1_scv ↦[chunkSet i k]{fullShare} fun p => oY P (I p)) by rw [set_yS])) $$ Oy
      isplitl [Os]; · iapply (Entails.of_eq (show ((sS i k).view.loc (V' d i) ↦[(sS i k).view.set]{fullShare} (fun p => oS P (I p)) : sProp (MM F)) = ((V' d i).loc main_v13_2_scv ↦[chunkSet i k]{fullShare} fun p => oS P (I p)) by rw [set_sS])) $$ Os
      iapply (Entails.of_eq (show ((dS i k).view.loc (V' d i) ↦[(dS i k).view.set]{fullShare} (fun p => oD P (I p)) : sProp (MM F)) = ((V' d i).loc main_v13_3_scv ↦[chunkSet i k]{fullShare} fun p => oD P (I p)) by rw [set_dS])) $$ Oe
    iexact Hor
  iexact HO

/-! ## The subcore's own buffers and semaphores -/

/-- The six semaphores of the task among the subcore's own. -/
theorem ownSems0_V :
    (ownSems0 (V' d i) : sProp (MM F)) = iprop(semVal ((V' d i, SemLoc.dma cc1_scratch7.sem) : GSem nD τ sig) 0 ∗ semVal ((V' d i, SemLoc.dma cc1_scoped0.sem) : GSem nD τ sig) 0 ∗ semVal ((V' d i, SemLoc.dma cc1_scoped1.sem) : GSem nD τ sig) 0 ∗ semVal ((V' d i, SemLoc.dma cc1_scoped2.sem) : GSem nD τ sig) 0 ∗ semVal ((V' d i, SemLoc.dma cc1_scoped3.sem) : GSem nD τ sig) 0 ∗ semVal ((V' d i, SemLoc.dma cc1_scoped4.sem) : GSem nD τ sig) 0
      ∗ bigSep (((((((ownCells (V' d i)).erase ((V' d i, SemLoc.dma cc1_scratch7.sem) : GSem nD τ sig)).erase ((V' d i, SemLoc.dma cc1_scoped0.sem) : GSem nD τ sig)).erase ((V' d i, SemLoc.dma cc1_scoped1.sem) : GSem nD τ sig)).erase ((V' d i, SemLoc.dma cc1_scoped2.sem) : GSem nD τ sig)).erase ((V' d i, SemLoc.dma cc1_scoped3.sem) : GSem nD τ sig)).erase ((V' d i, SemLoc.dma cc1_scoped4.sem) : GSem nD τ sig)) fun g => semVal g 0) := by
  unfold SparseCore.Cfg.ownSems0
  have ne : ∀ a b : DmaSem sig, a ≠ b → ((V' d i, SemLoc.dma a) : GSem nD τ sig) ≠ (V' d i, SemLoc.dma b) := fun a b h e => h (by injection e with _ e; injection e)
  rw [SparseCore.bigSep_erase' ((mem_ownCells (g := ((V' d i, SemLoc.dma cc1_scratch7.sem) : GSem nD τ sig))).mpr ⟨rfl, by show (SemLoc.dma cc1_scratch7.sem : SemLoc sig).isScoped .scVector = true; decide⟩),
    SparseCore.bigSep_erase' (Finset.mem_erase.mpr ⟨ne _ _ (by decide), ((mem_ownCells (g := ((V' d i, SemLoc.dma cc1_scoped0.sem) : GSem nD τ sig))).mpr ⟨rfl, by show (SemLoc.dma cc1_scoped0.sem : SemLoc sig).isScoped .scVector = true; decide⟩)⟩),
    SparseCore.bigSep_erase' (Finset.mem_erase.mpr ⟨ne _ _ (by decide), (Finset.mem_erase.mpr ⟨ne _ _ (by decide), ((mem_ownCells (g := ((V' d i, SemLoc.dma cc1_scoped1.sem) : GSem nD τ sig))).mpr ⟨rfl, by show (SemLoc.dma cc1_scoped1.sem : SemLoc sig).isScoped .scVector = true; decide⟩)⟩)⟩),
    SparseCore.bigSep_erase' (Finset.mem_erase.mpr ⟨ne _ _ (by decide), (Finset.mem_erase.mpr ⟨ne _ _ (by decide), (Finset.mem_erase.mpr ⟨ne _ _ (by decide), ((mem_ownCells (g := ((V' d i, SemLoc.dma cc1_scoped2.sem) : GSem nD τ sig))).mpr ⟨rfl, by show (SemLoc.dma cc1_scoped2.sem : SemLoc sig).isScoped .scVector = true; decide⟩)⟩)⟩)⟩),
    SparseCore.bigSep_erase' (Finset.mem_erase.mpr ⟨ne _ _ (by decide), (Finset.mem_erase.mpr ⟨ne _ _ (by decide), (Finset.mem_erase.mpr ⟨ne _ _ (by decide), (Finset.mem_erase.mpr ⟨ne _ _ (by decide), ((mem_ownCells (g := ((V' d i, SemLoc.dma cc1_scoped3.sem) : GSem nD τ sig))).mpr ⟨rfl, by show (SemLoc.dma cc1_scoped3.sem : SemLoc sig).isScoped .scVector = true; decide⟩)⟩)⟩)⟩)⟩),
    SparseCore.bigSep_erase' (Finset.mem_erase.mpr ⟨ne _ _ (by decide), (Finset.mem_erase.mpr ⟨ne _ _ (by decide), (Finset.mem_erase.mpr ⟨ne _ _ (by decide), (Finset.mem_erase.mpr ⟨ne _ _ (by decide), (Finset.mem_erase.mpr ⟨ne _ _ (by decide), ((mem_ownCells (g := ((V' d i, SemLoc.dma cc1_scoped4.sem) : GSem nD τ sig))).mpr ⟨rfl, by show (SemLoc.dma cc1_scoped4.sem : SemLoc sig).isScoped .scVector = true; decide⟩)⟩)⟩)⟩)⟩)⟩)]

/-- The seven scratch buffers among the subcore's own. -/
theorem ownBufs_V :
    (ownBufs (V' d i) : sProp (MM F)) = iprop((∃ f, (V' d i).loc cc1_scratch0 ↦{fullShare} f) ∗ (∃ f, (V' d i).loc cc1_scratch1 ↦{fullShare} f) ∗ (∃ f, (V' d i).loc cc1_scratch2 ↦{fullShare} f) ∗ (∃ f, (V' d i).loc cc1_scratch3 ↦{fullShare} f) ∗ (∃ f, (V' d i).loc cc1_scratch4 ↦{fullShare} f) ∗ (∃ f, (V' d i).loc cc1_scratch5 ↦{fullShare} f) ∗ (∃ f, (V' d i).loc cc1_scratch6 ↦{fullShare} f)
      ∗ bigSep ((((((((ownRefs (τ := τ) (.scVector (cV i) (jV i))).erase ((Proc.scVector (cV i) (jV i)).devRef cc1_scratch0)).erase ((Proc.scVector (cV i) (jV i)).devRef cc1_scratch1)).erase ((Proc.scVector (cV i) (jV i)).devRef cc1_scratch2)).erase ((Proc.scVector (cV i) (jV i)).devRef cc1_scratch3)).erase ((Proc.scVector (cV i) (jV i)).devRef cc1_scratch4)).erase ((Proc.scVector (cV i) (jV i)).devRef cc1_scratch5)).erase ((Proc.scVector (cV i) (jV i)).devRef cc1_scratch6)) fun b => iprop(∃ f, ((d, b) : Loc nD τ sig) ↦{fullShare} f)) := by
  unfold SparseCore.Cfg.ownBufs
  have ne : ∀ a b : Ref sig .scVector, a ≠ b → (Proc.scVector (cV i) (jV i)).devRef a ≠ (Proc.scVector (cV i) (jV i)).devRef b := fun a b h e => absurd (Proc.devRef_injective _ e) h
  refine (SparseCore.bigSep_erase' (SparseCore.Cfg.mem_ownRefs_of_owner (p := Proc.scVector (cV i) (jV i)) (b := ((Proc.scVector (cV i) (jV i)).devRef cc1_scratch0)) rfl)).trans ?_
  rw [SparseCore.bigSep_erase' (Finset.mem_erase.mpr ⟨ne _ _ (by decide), (SparseCore.Cfg.mem_ownRefs_of_owner (p := Proc.scVector (cV i) (jV i)) (b := ((Proc.scVector (cV i) (jV i)).devRef cc1_scratch1)) rfl)⟩),
    SparseCore.bigSep_erase' (Finset.mem_erase.mpr ⟨ne _ _ (by decide), (Finset.mem_erase.mpr ⟨ne _ _ (by decide), (SparseCore.Cfg.mem_ownRefs_of_owner (p := Proc.scVector (cV i) (jV i)) (b := ((Proc.scVector (cV i) (jV i)).devRef cc1_scratch2)) rfl)⟩)⟩),
    SparseCore.bigSep_erase' (Finset.mem_erase.mpr ⟨ne _ _ (by decide), (Finset.mem_erase.mpr ⟨ne _ _ (by decide), (Finset.mem_erase.mpr ⟨ne _ _ (by decide), (SparseCore.Cfg.mem_ownRefs_of_owner (p := Proc.scVector (cV i) (jV i)) (b := ((Proc.scVector (cV i) (jV i)).devRef cc1_scratch3)) rfl)⟩)⟩)⟩),
    SparseCore.bigSep_erase' (Finset.mem_erase.mpr ⟨ne _ _ (by decide), (Finset.mem_erase.mpr ⟨ne _ _ (by decide), (Finset.mem_erase.mpr ⟨ne _ _ (by decide), (Finset.mem_erase.mpr ⟨ne _ _ (by decide), (SparseCore.Cfg.mem_ownRefs_of_owner (p := Proc.scVector (cV i) (jV i)) (b := ((Proc.scVector (cV i) (jV i)).devRef cc1_scratch4)) rfl)⟩)⟩)⟩)⟩),
    SparseCore.bigSep_erase' (Finset.mem_erase.mpr ⟨ne _ _ (by decide), (Finset.mem_erase.mpr ⟨ne _ _ (by decide), (Finset.mem_erase.mpr ⟨ne _ _ (by decide), (Finset.mem_erase.mpr ⟨ne _ _ (by decide), (Finset.mem_erase.mpr ⟨ne _ _ (by decide), (SparseCore.Cfg.mem_ownRefs_of_owner (p := Proc.scVector (cV i) (jV i)) (b := ((Proc.scVector (cV i) (jV i)).devRef cc1_scratch5)) rfl)⟩)⟩)⟩)⟩)⟩),
    SparseCore.bigSep_erase' (Finset.mem_erase.mpr ⟨ne _ _ (by decide), (Finset.mem_erase.mpr ⟨ne _ _ (by decide), (Finset.mem_erase.mpr ⟨ne _ _ (by decide), (Finset.mem_erase.mpr ⟨ne _ _ (by decide), (Finset.mem_erase.mpr ⟨ne _ _ (by decide), (Finset.mem_erase.mpr ⟨ne _ _ (by decide), (SparseCore.Cfg.mem_ownRefs_of_owner (p := Proc.scVector (cV i) (jV i)) (b := ((Proc.scVector (cV i) (jV i)).devRef cc1_scratch6)) rfl)⟩)⟩)⟩)⟩)⟩)⟩)]

/-! ## The task -/

/-- The task on one vector subcore: its part of the indices and its share of the map come back, its part of the results
    holds what the keypoints' patches give. -/
theorem tile_body (hF : (K (F := F)).Facts) (hI : ∀ p, (I p).toNat < 2 ^ 20) (hO : ∀ g, O g none = 0) :
    iprop(levAts (K (F := F)).L (K (F := F)).lev ∗ emp
        ∗ (((V' d i).loc main_v12_scv ↦{q} P) ∗ bigSep Finset.univ (iChunk i d I) ∗ bigSep Finset.univ (oChunk i d fx fy fs fe))
        ∗ scopedBufs (V' d i) ∗ scopedSems0 (V' d i) ∗ owes (V' d i) O W)
      ⊢ wp frame (wpE (defs₀ (F := F)) 𝒱₀ (V' d i) none) Set.univ (cc1_kern (F := F) i (Memref.whole main_v12_scv) (Memref.isWhole_whole _) (Memref.whole main_v11_scv) (Memref.isWhole_whole _) (Memref.whole main_v13_0_scv) (Memref.isWhole_whole _) (Memref.whole main_v13_1_scv) (Memref.isWhole_whole _) (Memref.whole main_v13_2_scv) (Memref.isWhole_whole _) (Memref.whole main_v13_3_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scratch7 cc1_scoped0 cc1_scoped1 cc1_scoped2 cc1_scoped3 cc1_scoped4)
          fun _ => iprop((((V' d i).loc main_v12_scv ↦{q} P) ∗ bigSep Finset.univ (iChunk i d I) ∗ bigSep Finset.univ (rChunk i d P I))
            ∗ scopedBufs (V' d i) ∗ scopedSems0 (V' d i)
            ∗ ∃ W', ⌜∀ p ∈ W', p ∈ W ∨ p.2 = none⌝ ∗ owes (V' d i) O W') := by
  simp only [cc1_kern_eq_skeleton]; unfold cc1_kern_skel
  rw [(K (F := F)).scopedBufs_V hF d (cV i) (jV i), SparseCore.Cfg.scopedSems0_V (Val := Elt F) d (cV i) (jV i), ownSems0_V, ownBufs_V]
  iintro ⟨#Hlv, -, ⟨Hs, Hi, Ho⟩, ⟨H0, H1, H2, H3, H4, H5, H6, Hbufs⟩, ⟨Hg, S0, S1, S2, S3, S4, Hsems⟩, HO⟩
  ihave Hmw := (show levAts (K (F := F)).L (K (F := F)).lev ⊢ Transfers.MayWaits (V' d i) (default : HIx 1) O from
    (K (F := F)).mayWaits_none (thr := V' d i) hO) $$ Hlv
  ihave Hs := (Entails.of_eq (show ((V' d i).loc main_v12_scv ↦{q} P : sProp (MM F)) = (srcS.view.loc (V' d i) ↦[srcS.view.set]{q} P) by rw [set_srcS])) $$ Hs
  dsimp -proj only
  sl_for (chunkInv i d P I q O W fx fy fs fe) $$ [Hmw Hi Hs H0 H1 H2 H3 H4 H5 H6 Hg S0 S1 S2 S3 S4 Ho HO]
  case region =>
    intro k _
    exact chunk_step i d P I q O W fx fy fs fe hI _ k
  · unfold chunkInv kit
    isplitl [Hmw]; · iexact Hmw
    isplitl [Hi]; · iexact Hi
    isplitl [Hs]; · iexact Hs
    isplitr [Ho HO]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Hg]; · iexact Hg
      isplitl [S0]; · iexact S0
      isplitl [S1]; · iexact S1
      isplitl [S2]; · iexact S2
      isplitl [S3]; · iexact S3
      iexact S4
    isplitl [Ho]
    · iapply (Entails.of_eq (show (bigSep Finset.univ (oChunk i d fx fy fs fe) : sProp (MM F)) = bigSep Finset.univ (sofar i d P I fx fy fs fe 0) from
        bigSep_congr fun t _ => (if_neg (Nat.not_lt_zero _)).symm)) $$ Ho
    unfold owesW
    iexists W; isplitr
    · ipureintro; exact fun p hp => .inl hp
    · iexact HO
  iintro %_acc H
  unfold chunkInv kit
  icases H with ⟨-, Hi, Hs, ⟨H0, H1, H2, H3, H4, H5, H6, Hg, S0, S1, S2, S3, S4⟩, Ho, HO⟩
  sl_step
  isplitl [Hi Hs Ho]
  · isplitl [Hs]
    · iapply (Entails.of_eq (show (srcS.view.loc (V' d i) ↦[srcS.view.set]{q} P : sProp (MM F)) = ((V' d i).loc main_v12_scv ↦{q} P) by rw [set_srcS])) $$ Hs
    isplitl [Hi]; · iexact Hi
    iapply (Entails.of_eq (show (bigSep Finset.univ (sofar i d P I fx fy fs fe (Scf.trips k1_t1_loop.lb k1_t1_loop.ub k1_t1_loop.st)) : sProp (MM F)) = bigSep Finset.univ (rChunk i d P I) from
        bigSep_congr fun t _ => if_pos t.isLt)) $$ Ho
  isplitl [H0 H1 H2 H3 H4 H5 H6 Hbufs]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact Hbufs
  isplitl [Hg S0 S1 S2 S3 S4 Hsems]
  · isplitl [Hg]; · iexact Hg
    isplitl [S0]; · iexact S0
    isplitl [S1]; · iexact S1
    isplitl [S2]; · iexact S2
    isplitl [S3]; · iexact S3
    isplitl [S4]; · iexact S4
    iexact Hsems
  unfold owesW
  iexact HO

end Cert.KernelIdeal.Tile
-- ==== Proof.Split.lean ====
/-
  The row arrays of the SparseCore call cut into the subcores' chunks, and the read shares of the map.
-/
module

public import proofs.«01_k».proof.Proof.Tile

@[expose] public section

noncomputable section

namespace Cert.KernelIdeal.Split

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.KernelIdeal.Tile

variable {F : FTy → Type}

/-- The coordinates of core `c`, subcore `s`. -/
def co (c : Fin 2) (s : Fin 16) : grid1.Coords :=
  fun | 0 => c | 1 => s | ⟨_ + 2, h⟩ => absurd h (Nat.not_lt.2 (Nat.le_add_left _ _))

/-- Chunk `t` of core `c`, subcore `s` starts at keypoint `(2 s + c) * 640 + 128 t`. -/
theorem off_co : ∀ (c : Fin 2) (s : Fin 16) (t : Fin k1_t1_loop.trips),
    k1_off1 (co c s) t 0 = (s.val * 2 + c.val) * 640 + t.val * 128 := by decide +kernel

theorem mem_chunk (c : Fin 2) (s : Fin 16) (t : Fin k1_t1_loop.trips) (x : S20480.Idx) :
    x ∈ chunkSet (co c s) t ↔ (s.val * 2 + c.val) * 640 + t.val * 128 ≤ (x 0).val ∧ (x 0).val < (s.val * 2 + c.val) * 640 + t.val * 128 + 128 := by
  have h := off_co c s t
  rw [Rect.mem_set_unit]
  constructor
  · intro hx
    have := hx 0
    rw [h] at this
    exact this
  · intro hx a
    obtain rfl : a = 0 := Subsingleton.elim _ _
    rw [h]; exact hx

abbrev CK : Type := Fin 2 × Fin 16 × Fin k1_t1_loop.trips
abbrev chunkOf (k : CK) : Finset S20480.Idx := chunkSet (co k.1 k.2.1) k.2.2

theorem trips_eq : k1_t1_loop.trips = 5 := by decide +kernel

theorem chunks_disjoint : ∀ k ∈ (Finset.univ : Finset CK), ∀ k' ∈ (Finset.univ : Finset CK), k ≠ k' → Disjoint (chunkOf k) (chunkOf k') := by
  rintro ⟨c, s, t⟩ - ⟨c', s', t'⟩ - hne
  rw [Finset.disjoint_left]
  intro x hx hx'
  rw [mem_chunk] at hx hx'
  dsimp only at hx hx'
  apply hne
  have h1 := c.isLt; have h2 := c'.isLt; have h3 := t.isLt; have h4 := t'.isLt
  have e := trips_eq
  have a : s.val = s'.val := by omega
  have b : c.val = c'.val := by omega
  have d : t.val = t'.val := by omega
  simp only [Fin.ext a, Fin.ext b, Fin.ext d]

theorem chunks_cover : (Finset.univ : Finset CK).biUnion chunkOf = Finset.univ := by
  ext x
  simp only [Finset.mem_biUnion, Finset.mem_univ, true_and, iff_true]
  have hx : (x 0).val < 20480 := (x 0).isLt
  have e := trips_eq
  refine ⟨(⟨(x 0).val / 640 % 2, by omega⟩, ⟨(x 0).val / 640 / 2, by omega⟩, ⟨(x 0).val % 640 / 128, by omega⟩), ?_⟩
  rw [mem_chunk]
  constructor <;> dsimp only <;> omega

/-- The row array `v11` whole is its chunks, core by core, subcore by subcore. -/
theorem idx_rows (d : Dev nD) (f : Buf (Elt F) ((SparseCore.T d).loc main_v11)) :
    (((SparseCore.T d).loc main_v11) ↦{fullShare} f : sProp (MM F)) = bigSep Finset.univ fun c : Fin 2 => bigSep Finset.univ fun s : Fin 16 =>
      bigSep Finset.univ fun t => ((SparseCore.T d).loc main_v11) ↦[chunkSet (co c s) t]{fullShare} f := by
  rw [← chunks_cover, pointsTo_biUnion (ℓ := (SparseCore.T d).loc main_v11) Finset.univ chunkOf chunks_disjoint, bigSep_univ_prod]
  exact bigSep_congr fun c _ => bigSep_univ_prod _

/-- The row array `v13_0` whole is its chunks, core by core, subcore by subcore. -/
theorem x_rows (d : Dev nD) (f : Buf (Elt F) ((SparseCore.T d).loc main_v13_0)) :
    (((SparseCore.T d).loc main_v13_0) ↦{fullShare} f : sProp (MM F)) = bigSep Finset.univ fun c : Fin 2 => bigSep Finset.univ fun s : Fin 16 =>
      bigSep Finset.univ fun t => ((SparseCore.T d).loc main_v13_0) ↦[chunkSet (co c s) t]{fullShare} f := by
  rw [← chunks_cover, pointsTo_biUnion (ℓ := (SparseCore.T d).loc main_v13_0) Finset.univ chunkOf chunks_disjoint, bigSep_univ_prod]
  exact bigSep_congr fun c _ => bigSep_univ_prod _

/-- The row array `v13_1` whole is its chunks, core by core, subcore by subcore. -/
theorem y_rows (d : Dev nD) (f : Buf (Elt F) ((SparseCore.T d).loc main_v13_1)) :
    (((SparseCore.T d).loc main_v13_1) ↦{fullShare} f : sProp (MM F)) = bigSep Finset.univ fun c : Fin 2 => bigSep Finset.univ fun s : Fin 16 =>
      bigSep Finset.univ fun t => ((SparseCore.T d).loc main_v13_1) ↦[chunkSet (co c s) t]{fullShare} f := by
  rw [← chunks_cover, pointsTo_biUnion (ℓ := (SparseCore.T d).loc main_v13_1) Finset.univ chunkOf chunks_disjoint, bigSep_univ_prod]
  exact bigSep_congr fun c _ => bigSep_univ_prod _

/-- The row array `v13_2` whole is its chunks, core by core, subcore by subcore. -/
theorem s_rows (d : Dev nD) (f : Buf (Elt F) ((SparseCore.T d).loc main_v13_2)) :
    (((SparseCore.T d).loc main_v13_2) ↦{fullShare} f : sProp (MM F)) = bigSep Finset.univ fun c : Fin 2 => bigSep Finset.univ fun s : Fin 16 =>
      bigSep Finset.univ fun t => ((SparseCore.T d).loc main_v13_2) ↦[chunkSet (co c s) t]{fullShare} f := by
  rw [← chunks_cover, pointsTo_biUnion (ℓ := (SparseCore.T d).loc main_v13_2) Finset.univ chunkOf chunks_disjoint, bigSep_univ_prod]
  exact bigSep_congr fun c _ => bigSep_univ_prod _

/-- The row array `v13_3` whole is its chunks, core by core, subcore by subcore. -/
theorem d_rows (d : Dev nD) (f : Buf (Elt F) ((SparseCore.T d).loc main_v13_3)) :
    (((SparseCore.T d).loc main_v13_3) ↦{fullShare} f : sProp (MM F)) = bigSep Finset.univ fun c : Fin 2 => bigSep Finset.univ fun s : Fin 16 =>
      bigSep Finset.univ fun t => ((SparseCore.T d).loc main_v13_3) ↦[chunkSet (co c s) t]{fullShare} f := by
  rw [← chunks_cover, pointsTo_biUnion (ℓ := (SparseCore.T d).loc main_v13_3) Finset.univ chunkOf chunks_disjoint, bigSep_univ_prod]
  exact bigSep_congr fun c _ => bigSep_univ_prod _

/-- The share of the map that core `c`, subcore `s` reads under. -/
def shr (c : Fin 2) (s : Fin 16) : PosShare TreeShare := Idealize.ShloMosaic.pieceOf (Idealize.ShloMosaic.pieceOf fullShare 2 (by decide) c) 16 (by decide) s

/-- The map whole is a read share for every subcore. -/
theorem map_shares (d : Dev nD) (f : Buf (Elt F) ((SparseCore.T d).loc main_v12)) :
    (((SparseCore.T d).loc main_v12) ↦{fullShare} f : sProp (MM F)) = bigSep Finset.univ fun c : Fin 2 => bigSep Finset.univ fun s : Fin 16 =>
      ((SparseCore.T d).loc main_v12) ↦{shr c s} f := by
  rw [Idealize.ShloMosaic.pointsTo_piecesOf Finset.univ f (by decide : 0 < 2) fullShare]
  exact bigSep_congr fun c _ => Idealize.ShloMosaic.pointsTo_piecesOf Finset.univ f (by decide : 0 < 16) _

end Cert.KernelIdeal.Split

end
-- ==== Proof.Host.lean ====
/-
  @main's lines of host operations, and the contents of the buffers between them.
-/
module

public import proofs.«01_k».proof.Proof.Region
public import proofs.«01_k».proof.Proof.Split
public import Idealize.ShloMosaic.Lib.Pointwise.SelectCore

@[expose] public section

noncomputable section

namespace Cert.KernelIdeal.Host

open Proof01 Cert.KernelIdeal.Tile

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo (after)
open Cert.KernelIdeal.Tile Cert.KernelIdeal.Region

variable {F : FTy → Type} [FloatOps F]

/-- Before the TensorCore call. -/
def opsA : List (HloOp τ sig (Elt F)) :=
  [StableHlo.reshape main_arg0 main_v0 (rfl : (.f32 : EltTy) = .f32) shapeCasts_S4x1x512x512_S4x512x512]

/-- Between the two calls. -/
def opsB : List (HloOp τ sig (Elt F)) :=
  [StableHlo.reshape main_v1_0 main_v2 (rfl : (.f32 : EltTy) = .f32) shapeCasts_S4x512x512_S4x262144,
   StableHlo.unary main_v2 main_values ((fun x => (Host.topK S4x5000 1 (FloatOps.cmpfTotal .gt) x sliceFits_S4x262144_S4x5000).1) : (⟨S4x262144, .f32⟩ : BufTy).Contents (Elt F) → (⟨S4x5000, .f32⟩ : BufTy).Contents (Elt F)),
   StableHlo.unary main_v2 main_indices ((fun x => (Host.topK S4x5000 1 (FloatOps.cmpfTotal .gt) x sliceFits_S4x262144_S4x5000).2) : (⟨S4x262144, .f32⟩ : BufTy).Contents (Elt F) → (⟨S4x5000, .i32⟩ : BufTy).Contents (Elt F)),
   StableHlo.nullary main_v3 (iotaInDim S4 32 0),
   StableHlo.nullary main_c (constantI S_ 32 262144#32),
   StableHlo.unary main_c main_v4 (broadcastInDim S4 ![] bcast_S_S4 : (⟨S_, .i32⟩ : BufTy).Contents (Elt F) → (⟨S4, .i32⟩ : BufTy).Contents (Elt F)),
   StableHlo.binary main_v3 main_v4 main_v5 (muli : (⟨S4, .i32⟩ : BufTy).Contents (Elt F) → (⟨S4, .i32⟩ : BufTy).Contents (Elt F) → (⟨S4, .i32⟩ : BufTy).Contents (Elt F)),
   StableHlo.unary main_v5 main_v6 (broadcastInDim S4x1 ![0] bcast_S4_S4x1_0 : (⟨S4, .i32⟩ : BufTy).Contents (Elt F) → (⟨S4x1, .i32⟩ : BufTy).Contents (Elt F)),
   StableHlo.unary main_v6 main_v7 (broadcastInDim S4x5000 ![0, 1] bcast_S4x1_S4x5000_0_1 : (⟨S4x1, .i32⟩ : BufTy).Contents (Elt F) → (⟨S4x5000, .i32⟩ : BufTy).Contents (Elt F)),
   StableHlo.binary main_indices main_v7 main_v8 (addi : (⟨S4x5000, .i32⟩ : BufTy).Contents (Elt F) → (⟨S4x5000, .i32⟩ : BufTy).Contents (Elt F) → (⟨S4x5000, .i32⟩ : BufTy).Contents (Elt F)),
   StableHlo.unary main_v6 main_v9 (broadcastInDim S4x120 ![0, 1] bcast_S4x1_S4x120_0_1 : (⟨S4x1, .i32⟩ : BufTy).Contents (Elt F) → (⟨S4x120, .i32⟩ : BufTy).Contents (Elt F)),
   StableHlo.binary main_v8 main_v9 main_v10 ((fun a b => concatenate S4x5120 1 [⟨S4x5000, a⟩, ⟨S4x120, b⟩] concatenates_S4x5000_S4x120_S4x5120_d1) : (⟨S4x5000, .i32⟩ : BufTy).Contents (Elt F) → (⟨S4x120, .i32⟩ : BufTy).Contents (Elt F) → (⟨S4x5120, .i32⟩ : BufTy).Contents (Elt F)),
   StableHlo.reshape main_v10 main_v11 (rfl : (.i32 : EltTy) = .i32) shapeCasts_S4x5120_S20480,
   StableHlo.reshape main_v1_1 main_v12 (rfl : (.f32 : EltTy) = .f32) shapeCasts_S4x520x640_S83200x16]

/-- After the SparseCore call. -/
def opsC : List (HloOp τ sig (Elt F)) :=
  [StableHlo.reshape main_v13_0 main_v14 (rfl : (.f32 : EltTy) = .f32) shapeCasts_S20480_S4x5120,
   StableHlo.unary main_v14 main_v15 ((extractStridedSlice S4x5000 ![0, 0] · slices_S4x5120_S4x5000_0_0) : (⟨S4x5120, .f32⟩ : BufTy).Contents (Elt F) → (⟨S4x5000, .f32⟩ : BufTy).Contents (Elt F)),
   StableHlo.reshape main_v13_1 main_v16 (rfl : (.f32 : EltTy) = .f32) shapeCasts_S20480_S4x5120,
   StableHlo.unary main_v16 main_v17 ((extractStridedSlice S4x5000 ![0, 0] · slices_S4x5120_S4x5000_0_0) : (⟨S4x5120, .f32⟩ : BufTy).Contents (Elt F) → (⟨S4x5000, .f32⟩ : BufTy).Contents (Elt F)),
   StableHlo.unary main_v15 main_v18 (broadcastInDim S4x5000x1 ![0, 1] bcast_S4x5000_S4x5000x1_0_1 : (⟨S4x5000, .f32⟩ : BufTy).Contents (Elt F) → (⟨S4x5000x1, .f32⟩ : BufTy).Contents (Elt F)),
   StableHlo.unary main_v17 main_v19 (broadcastInDim S4x5000x1 ![0, 1] bcast_S4x5000_S4x5000x1_0_1 : (⟨S4x5000, .f32⟩ : BufTy).Contents (Elt F) → (⟨S4x5000x1, .f32⟩ : BufTy).Contents (Elt F)),
   StableHlo.binary main_v18 main_v19 main_v20 ((fun a b => concatenate S4x5000x2 2 [⟨S4x5000x1, a⟩, ⟨S4x5000x1, b⟩] concatenates_S4x5000x1_S4x5000x1_S4x5000x2_d2) : (⟨S4x5000x1, .f32⟩ : BufTy).Contents (Elt F) → (⟨S4x5000x1, .f32⟩ : BufTy).Contents (Elt F) → (⟨S4x5000x2, .f32⟩ : BufTy).Contents (Elt F)),
   StableHlo.reshape main_v13_2 main_v21 (rfl : (.f32 : EltTy) = .f32) shapeCasts_S20480_S4x5120,
   StableHlo.unary main_v21 main_v22 ((extractStridedSlice S4x5000 ![0, 0] · slices_S4x5120_S4x5000_0_0) : (⟨S4x5120, .f32⟩ : BufTy).Contents (Elt F) → (⟨S4x5000, .f32⟩ : BufTy).Contents (Elt F)),
   StableHlo.reshape main_v13_3 main_v23 (rfl : (.f32 : EltTy) = .f32) shapeCasts_S20480_S4x5120,
   StableHlo.unary main_v23 main_v24 ((extractStridedSlice S4x5000 ![0, 0] · slices_S4x5120_S4x5000_0_0) : (⟨S4x5120, .f32⟩ : BufTy).Contents (Elt F) → (⟨S4x5000, .f32⟩ : BufTy).Contents (Elt F))]

/-- @main is the three lines with the two calls between them. -/
theorem main_eq (d : Dev nD) : main (F := F) d = (do
    StableHlo.seq opsA
    Prog.lift (.customCall (SparseCore.inner (Pipeline.entry 0)) ())
    StableHlo.seq opsB
    sc.run d 0
    StableHlo.seq opsC) := by
  unfold main opsA opsB opsC
  simp only [StableHlo.seq, bind_assoc, pure_bind, bind_pure]

theorem opsA_bufs : ∀ op ∈ opsA (F := F), op.bufs ⊆ Pipeline.ucRefs τ sig := by
  intro op h
  refine Pipeline.sub_ucRefs _ ?_
  unfold opsA at h
  fin_cases h <;> simp
theorem opsB_bufs : ∀ op ∈ opsB (F := F), op.bufs ⊆ Pipeline.ucRefs τ sig := by
  intro op h
  refine Pipeline.sub_ucRefs _ ?_
  unfold opsB at h
  fin_cases h <;> simp
theorem opsC_bufs : ∀ op ∈ opsC (F := F), op.bufs ⊆ Pipeline.ucRefs τ sig := by
  intro op h
  refine Pipeline.sub_ucRefs _ ?_
  unfold opsC at h
  fin_cases h <;> simp
theorem opsA_fresh : ∀ op ∈ opsA (F := F), op.fresh = ∅ := by
  intro op h; unfold opsA at h; fin_cases h <;> rfl
theorem opsB_fresh : ∀ op ∈ opsB (F := F), op.fresh = ∅ := by
  intro op h; unfold opsB at h; fin_cases h <;> rfl
theorem opsC_fresh : ∀ op ∈ opsC (F := F), op.fresh = ∅ := by
  intro op h; unfold opsC at h; fin_cases h <;> rfl

/-! ## What every buffer holds along the run -/

section Values

variable (m : (ℓ : Loc nD τ sig) → Buf (Elt F) ℓ) (d : Dev nD)

/-- At launch. -/
def V0 : Valuation τ sig (Elt F) := fun b => m (d, b)
/-- Before the TensorCore call. -/
def V1 : Valuation τ sig (Elt F) := StableHlo.after opsA (V0 m d)
/-- After it. -/
def V2 : Valuation τ sig (Elt F) := Vend (V1 m) d
/-- Before the SparseCore call. -/
def V3 : Valuation τ sig (Elt F) := StableHlo.after opsB (V2 m d)

/-- The padded score maps, as rows of sixteen. -/
def Pm : Buf (Elt F) (((SparseCore.T d) : Thread nD τ).loc main_v12) := V3 m d (Proc.devRef .tc main_v12)
/-- The keypoints' flat positions. -/
def Im : Buf (Elt F) (((SparseCore.T d) : Thread nD τ).loc main_v11) := V3 m d (Proc.devRef .tc main_v11)

/-- After the SparseCore call: its four results are what each keypoint's patch gives. -/
def V4 : Valuation τ sig (Elt F) :=
  Function.update (Function.update (Function.update (Function.update (V3 m d)
    (Proc.devRef .tc main_v13_0) (fun p => oX (Pm m d) (Im m d p)))
    (Proc.devRef .tc main_v13_1) (fun p => oY (Pm m d) (Im m d p)))
    (Proc.devRef .tc main_v13_2) (fun p => oS (Pm m d) (Im m d p)))
    (Proc.devRef .tc main_v13_3) (fun p => oD (Pm m d) (Im m d p))

/-- At the end. -/
def V5 : Valuation τ sig (Elt F) := StableHlo.after opsC (V4 m d)

/-- The flat index of a keypoint: its place in its image, plus the image's base, from a reshape of the rows. -/
theorem Im_eq : Im m d = fun p => shapeCast S20480 (concatenate S4x5120 1
      [⟨S4x5000, addi (Host.topK S4x5000 1 (FloatOps.cmpfTotal .gt) (shapeCast S4x262144 (V2 m d (Proc.devRef .tc main_v1_0)) shapeCasts_S4x512x512_S4x262144) sliceFits_S4x262144_S4x5000).2
          (broadcastInDim S4x5000 ![0, 1] bcast_S4x1_S4x5000_0_1 (broadcastInDim S4x1 ![0] bcast_S4_S4x1_0 (muli (iotaInDim S4 32 0) (broadcastInDim S4 ![] bcast_S_S4 (constantI S_ 32 262144#32)))))⟩,
        ⟨S4x120, broadcastInDim S4x120 ![0, 1] bcast_S4x1_S4x120_0_1 (broadcastInDim S4x1 ![0] bcast_S4_S4x1_0 (muli (iotaInDim S4 32 0) (broadcastInDim S4 ![] bcast_S_S4 (constantI S_ 32 262144#32))))⟩]
      concatenates_S4x5000_S4x120_S4x5120_d1) shapeCasts_S4x5120_S20480 p := by
  unfold Im V3 opsB
  after_results
  rfl

/-- A top-k index names a position of its row. -/
theorem top_lt (gt : F .f32 → F .f32 → BitVec 1) (x : S4x262144.Idx → F .f32) (j : S4x5000.Idx) :
    ((Host.topK S4x5000 1 gt x sliceFits_S4x262144_S4x5000).2 j).toNat < 262144 := by
  have key : ∀ n : Fin (S4x262144.size 1), (BitVec.ofNat 32 n.val).toNat < 262144 := fun n => by
    have : n.val < 262144 := n.isLt
    rw [BitVec.toNat_ofNat, Nat.mod_eq_of_lt (by omega)]; exact this
  exact key _

/-- The base of an image: 262144 for each image before it. -/
theorem base_toNat (i : S4.Idx) :
    ((muli (iotaInDim S4 32 0) (broadcastInDim S4 ![] bcast_S_S4 (constantI S_ 32 262144#32)) : S4.Idx → BitVec 32) i).toNat = (i 0).val * 262144 := by
  have h : (i 0).val < 4 := (i 0).isLt
  show (BitVec.ofNat 32 (i 0).val * 262144#32).toNat = _
  rw [BitVec.toNat_mul, BitVec.toNat_ofNat, BitVec.toNat_ofNat]
  omega

/-- Every flat index lies within the four images. -/
theorem Im_lt (p : S20480.Idx) : (Im m d p).toNat < 2 ^ 20 := by
  have base : ∀ i : S4.Idx, ((muli (iotaInDim S4 32 0) (broadcastInDim S4 ![] bcast_S_S4 (constantI S_ 32 262144#32)) : S4.Idx → BitVec 32) i).toNat ≤ 3 * 262144 := fun i => by
    have h : (i 0).val < 4 := (i 0).isLt
    rw [base_toNat]; omega
  rw [Im_eq]
  refine (show ∀ c : S4x5120.Idx → BitVec 32, (∀ i, (c i).toNat < 2 ^ 20) → (shapeCast S20480 c shapeCasts_S4x5120_S20480 p).toNat < 2 ^ 20 from
    fun c h => h _) _ fun j => ?_
  refine concatenate_forall (P := fun w : BitVec 32 => w.toNat < 2 ^ 20) _ _ _ _ ?_ j
  intro q hq i
  rcases List.mem_cons.mp hq with rfl | hq
  · have h1 := top_lt (FloatOps.cmpfTotal .gt) (shapeCast S4x262144 (V2 m d (Proc.devRef .tc main_v1_0)) shapeCasts_S4x512x512_S4x262144) i
    refine lt_of_eq_of_lt (BitVec.toNat_add _ _) (lt_of_le_of_lt (Nat.mod_le _ _) ?_)
    exact lt_of_lt_of_le (Nat.add_lt_add_of_lt_of_le h1 (base _)) (by decide)
  · obtain rfl := List.mem_singleton.mp hq
    exact lt_of_le_of_lt (base _) (by decide)

/-- The operations before, between and after the calls leave the input as it was. -/
theorem V5_arg : V5 m d (Proc.devRef .tc main_arg0) = m (d, Proc.devRef .tc main_arg0) := by
  have h1 : V1 m d (Proc.devRef .tc main_arg0) = m (d, Proc.devRef .tc main_arg0) := by
    unfold V1 opsA; after_results; rfl
  have h2 : V2 m d (Proc.devRef .tc main_arg0) = V1 m d (Proc.devRef .tc main_arg0) :=
    Pipeline.afterRegion_of_not_arr (b := main_arg0) (dat (V1 m) d) (V1 m d) (by decide)
  have h3 : V3 m d (Proc.devRef .tc main_arg0) = V2 m d (Proc.devRef .tc main_arg0) := by
    unfold V3 opsB; after_results
  have h4 : V4 m d (Proc.devRef .tc main_arg0) = V3 m d (Proc.devRef .tc main_arg0) := by
    unfold V4
    rw [Function.update_of_ne (by decide), Function.update_of_ne (by decide), Function.update_of_ne (by decide), Function.update_of_ne (by decide)]
  have h5 : V5 m d (Proc.devRef .tc main_arg0) = V4 m d (Proc.devRef .tc main_arg0) := by
    unfold V5 opsC; after_results
  rw [h5, h4, h3, h2, h1]

end Values

end Cert.KernelIdeal.Host

end
-- ==== Proof.Launch.lean ====
/-
  The launch: what the SparseCore call hands its subcores and takes back, @main's run on the TensorCore, and the run of the
  whole program with every result buffer named.
-/
module

public import proofs.«01_k».proof.Proof.Host

@[expose] public section

noncomputable section

namespace Cert.KernelIdeal.Launch

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Tile Cert.KernelIdeal.Region Cert.KernelIdeal.Host Cert.KernelIdeal.Split
open Proof01

variable {F : FTy → Type} [FloatOps F]
variable (m : (ℓ : Loc nD τ sig) → Buf (Elt F) ℓ) (ρ : Dev nD → PrngReg)

/-! ## What the handshakes carry -/

/-- What subcore `s` of core `c` takes: a read share of the map, its chunks of the indices and of the four results. -/
def goT (d : Dev nD) (c : Fin 2) (s : Fin 16) : sProp (MM F) :=
  iprop((((V' d (co c s)).loc main_v12_scv) ↦{shr c s} Pm m d) ∗ bigSep Finset.univ (iChunk (co c s) d (Im m d))
    ∗ bigSep Finset.univ (oChunk (co c s) d (V3 m d (Proc.devRef .tc main_v13_0)) (V3 m d (Proc.devRef .tc main_v13_1))
        (V3 m d (Proc.devRef .tc main_v13_2)) (V3 m d (Proc.devRef .tc main_v13_3))))

/-- What it brings back: the same, the results' chunks filled. -/
def tdT (d : Dev nD) (c : Fin 2) (s : Fin 16) : sProp (MM F) :=
  iprop((((V' d (co c s)).loc main_v12_scv) ↦{shr c s} Pm m d) ∗ bigSep Finset.univ (iChunk (co c s) d (Im m d))
    ∗ bigSep Finset.univ (rChunk (co c s) d (Pm m d) (Im m d)))

instance goT_storable (d : Dev nD) (c : Fin 2) (s : Fin 16) : BI.Storable (upEmb : UEmb _ (MM F)) (goT m d c s) := by
  unfold goT iChunk oChunk; infer_instance
instance tdT_storable (d : Dev nD) (c : Fin 2) (s : Fin 16) : BI.Storable (upEmb : UEmb _ (MM F)) (tdT m d c s) := by
  unfold tdT iChunk rChunk oChunk; infer_instance

/-- The one call: a core takes its subcores' parts and brings them back. -/
def Py : (K (F := F)).Pay (nD := nD) (Val := Elt F) (Name := ℕ) (U := UU) where
  st := fun q d c => match q with | 0 => bigSep Finset.univ fun s : Fin 16 => goT m d (c : Fin 2) s
  dn := fun q d c => match q with | 0 => bigSep Finset.univ fun s : Fin 16 => tdT m d (c : Fin 2) s
  go := fun q d c i => match q with | 0 => goT m d (c : Fin 2) (i : Fin 16)
  td := fun q d c i => match q with | 0 => tdT m d (c : Fin 2) (i : Fin 16)
  x := fun _ _ => iprop(emp)

instance Py_storable : (Py (F := F) m).IsStorable where
  st q d c := match q with
    | 0 => (inferInstance : BI.Storable (upEmb : UEmb _ (MM F)) (bigSep Finset.univ fun s : Fin 16 => goT m d (c : Fin 2) s))
  dn q d c := match q with
    | 0 => (inferInstance : BI.Storable (upEmb : UEmb _ (MM F)) (bigSep Finset.univ fun s : Fin 16 => tdT m d (c : Fin 2) s))
  go q d c i := match q with
    | 0 => (inferInstance : BI.Storable (upEmb : UEmb _ (MM F)) (goT m d (c : Fin 2) (i : Fin 16)))
  td q d c i := match q with
    | 0 => (inferInstance : BI.Storable (upEmb : UEmb _ (MM F)) (tdT m d (c : Fin 2) (i : Fin 16)))

/-- The body table's row for a subcore. -/
theorem defs₀_vector (c : Fin τ.nSC) (s : Fin τ.nSub) :
    defs₀ (F := F) (.scVector c s) 1 ()
      = SparseCore.onTile hcore1 hsub1 (fun c s => cc1_kern (co c s)
          (Memref.whole main_v12_scv) (Memref.isWhole_whole _) (Memref.whole main_v11_scv) (Memref.isWhole_whole _)
          (Memref.whole main_v13_0_scv) (Memref.isWhole_whole _) (Memref.whole main_v13_1_scv) (Memref.isWhole_whole _)
          (Memref.whole main_v13_2_scv) (Memref.isWhole_whole _) (Memref.whole main_v13_3_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _) (Memref.whole cc1_scratch5) (Memref.isWhole_whole _)
          (Memref.whole cc1_scratch6) (Memref.isWhole_whole _) cc1_scratch7 cc1_scoped0 cc1_scoped1 cc1_scoped2 cc1_scoped3 cc1_scoped4) ⟨⟩ c s := rfl

/-- The waits of a task as the launch records them. -/
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every subcore's task. -/
theorem tileObl : (K (F := F)).TileObl (D (F := F)) 𝒱 (Py m) v₀ 0 := by
  intro d c i O W hO _ _
  simp only [show (Py m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (co ⟨_, hci.1⟩ ⟨_, hci.2⟩) d (Pm m d) (Im m d) (shr c i) O W _ _ _ _ facts (Im_lt m d) hO).trans (wp_mono frame _ _ fun _ => obl_post)

/-- A core's part is its subcores' parts. -/
theorem vecSplit : (K (F := F)).VecSplit' (Py m) 0 := by
  intro d c
  show (bigSep Finset.univ fun s : Fin 16 => goT m d (c : Fin 2) s) ⊢ |={Set.univ}=> iprop((bigSep Finset.univ fun s : Fin 16 => goT m d (c : Fin 2) s)
    ∗ ((bigSep Finset.univ fun s : Fin 16 => tdT m d (c : Fin 2) s) -∗ bigSep Finset.univ fun s : Fin 16 => tdT m d (c : Fin 2) s))
  iintro H; imodintro
  isplitl [H]; · iexact H
  iintro H; iexact H

/-! ## The arrays whole and in parts -/

set_option maxRecDepth 16384 in
/-- What the subcores take together is the six arrays whole. -/
theorem go_all (d : Dev nD) : (bigSep Finset.univ fun c : Fin 2 => bigSep Finset.univ fun s : Fin 16 => goT m d c s)
    = iprop((((SparseCore.T d).loc main_v12) ↦{fullShare} Pm m d) ∗ (((SparseCore.T d).loc main_v11) ↦{fullShare} Im m d)
      ∗ (((SparseCore.T d).loc main_v13_0) ↦{fullShare} V3 m d (Proc.devRef .tc main_v13_0))
      ∗ (((SparseCore.T d).loc main_v13_1) ↦{fullShare} V3 m d (Proc.devRef .tc main_v13_1))
      ∗ (((SparseCore.T d).loc main_v13_2) ↦{fullShare} V3 m d (Proc.devRef .tc main_v13_2))
      ∗ (((SparseCore.T d).loc main_v13_3) ↦{fullShare} V3 m d (Proc.devRef .tc main_v13_3))) := by
  unfold goT iChunk oChunk
  rw [map_shares, idx_rows, x_rows, y_rows, s_rows, d_rows]
  simp only [bigSep_sep']

set_option maxRecDepth 16384 in
/-- What they bring back together is the six arrays whole, the results filled. -/
theorem td_all (d : Dev nD) : (bigSep Finset.univ fun c : Fin 2 => bigSep Finset.univ fun s : Fin 16 => tdT m d c s)
    = iprop((((SparseCore.T d).loc main_v12) ↦{fullShare} Pm m d) ∗ (((SparseCore.T d).loc main_v11) ↦{fullShare} Im m d)
      ∗ (((SparseCore.T d).loc main_v13_0) ↦{fullShare} fun p => oX (Pm m d) (Im m d p))
      ∗ (((SparseCore.T d).loc main_v13_1) ↦{fullShare} fun p => oY (Pm m d) (Im m d p))
      ∗ (((SparseCore.T d).loc main_v13_2) ↦{fullShare} fun p => oS (Pm m d) (Im m d p))
      ∗ (((SparseCore.T d).loc main_v13_3) ↦{fullShare} fun p => oD (Pm m d) (Im m d p))) := by
  unfold tdT iChunk rChunk oChunk
  rw [map_shares, idx_rows, x_rows, y_rows, s_rows, d_rows]
  simp only [bigSep_sep']

/-! ## The launch element of the ghost state -/

/-- The handshakes' rounds, the pipeline's rounds, the transfers' counters. -/
def u₀ : UU := (initOf (K (F := F)).hsCells (K (F := F)).hsToks,
  (initOf (Pipeline.cells cfgs cellOf_inj) (Pipeline.launchToks cfgs cellOf_inj), 1))

/-- The pipeline's ghost state of one device. -/
abbrev piece (d : Dev nD) : sProp (MM F) :=
  iprop((bigSep Finset.univ fun p : Fin 1 => Pipeline.cellsGhost cfgs EP p d) ∗ bigSep Finset.univ fun p : Fin 1 => Pipeline.toksInit cfgs EP p d)

theorem hu₀ : (ownU (u₀ (F := F)) : sProp (MM F))
    ⊢ |={Set.univ}=> iprop(BI.own (EH (initOf (K (F := F)).hsCells (K (F := F)).hsToks)) ∗ (bigSep Finset.univ fun d : Dev nD => piece d)
        ∗ bigSep Finset.univ fun thr : Thread nD τ => bigSep Finset.univ fun q : Fin 1 => (Py m).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave HR := (own_pair_emb (embR : Emb (UP × Counters) (MM F)) (initOf (Pipeline.cells cfgs cellOf_inj) (Pipeline.launchToks cfgs cellOf_inj)) (1 : Counters)) $$ HR
  icases HR with ⟨HP, -⟩
  ihave HP := (show (BI.own (((Emb.inl : Emb UP (UP × Counters)).trans (embR : Emb (UP × Counters) (MM F))) (initOf (Pipeline.cells cfgs cellOf_inj) (Pipeline.launchToks cfgs cellOf_inj))) : sProp (MM F))
    ⊢ BI.own ((EP : Emb UP (MM F)) (initOf (Pipeline.cells cfgs cellOf_inj) (Pipeline.launchToks cfgs cellOf_inj))) from .rfl) $$ HP
  imod (Pipeline.fund_ghost cfgs EP cellOf_inj) $$ HP with HP
  imodintro
  isplitl [HH]; · iexact HH
  isplitl [HP]
  · rw [bigSep_sep']; iexact HP
  rw [show (bigSep Finset.univ fun thr : Thread nD τ => bigSep Finset.univ fun q : Fin 1 => (Py (F := F) m).x q thr) = bigSep Finset.univ fun _ => iprop(emp) from
    bigSep_congr fun _ _ => bigSep_univ_of_subsingleton (0 : Fin 1),
    show (bigSep Finset.univ fun _ : Thread nD τ => (iprop(emp) : sProp (MM F))) = iprop(emp) from bigSep_emp_const _]
  iempintro

/-! ## @main on the TensorCore -/

/-- The TensorCore call alone, under the pipeline's labels. -/
def callP : Prog (TpuEff nD τ sig (Elt F) (ΛP (F := F)) .tc) PUnit := .op (.customCall (Pipeline.entry 0) ()) .ret

theorem callP_lift : (Prog.lift (.customCall (SparseCore.inner (Pipeline.entry 0)) ()) : Prog (TpuEff nD τ sig (Elt F) (SparseCore.Sig (ΛP (F := F)) 1) .tc) PUnit)
    = SparseCore.liftProg (callP (F := F)) := rfl

/-- What the region's rule asks, from what @main holds. -/
theorem call_pre (d : Dev nD) (Φ : PUnit → sProp (MM F)) :
    iprop((iprop(boundary (SparseCore.T d) ∗ StableHlo.held (SparseCore.T d) (Pipeline.ucRefs τ sig) (V2 m d) ∗ side d) -∗ Φ ⟨⟩)
      ∗ boundary (SparseCore.T d) ∗ (StableHlo.held (SparseCore.T d) (Pipeline.ucRefs τ sig) (V1 m d) ∗ side d)
      ∗ levAts (K (F := F)).L (K (F := F)).lev ∗ piece d)
    ⊢ iprop((iprop(boundary (SparseCore.T d) ∗ StableHlo.held (SparseCore.T d) (Pipeline.ucRefs τ sig) (V2 m d) ∗ side d)
        -∗ wp frame (wpE (D (F := F)) 𝒱 (SparseCore.T d) none) Set.univ (Prog.ret PUnit.unit) Φ)
      ∗ boundary (SparseCore.T d) ∗ (StableHlo.held (SparseCore.T d) (Pipeline.ucRefs τ sig) (V1 m d) ∗ side d)
      ∗ levAts (K (F := F)).L (K (F := F)).lev ∗ Pipeline.cellsGhost cfgs EP 0 d ∗ Pipeline.toksInit cfgs EP 0 d) := by
  iintro ⟨Hk, Hb, Hpre, Hl, Hg, Ht⟩
  isplitl [Hk]
  · iintro H
    rw [wp_ret]
    imodintro
    iapply Hk; iexact H
  isplitl [Hb]; · iexact Hb
  isplitl [Hpre]; · iexact Hpre
  isplitl [Hl]; · iexact Hl
  isplitl [Hg]
  · iapply (Entails.of_eq (bigSep_univ_of_subsingleton (0 : Fin 1) (Φ := fun p : Fin 1 => Pipeline.cellsGhost cfgs EP p d))); iexact Hg
  iapply (Entails.of_eq (bigSep_univ_of_subsingleton (0 : Fin 1) (Φ := fun p : Fin 1 => Pipeline.toksInit cfgs EP p d))); iexact Ht

set_option backward.isDefEq.respectTransparency.types false in
/-- The TensorCore call, from every buffer at `V1` to every buffer at `V2`. -/
theorem wp_call (d : Dev nD) (Φ : PUnit → sProp (MM F)) :
    iprop((iprop(boundary (SparseCore.T d) ∗ StableHlo.held (SparseCore.T d) (Pipeline.ucRefs τ sig) (V2 m d) ∗ side d) -∗ Φ ⟨⟩)
      ∗ boundary (SparseCore.T d) ∗ (StableHlo.held (SparseCore.T d) (Pipeline.ucRefs τ sig) (V1 m d) ∗ side d)
      ∗ levAts (K (F := F)).L (K (F := F)).lev ∗ piece d)
    ⊢ wp frame (wpE ((K (F := F)).defs (D (F := F))) 𝒱 (SparseCore.T d) none) Set.univ
        (Prog.lift (.customCall (SparseCore.inner (Pipeline.entry 0)) ())) Φ := by
  rw [callP_lift]
  refine BI.Entails.trans ?_ ((K (F := F)).wp_liftProg (D (F := F)) 𝒱 (SparseCore.T d) Set.univ none callP Φ)
  unfold callP
  exact (call_pre m d Φ).trans (Pipeline.RegionSeg.wp (pcfgs (F := F)) adm (pdats (V1 m)) none cellOf_inj EP (defs₀ (F := F)) 𝒱₀ (K (F := F)).L (K (F := F)).lev
    (region (V1 m)) d none (fun _ h => nomatch h) .ret Φ)

/-! ## The six arrays of the SparseCore call among all the buffers -/

/-- A buffer of the TensorCore as a buffer of the device. -/
abbrev dr (b : Ref sig .tc) : DevRef τ sig := Proc.devRef .tc b

/-- The call's six arrays. -/
def six : Finset (DevRef τ sig) := {dr main_v12, dr main_v11, dr main_v13_0, dr main_v13_1, dr main_v13_2, dr main_v13_3}

theorem six_sub : six ⊆ Pipeline.ucRefs τ sig := by
  intro b hb
  simp only [six, Finset.mem_insert, Finset.mem_singleton] at hb
  rcases hb with rfl | rfl | rfl | rfl | rfl | rfl <;> exact Pipeline.devRef_mem_ucRefs (by rfl)

/-- The six held at `W`, one by one. -/
theorem held_six (d : Dev nD) (W : Valuation τ sig (Elt F)) :
    (StableHlo.held (SparseCore.T d) six W : sProp (MM F))
      = iprop((((SparseCore.T d).loc main_v12) ↦{fullShare} W (dr main_v12)) ∗ (((SparseCore.T d).loc main_v11) ↦{fullShare} W (dr main_v11))
      ∗ (((SparseCore.T d).loc main_v13_0) ↦{fullShare} W (dr main_v13_0)) ∗ (((SparseCore.T d).loc main_v13_1) ↦{fullShare} W (dr main_v13_1))
      ∗ (((SparseCore.T d).loc main_v13_2) ↦{fullShare} W (dr main_v13_2)) ∗ (((SparseCore.T d).loc main_v13_3) ↦{fullShare} W (dr main_v13_3))) := by
  unfold StableHlo.held six
  rw [SparseCore.bigSep_insert' (by decide), SparseCore.bigSep_insert' (by decide), SparseCore.bigSep_insert' (by decide),
    SparseCore.bigSep_insert' (by decide), SparseCore.bigSep_insert' (by decide), bigSep_singleton]

theorem V4_x (d : Dev nD) : V4 m d (dr main_v13_0) = fun p => oX (Pm m d) (Im m d p) := by
  unfold V4
  rw [Function.update_of_ne (by decide), Function.update_of_ne (by decide), Function.update_of_ne (by decide), Function.update_self]
  rfl
theorem V4_y (d : Dev nD) : V4 m d (dr main_v13_1) = fun p => oY (Pm m d) (Im m d p) := by
  unfold V4
  rw [Function.update_of_ne (by decide), Function.update_of_ne (by decide), Function.update_self]
  rfl
theorem V4_s (d : Dev nD) : V4 m d (dr main_v13_2) = fun p => oS (Pm m d) (Im m d p) := by
  unfold V4
  rw [Function.update_of_ne (by decide), Function.update_self]
  rfl
theorem V4_d (d : Dev nD) : V4 m d (dr main_v13_3) = fun p => oD (Pm m d) (Im m d p) := by
  unfold V4
  rw [Function.update_self]
  rfl
theorem V4_off (d : Dev nD) (b : DevRef τ sig) (h0 : b ≠ dr main_v13_0) (h1 : b ≠ dr main_v13_1) (h2 : b ≠ dr main_v13_2) (h3 : b ≠ dr main_v13_3) :
    V4 m d b = V3 m d b := by
  unfold V4
  rw [Function.update_of_ne h3, Function.update_of_ne h2, Function.update_of_ne h1, Function.update_of_ne h0]

/-- Every buffer before the call: the subcores' parts and the rest. -/
theorem held_before (d : Dev nD) : (StableHlo.held (SparseCore.T d) (Pipeline.ucRefs τ sig) (V3 m d) : sProp (MM F))
    = iprop((bigSep Finset.univ fun c : Fin 2 => bigSep Finset.univ fun s : Fin 16 => goT m d c s)
      ∗ StableHlo.held (SparseCore.T d) (Pipeline.ucRefs τ sig \ six) (V3 m d)) := by
  rw [StableHlo.held_sub_split _ six_sub, held_six, go_all]
  rfl

/-- Every buffer after it. -/
theorem held_after (d : Dev nD) : (StableHlo.held (SparseCore.T d) (Pipeline.ucRefs τ sig) (V4 m d) : sProp (MM F))
    = iprop((bigSep Finset.univ fun c : Fin 2 => bigSep Finset.univ fun s : Fin 16 => tdT m d c s)
      ∗ StableHlo.held (SparseCore.T d) (Pipeline.ucRefs τ sig \ six) (V3 m d)) := by
  rw [StableHlo.held_sub_split _ six_sub, held_six, td_all, V4_x, V4_y, V4_s, V4_d,
    V4_off m d (dr main_v12) (by decide) (by decide) (by decide) (by decide), V4_off m d (dr main_v11) (by decide) (by decide) (by decide) (by decide),
    StableHlo.held_congr _ (S := Pipeline.ucRefs τ sig \ six) (V := V4 m d) (V' := V3 m d) fun b hb => by
      have hn := (Finset.mem_sdiff.mp hb).2
      simp only [six, Finset.mem_insert, Finset.mem_singleton, not_or] at hn
      exact V4_off m d b hn.2.2.1 hn.2.2.2.1 hn.2.2.2.2.1 hn.2.2.2.2.2]
  rfl

/-- The core's state before the first call, its signals owed taken out. -/
theorem tcSt_side (d : Dev nD) : (K (F := F)).tcSt EH d 0 ⊢ (iprop((∃ W, ⌜(K (F := F)).WBelow (SparseCore.T d) W 0⌝ ∗ owes (SparseCore.T d) ((K (F := F)).Otc d 0) W)
    ∗ ((∃ W, ⌜(K (F := F)).WBelow (SparseCore.T d) W 0⌝ ∗ owes (SparseCore.T d) ((K (F := F)).Otc d 0) W) -∗ (K (F := F)).tcSt EH d 0)) : sProp (MM F)) := by
  unfold SparseCore.Cfg.tcSt
  iintro ⟨H, R⟩
  isplitl [H]; · iexact H
  iintro H
  isplitl [H]; · iexact H
  iexact R

abbrev FIN (d : Dev nD) : sProp (MM F) := StableHlo.held (SparseCore.T d) (Pipeline.ucRefs τ sig) (V5 m d)

set_option backward.isDefEq.respectTransparency.types false in
/-- The last line of StableHLO. -/
theorem wp_last (d : Dev nD) (Φ : PUnit → sProp (MM F)) :
    iprop((boundary (SparseCore.T d) ∗ StableHlo.held (SparseCore.T d) (Pipeline.ucRefs τ sig) (V4 m d))
      ∗ (iprop(boundary (SparseCore.T d) ∗ StableHlo.held (SparseCore.T d) (Pipeline.ucRefs τ sig) (V5 m d)) -∗ Φ ⟨⟩))
      ⊢ wp frame (wpE ((K (F := F)).defs (D (F := F))) 𝒱 (SparseCore.T d) none) Set.univ (StableHlo.seq opsC) Φ := by
  have h := StableHlo.wp_seq (defs := (K (F := F)).defs (D (F := F))) (Ix := HIx 1) (Name := ℕ) (U := UU) (Lvl := ℕ) 𝒱 none Set.univ d (Pipeline.ucRefs τ sig) pure opsC opsC_bufs opsC_fresh (V4 m d) (K := Φ)
  rw [bind_pure, wp_pure] at h
  iintro ⟨H, Hk⟩
  iapply h $$ H
  iintro H
  imodintro
  iapply Hk
  iexact H

set_option backward.isDefEq.respectTransparency.types false in
/-- @main on a device: the three lines of StableHLO, the TensorCore call and the SparseCore call between them. -/
theorem hmain (κ : GSem nD τ sig → ℕ) (d : Dev nD) :
    iprop((K (F := F)).ctx EH (Py m) κ ∗ (K (F := F)).tcSt EH d 0 ∗ (K (F := F)).tcRes m ρ d ∗ piece d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp (MM F)) = StableHlo.held (SparseCore.T d) (Pipeline.ucRefs τ sig) (V0 m d) from
    Pipeline.unscopedBufs_held d (V0 m d), main_eq]
  iintro ⟨#Hctx, Hst, ⟨Hb, Hh, Hts, Hr⟩, Hp⟩
  iapply (StableHlo.wp_seq 𝒱 none Set.univ d (Pipeline.ucRefs τ sig) _ opsA opsA_bufs opsA_fresh (V0 m d)) $$ [Hb Hh]
  · isplitl [Hb] <;> iassumption
  iintro ⟨Hb, Hh⟩
  rw [wp_bind]
  ihave Hs := (tcSt_side d) $$ Hst
  icases Hs with ⟨Ho, Hback⟩
  iapply (wp_call m d _)
  isplitr [Hb Hh Ho Hr Hp]
  · iintro ⟨Hb, Hh, Ho, -⟩
    ihave Hst := Hback $$ Ho
    iapply (StableHlo.wp_seq 𝒱 none Set.univ d (Pipeline.ucRefs τ sig) _ opsB opsB_bufs opsB_fresh (V2 m d)) $$ [Hb Hh]
    · isplitl [Hb] <;> iassumption
    iintro ⟨Hb, Hh⟩
    ihave Hh := (show StableHlo.held d.tc (Pipeline.ucRefs τ sig) (StableHlo.after opsB (V2 m d))
      ⊢ (StableHlo.held (SparseCore.T d) (Pipeline.ucRefs τ sig) (V3 m d) : sProp (MM F)) from .rfl) $$ Hh
    ihave Hh := (Entails.of_eq (held_before m d)) $$ Hh
    icases Hh with ⟨Hgo, Hrest⟩
    rw [wp_bind]
    iapply ((K (F := F)).wp_run (D (F := F)) 𝒱 (EH := EH) (P := Py m) κ d 0)
    isplitr; · iexact Hctx
    isplitl [Hst]; · iexact Hst
    isplitl [Hgo]; · iexact Hgo
    iintro ⟨Hst, Hdn⟩
    iapply (wp_last m d _)
    isplitl [Hb Hdn Hrest]
    · isplitl [Hb]; · iexact Hb
      iapply (Entails.of_eq (held_after m d).symm)
      isplitl [Hdn]; · iexact Hdn
      iexact Hrest
    iintro ⟨Hb, Hh⟩
    isplitl [Hst]; · iexact Hst
    isplitl [Hh]; · iexact Hh
    isplitl [Hb] <;> iassumption
  isplitl [Hb]; · iexact Hb
  isplitl [Hh Ho Hr]
  · isplitl [Hh]; · iexact Hh
    isplitl [Ho]; · iexact Ho
    iexists _; iexact Hr
  isplitr; · iapply (SparseCore.Cfg.ctx_levAts κ); iexact Hctx
  iexact Hp

/-! ## The program's run -/

/-- Every buffer reads what the run leaves there. -/
def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : sProp (MM F)) := by
  unfold fq
  refine (forall_intro fun b => ?_).trans pure_forall.2
  refine (forall_intro fun hb => ?_).trans pure_forall.2
  unfold FIN
  rw [StableHlo.held_sub_split _ (Finset.singleton_subset_iff.mpr hb)]
  unfold StableHlo.held
  rw [bigSep_singleton]
  iintro ⟨⟨Hb, -⟩, HSI⟩
  ihave H := (SI_pointsTo_agree (st := s') (ℓ := (d, b)) (I := Finset.univ) (q := fullShare) (f := V5 m d b)) $$ [HSI Hb]
  · isplitl [HSI] <;> iassumption
  icases H with %h
  ipureintro; exact funext fun i => h i (Finset.mem_univ i)

/-- The run's end: every buffer at its final contents, every counter at zero. -/
def QC : PUnit × MemSt nD τ sig (Elt F) → Prop := fun r =>
  (∀ c : Dev nD, ∀ b ∈ Pipeline.ucRefs τ sig, r.2.mem (c, b) = V5 m c b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Py m) (A := ∅) facts v₀
    (fun q hq => match q with | 0 => nomatch hq)
    (fun q _ => match q with | 0 => tileObl m)
    (fun q _ => match q with | 0 => SparseCore.Cfg.VecSplit.of_plain (vecSplit m))
    m ρ main (fun d => piece d) (FIN m) (u₀ (F := F)) (sep_elim_left.trans (hu₀ m)) (hmain m ρ) (fq m) (hfin m) (QC m) (fun _ h hz => ⟨h, hz⟩)

/-- The run ends with the input as it was and every counter at zero. -/
theorem frame_run [∀ e, Nonempty (Elt F e)] :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)) ∧ r.2.sem = fun _ => 0) :=
  (θ_run (Cert.KernelIdeal.defs (F := F)) _ _).mono
    (fun _ h => ⟨fun c => (h.1 c (dr main_arg0) (Pipeline.devRef_mem_ucRefs (by rfl))).trans (V5_arg m c), h.2⟩) (run_main m ρ)

end Cert.KernelIdeal.Launch

end
-- ==== Proof.Pool.lean ====
/-
  The 5×5 maximum filter, twice: the TensorCore body's, a row filter and then a column filter over a map with −∞
  around it, and the reference's windowed reduction. Both are the largest entry among the window's places inside the
  map, so on equal maps they are equal at every place.
-/
module

public import proofs.«01_k».proof.Proof.Region
public import proofs.«01_k».proof.Proof.Gen.ReferenceIdeal.Run
public import Idealize.ShloMosaic.Lib.Pointwise
public import Idealize.ShloMosaic.Lib.KernelVsHost

@[expose] public section

noncomputable section

namespace Cert.Nms

open Idealize.ShloMosaic Idealize.SL.Sem

/-- Minus infinity's bits denote the least extended real. -/
theorem ninf : (Ideal.ofBits .f32 0xFF800000#32 : EReal) = ⊥ := by
  simp [Ideal.ofBits, Ideal.ieee]

/-- Row `r` of a map, −∞ outside it, at column `v` counted from two places before the map. -/
def rowAt (x : FVec Ideal Cert.KernelIdeal.S512x512 .f32) (r : Fin 512) (v : ℕ) : EReal :=
  if h : 2 ≤ v ∧ v < 514 then x (ix2 r ⟨v - 2, by omega⟩) else ⊥

/-- Column `c` of a map, −∞ outside it, at row `u` counted from two places before the map. -/
def colAt (x : FVec Ideal Cert.KernelIdeal.S512x512 .f32) (c : Fin 512) (u : ℕ) : EReal :=
  if h : 2 ≤ u ∧ u < 514 then x (ix2 ⟨u - 2, by omega⟩ c) else ⊥

section Kernel
open Cert.KernelIdeal Cert.KernelIdeal.Gen
variable {F : FTy → Type} [FloatOps F]

/-- A map between two columns of −∞ on either side. -/
def wide (x : FVec F S512x512 .f32) : FVec F S512x516 .f32 :=
  concatenate S512x516 1 [⟨S512x2, broadcast S512x2 (Scalar.ofBits .f32 0xFF800000#32)⟩, ⟨S512x512, x⟩,
    ⟨S512x2, broadcast S512x2 (Scalar.ofBits .f32 0xFF800000#32)⟩] concatenates_S512x2_S512x512_S512x2_S512x516_d1

/-- A map between two rows of −∞ above and below. -/
def tall (x : FVec F S512x512 .f32) : FVec F S516x512 .f32 :=
  concatenate S516x512 0 [⟨S2x512, broadcast S2x512 (Scalar.ofBits .f32 0xFF800000#32)⟩, ⟨S512x512, x⟩,
    ⟨S2x512, broadcast S2x512 (Scalar.ofBits .f32 0xFF800000#32)⟩] concatenates_S2x512_S512x512_S2x512_S516x512_d0

/-- The maximum over five neighbouring columns. -/
def rowMax (x : FVec F S512x512 .f32) : FVec F S512x512 .f32 :=
  maximumf (maximumf (maximumf (maximumf (extractStridedSlice S512x512 ![0, 0] (wide x) slices_S512x516_o0_0_S512x512)
    (extractStridedSlice S512x512 ![0, 1] (wide x) slices_S512x516_o0_1_S512x512))
    (extractStridedSlice S512x512 ![0, 2] (wide x) slices_S512x516_o0_2_S512x512))
    (extractStridedSlice S512x512 ![0, 3] (wide x) slices_S512x516_o0_3_S512x512))
    (extractStridedSlice S512x512 ![0, 4] (wide x) slices_S512x516_o0_4_S512x512)

/-- The maximum over five neighbouring rows. -/
def colMax (x : FVec F S512x512 .f32) : FVec F S512x512 .f32 :=
  maximumf (maximumf (maximumf (maximumf (extractStridedSlice S512x512 ![0, 0] (tall x) slices_S516x512_o0_0_S512x512)
    (extractStridedSlice S512x512 ![1, 0] (tall x) slices_S516x512_o1_0_S512x512))
    (extractStridedSlice S512x512 ![2, 0] (tall x) slices_S516x512_o2_0_S512x512))
    (extractStridedSlice S512x512 ![3, 0] (tall x) slices_S516x512_o3_0_S512x512))
    (extractStridedSlice S512x512 ![4, 0] (tall x) slices_S516x512_o4_0_S512x512)

/-- The TensorCore body's maximum filter. -/
def kpool (x : FVec F S512x512 .f32) : FVec F S512x512 .f32 := colMax (rowMax x)

theorem wide_at (x : FVec Ideal S512x512 .f32) (k : ℕ) (h : S512x516.Slices ![0, k] S512x512) (r c : Fin 512) :
    extractStridedSlice S512x512 ![0, k] (wide x) h (ix2 r c) = rowAt x r (c.val + k) := by
  pointwise [wide]
  unfold rowAt
  rw [ninf]
  by_cases h1 : k + c.val < 2
  · rw [dif_pos h1, dif_neg (by omega)]
  by_cases h2 : k + c.val - 2 < 512
  · rw [dif_neg h1, dif_pos h2, dif_pos ⟨by omega, by omega⟩]
    congr 2; apply Fin.ext; dsimp only; omega
  · rw [dif_neg h1, dif_neg h2, dif_neg (by omega)]

theorem tall_at (x : FVec Ideal S512x512 .f32) (k : ℕ) (h : S516x512.Slices ![k, 0] S512x512) (r c : Fin 512) :
    extractStridedSlice S512x512 ![k, 0] (tall x) h (ix2 r c) = colAt x c (r.val + k) := by
  pointwise [tall]
  unfold colAt
  rw [ninf]
  by_cases h1 : k + r.val < 2
  · rw [dif_pos h1, dif_neg (by omega)]
  by_cases h2 : k + r.val - 2 < 512
  · rw [dif_neg h1, dif_pos h2, dif_pos ⟨by omega, by omega⟩]
    congr 2; apply Fin.ext; dsimp only; omega
  · rw [dif_neg h1, dif_neg h2, dif_neg (by omega)]

/-- The row filter's value is below `z` exactly when its five entries are. -/
theorem rowMax_le (x : FVec Ideal S512x512 .f32) (r c : Fin 512) (z : EReal) :
    rowMax x (ix2 r c) ≤ z ↔ ∀ k : Fin 5, rowAt x r (c.val + k.val) ≤ z := by
  simp only [rowMax, maximumf_apply, wide_at, Ideal.maximumf_def, max_le_iff]
  exact ⟨fun h k => by fin_cases k <;> simp_all, fun h => ⟨⟨⟨⟨h 0, h 1⟩, h 2⟩, h 3⟩, h 4⟩⟩

theorem colMax_le (x : FVec Ideal S512x512 .f32) (r c : Fin 512) (z : EReal) :
    colMax x (ix2 r c) ≤ z ↔ ∀ k : Fin 5, colAt x c (r.val + k.val) ≤ z := by
  simp only [colMax, maximumf_apply, tall_at, Ideal.maximumf_def, max_le_iff]
  exact ⟨fun h k => by fin_cases k <;> simp_all, fun h => ⟨⟨⟨⟨h 0, h 1⟩, h 2⟩, h 3⟩, h 4⟩⟩

/-- The body's filter is below `z` exactly when every entry of the window inside the map is. -/
theorem kpool_le (x : FVec Ideal S512x512 .f32) (r c : Fin 512) (z : EReal) :
    kpool x (ix2 r c) ≤ z ↔ ∀ p q : Fin 512, r.val ≤ p.val + 2 → p.val ≤ r.val + 2 → c.val ≤ q.val + 2 → q.val ≤ c.val + 2 →
      x (ix2 p q) ≤ z := by
  unfold kpool
  rw [colMax_le]
  constructor
  · intro H p q h1 h2 h3 h4
    have := H ⟨p.val + 2 - r.val, by omega⟩
    unfold colAt at this
    rw [dif_pos (by dsimp only; omega)] at this
    rw [rowMax_le] at this
    have := this ⟨q.val + 2 - c.val, by omega⟩
    unfold rowAt at this
    rw [dif_pos (by dsimp only; omega)] at this
    convert this using 3
    · apply Fin.ext; dsimp only; omega
    · apply Fin.ext; dsimp only; omega
  · intro H k
    unfold colAt
    split
    · rw [rowMax_le]
      intro k'
      unfold rowAt
      split
      · apply H <;> dsimp only <;> omega
      · exact bot_le
    · exact bot_le

end Kernel

section Reference
open Cert.ReferenceIdeal Cert.ReferenceIdeal.Gen
variable {F : FTy → Type} [FloatOps F]

/-- The reference's maximum filter. -/
def rpool (x : FVec F S4x1x512x512 .f32) : FVec F S4x1x512x512 .f32 :=
  Host.reduceWindow FloatOps.maximumf ![1, 1, 5, 5] ![1, 1, 1, 1] ![0, 0, 2, 2] ![0, 0, 2, 2] x
    (broadcastInDim S_ ![] bcast_S_S_ (constant S_ .f32 0xFF800000#32))
    reduceWindows_S4x1x512x512_S4x1x512x512_w1s1p0_0_w1s1p0_0_w5s1p2_2_w5s1p2_2 h_S_

/-- A running maximum is below `z` exactly when the start and every entry are. -/
theorem foldl_max_le {α : Type} (f : α → EReal) (l : List α) (v z : EReal) :
    l.foldl (fun r n => max r (f n)) v ≤ z ↔ v ≤ z ∧ ∀ n ∈ l, f n ≤ z := by
  induction l generalizing v with
  | nil => simp
  | cons a l ih => simp [ih, and_assoc]

/-- The window of the reference's filter. -/
abbrev Win : Shape := ⟨4, ![1, 1, 5, 5]⟩

/-- The entry at place `i` of the window about `(r, c)`, −∞ outside the map. -/
def entry (x : FVec Ideal S4x1x512x512 .f32) (b : Fin 4) (r c : Fin 512) (i : Win.Idx) : EReal :=
  if h : (2 ≤ r.val + (i 2).val ∧ r.val + (i 2).val - 2 < 512) ∧ 2 ≤ c.val + (i 3).val ∧ c.val + (i 3).val - 2 < 512 then
    x (ix4 b 0 ⟨r.val + (i 2).val - 2, h.1.2⟩ ⟨c.val + (i 3).val - 2, h.2.2⟩) else ⊥

theorem entry_eq (x : FVec Ideal S4x1x512x512 .f32) (b : Fin 4) (r c : Fin 512) (i : Win.Idx)
    (dec : Decidable (∀ a : Fin 4, ![0, 0, 2, 2] a ≤ ((ix4 b (0 : Fin 1) r c : S4x1x512x512.Idx) a).val * ![1, 1, 1, 1] a + (i a).val
          ∧ ((ix4 b (0 : Fin 1) r c : S4x1x512x512.Idx) a).val * ![1, 1, 1, 1] a + (i a).val - ![0, 0, 2, 2] a < S4x1x512x512.size a)) :
    (if hin : ∀ a : Fin 4, ![0, 0, 2, 2] a ≤ ((ix4 b (0 : Fin 1) r c : S4x1x512x512.Idx) a).val * ![1, 1, 1, 1] a + (i a).val
          ∧ ((ix4 b (0 : Fin 1) r c : S4x1x512x512.Idx) a).val * ![1, 1, 1, 1] a + (i a).val - ![0, 0, 2, 2] a < S4x1x512x512.size a then
        x (fun a => ⟨((ix4 b (0 : Fin 1) r c : S4x1x512x512.Idx) a).val * ![1, 1, 1, 1] a + (i a).val - ![0, 0, 2, 2] a, (hin a).2⟩) else (⊥ : EReal))
      = entry x b r c i := by
  have i0 : (i 0).val < 1 := (i 0).isLt
  have i1 : (i 1).val < 1 := (i 1).isLt
  unfold entry
  split
  · rename_i hin
    have h2 : 2 ≤ r.val * 1 + (i 2).val ∧ r.val * 1 + (i 2).val - 2 < 512 := hin 2
    have h3 : 2 ≤ c.val * 1 + (i 3).val ∧ c.val * 1 + (i 3).val - 2 < 512 := hin 3
    rw [Nat.mul_one] at h2 h3
    rw [dif_pos ⟨h2, h3⟩]
    refine congrArg x ?_
    funext a
    apply Fin.ext
    fin_cases a
    · show b.val * 1 + (i 0).val - 0 = b.val; omega
    · show 0 * 1 + (i 1).val - 0 = 0; omega
    · show r.val * 1 + (i 2).val - 2 = r.val + (i 2).val - 2; omega
    · show c.val * 1 + (i 3).val - 2 = c.val + (i 3).val - 2; omega
  · rename_i hin
    rw [dif_neg]
    rintro ⟨h2, h3⟩
    refine hin fun a => ?_
    have := b.isLt
    fin_cases a
    · show 0 ≤ b.val * 1 + (i 0).val ∧ b.val * 1 + (i 0).val - 0 < 4; omega
    · show 0 ≤ 0 * 1 + (i 1).val ∧ 0 * 1 + (i 1).val - 0 < 1; omega
    · show 2 ≤ r.val * 1 + (i 2).val ∧ r.val * 1 + (i 2).val - 2 < 512; omega
    · show 2 ≤ c.val * 1 + (i 3).val ∧ c.val * 1 + (i 3).val - 2 < 512; omega

/-- The reference's filter is below `z` exactly when every entry of the window inside the map is. -/
theorem rpool_le (x : FVec Ideal S4x1x512x512 .f32) (b : Fin 4) (r c : Fin 512) (z : EReal) :
    rpool x (ix4 b 0 r c) ≤ z ↔ ∀ p q : Fin 512, r.val ≤ p.val + 2 → p.val ≤ r.val + 2 → c.val ≤ q.val + 2 → q.val ≤ c.val + 2 →
      x (ix4 b 0 p q) ≤ z := by
  unfold rpool Host.reduceWindow
  refine Iff.trans (foldl_max_le _ _ _ z) ?_
  have hv : (broadcastInDim S_ ![] bcast_S_S_ (constant (F := Ideal) S_ .f32 0xFF800000#32)) (Shape.Idx.first h_S_) = (⊥ : EReal) := ninf
  rw [hv]
  constructor
  · rintro ⟨-, H⟩ p q h1 h2 h3 h4
    have H' : ∀ n, entry x b r c (Win.rowMajor.symm n) ≤ z := fun n => by
      refine le_of_eq_of_le (Eq.symm ?_) (H n (List.mem_finRange n))
      exact entry_eq x b r c (Win.rowMajor.symm n) _
    have := H' (Win.rowMajor (ix4 (0 : Fin 1) (0 : Fin 1) (⟨p.val + 2 - r.val, by omega⟩ : Fin 5) (⟨q.val + 2 - c.val, by omega⟩ : Fin 5)))
    rw [Equiv.symm_apply_apply] at this
    unfold entry at this
    have hp := p.isLt
    have hq := q.isLt
    rw [dif_pos (by
      show (2 ≤ r.val + (p.val + 2 - r.val) ∧ r.val + (p.val + 2 - r.val) - 2 < 512) ∧ 2 ≤ c.val + (q.val + 2 - c.val) ∧ c.val + (q.val + 2 - c.val) - 2 < 512
      omega)] at this
    convert this using 3
    · apply Fin.ext; show p.val = r.val + (p.val + 2 - r.val) - 2; omega
    · apply Fin.ext; show q.val = c.val + (q.val + 2 - c.val) - 2; omega
  · intro H
    refine ⟨bot_le, fun n _ => le_of_eq_of_le (entry_eq x b r c (Win.rowMajor.symm n) _) ?_⟩
    generalize Win.rowMajor.symm n = i
    have i2 : (i 2).val < 5 := (i 2).isLt
    have i3 : (i 3).val < 5 := (i 3).isLt
    unfold entry
    split
    · apply H <;> dsimp only <;> omega
    · exact bot_le

end Reference

/-- On equal maps the two filters are equal. -/
theorem pool_eq (x : FVec Ideal Cert.KernelIdeal.S512x512 .f32) (X : FVec Ideal Cert.ReferenceIdeal.S4x1x512x512 .f32) (b : Fin 4)
    (h : ∀ r c, x (ix2 r c) = X (ix4 b 0 r c)) (r c : Fin 512) : kpool x (ix2 r c) = rpool X (ix4 b 0 r c) :=
  eq_of_forall_ge_iff fun z => by rw [kpool_le, rpool_le]; simp only [h]

end Cert.Nms
-- ==== Proof.Nms.lean ====
/-
  The suppressed scores: at every place the TensorCore body's block holds what the reference's map holds. The two
  programs take the same steps around their maximum filters, so each intermediate mask and map agrees place by place.
-/
module

public import proofs.«01_k».proof.Proof.Pool

@[expose] public section

noncomputable section

namespace Cert.Nms

open Idealize.ShloMosaic Idealize.ShloMosaic.TcCoe Idealize.SL.Sem Idealize.ShloMosaic.StableHlo

/-! ## The body's payloads through its filter -/

section Kernel
open Cert.KernelIdeal Cert.KernelIdeal.Gen Cert.KernelIdeal.Region
variable {F : FTy → Type} [FloatOps F]

/-- A mask as zeros and ones. -/
def bits (m : IVec S512x512 1) : FVec F S512x512 .f32 := sitofp .f32 (extui 32 m natLt_1_32)

/-- The places near a maximum of the mask. -/
def near (m : IVec S512x512 1) : IVec S512x512 1 := cmpf .ogt (kpool (bits (F := F) m)) (broadcast S512x512 (Scalar.ofBits .f32 0x00000000#32))

/-- The scores without the places near the mask. -/
def rest (v : FVec F S512x512 .f32) (m : IVec S512x512 1) : FVec F S512x512 .f32 := select (near (F := F) m) k0_pay3 v

/-- The mask with the maxima of the remaining scores added. -/
def grow (v : FVec F S512x512 .f32) (m : IVec S512x512 1) : IVec S512x512 1 :=
  ori m (andi (cmpf .oeq (rest v m) (kpool (rest v m))) (xori (near (F := F) m) (constantI S512x512 1 1#1)))

/-- The first mask: the places that are their window's maximum. -/
def first (v : FVec F S512x512 .f32) : IVec S512x512 1 := cmpf .oeq v (kpool v)

/-- The places at least three from the top and left edges and two from the others. -/
def inside : IVec S512x512 1 :=
  andi (andi (andi (cmpi .sge (iota .tc S512x512 32 [0] iota_S512x512_d0_w32) (broadcast S512x512 3#32))
    (cmpi .slt (iota .tc S512x512 32 [0] iota_S512x512_d0_w32) (broadcast S512x512 510#32)))
    (cmpi .sge (iota .tc S512x512 32 [1] iota_S512x512_d1_w32) (broadcast S512x512 3#32)))
    (cmpi .slt (iota .tc S512x512 32 [1] iota_S512x512_d1_w32) (broadcast S512x512 510#32))

theorem nmsBlk_eq (x : Vec F S1x512x512 .f32) :
    nmsBlk x = shapeCast S1x512x512 (select inside (select (grow (k0_pay2 x) (grow (k0_pay2 x) (first (k0_pay2 x)))) (k0_pay2 x) k0_pay3) k0_pay3)
      shapeCasts_S512x512_S1x512x512 := rfl

end Kernel

section Reference
open Cert.ReferenceIdeal Cert.ReferenceIdeal.Gen Cert.ReferenceIdeal.Value
variable {F : FTy → Type} [FloatOps F]

/-- The reference's places near a maximum of the mask. -/
def rnear (m : IVec S4x1x512x512 1) : IVec S4x1x512x512 1 :=
  cmpf .ogt (rpool (uitofp (F := F) .f32 m)) (broadcastInDim S4x1x512x512 ![] bcast_S_S4x1x512x512 (constant S_ .f32 0x00000000#32))

/-- The reference's scores without the places near the mask. -/
def rrest (v : FVec F S4x1x512x512 .f32) (m : IVec S4x1x512x512 1) : FVec F S4x1x512x512 .f32 :=
  select (rnear (F := F) m) (broadcastInDim S4x1x512x512 ![] bcast_S_S4x1x512x512 (constant S_ .f32 0x00000000#32)) v

/-- The reference's mask with the maxima of the remaining scores added. -/
def rgrow (v : FVec F S4x1x512x512 .f32) (m : IVec S4x1x512x512 1) : IVec S4x1x512x512 1 :=
  ori m (andi (cmpf .oeq (rrest v m) (rpool (rrest v m))) (noti (rnear (F := F) m)))

/-- The reference's first mask. -/
def rfirst (v : FVec F S4x1x512x512 .f32) : IVec S4x1x512x512 1 := cmpf .oeq v (rpool v)

theorem v3_eq (V0 : Valuation τ sig (Elt F)) : res_main_v3 V0 = rfirst (V0 (Proc.devRef .tc main_arg0)) := rfl
theorem v15_eq (V0 : Valuation τ sig (Elt F)) : res_main_v15 V0 = rgrow (V0 (Proc.devRef .tc main_arg0)) (rfirst (V0 (Proc.devRef .tc main_arg0))) := rfl

/-- The reference's border mask. -/
def rinside : IVec S4x1x512x512 1 :=
  broadcastInDim S4x1x512x512 ![0, 1, 2, 3] bcast_S1x1x512x512_S4x1x512x512_0_1_2_3 (broadcastInDim S1x1x512x512 ![2, 3] bcast_S512x512_S1x1x512x512_2_3 (andi (broadcastInDim S512x512 ![0, 1] bcast_S512x1_S512x512_0_1 (broadcastInDim S512x1 ![0] bcast_S512_S512x1_0 (andi (cmpi .sge (iotaInDim S512 32 0) (broadcastInDim S512 ![] bcast_S_S512 (constantI S_ 32 3#32))) (cmpi .slt (iotaInDim S512 32 0) (broadcastInDim S512 ![] bcast_S_S512 (constantI S_ 32 510#32)))))) (broadcastInDim S512x512 ![0, 1] bcast_S1x512_S512x512_0_1 (broadcastInDim S1x512 ![1] bcast_S512_S1x512_1 (andi (cmpi .sge (iotaInDim S512 32 0) (broadcastInDim S512 ![] bcast_S_S512 (constantI S_ 32 3#32))) (cmpi .slt (iotaInDim S512 32 0) (broadcastInDim S512 ![] bcast_S_S512 (constantI S_ 32 510#32))))))))

theorem v48_eq (V0 : Valuation τ sig (Elt F)) : res_main_v48 V0 =
    shapeCast S4x262144 (select rinside (select (rgrow (V0 (Proc.devRef .tc main_arg0)) (rgrow (V0 (Proc.devRef .tc main_arg0)) (rfirst (V0 (Proc.devRef .tc main_arg0)))))
        (V0 (Proc.devRef .tc main_arg0)) (broadcastInDim S4x1x512x512 ![] bcast_S_S4x1x512x512 (constant S_ .f32 0x00000000#32)))
      (broadcastInDim S4x1x512x512 ![] bcast_S_S4x1x512x512 (constant S_ .f32 0x00000000#32))) shapeCasts_S4x1x512x512_S4x262144 := rfl

end Reference

/-! ## Place by place -/

/-- A bit flipped by exclusive or is its complement. -/
theorem xori_one (a : BitVec 1) : IntOp.xori a 1#1 = ~~~a := by revert a; decide

section Agree
open Cert.KernelIdeal.Gen
variable (b : Fin 4) (v : FVec Ideal Cert.KernelIdeal.S512x512 .f32) (w : FVec Ideal Cert.ReferenceIdeal.S4x1x512x512 .f32)
  (hv : ∀ r c, v (ix2 r c) = w (ix4 b 0 r c))
  (m : IVec Cert.KernelIdeal.S512x512 1) (n : IVec Cert.ReferenceIdeal.S4x1x512x512 1) (hm : ∀ r c, m (ix2 r c) = n (ix4 b 0 r c))

include hm in
theorem near_eq (r c : Fin 512) : near (F := Ideal) m (ix2 r c) = rnear (F := Ideal) n (ix4 b 0 r c) := by
  have h : ∀ r c, bits (F := Ideal) m (ix2 r c) = uitofp (F := Ideal) .f32 n (ix4 b 0 r c) := fun r c => by
    unfold bits; rw [sitofp_extui_eq_uitofp]
    show uitofp (F := Ideal) .f32 m (ix2 r c) = _
    simp only [uitofp, hm]
  have h2 := pool_eq _ _ b h r c
  unfold near rnear
  pointwise [h2]

include hv hm in
theorem rest_eq (r c : Fin 512) : rest v m (ix2 r c) = rrest w n (ix4 b 0 r c) := by
  unfold rest rrest
  pointwise [near_eq b m n hm, hv, k0_pay3]

include hv in
theorem first_eq (r c : Fin 512) : first v (ix2 r c) = rfirst w (ix4 b 0 r c) := by
  unfold first rfirst
  pointwise [pool_eq v w b hv, hv]

include hv hm in
theorem grow_eq (r c : Fin 512) : grow v m (ix2 r c) = rgrow w n (ix4 b 0 r c) := by
  unfold grow rgrow
  pointwise [pool_eq _ _ b (rest_eq b v w hv m n hm), rest_eq b v w hv m n hm, near_eq b m n hm, hm]
  rw [xori_one]

theorem inside_eq (r c : Fin 512) : inside (ix2 r c) = rinside (ix4 b 0 r c) := by
  pointwise [inside, rinside]
  simp only [IntOp.andi, BitVec.and_assoc]

end Agree

/-- The body's suppressed scores at a place are the reference's. -/
theorem nms_at (b : Fin 4) (x : Vec Ideal Cert.KernelIdeal.S1x512x512 .f32) (V0 : Valuation Cert.ReferenceIdeal.τ Cert.ReferenceIdeal.sig (Elt Ideal))
    (hx : ∀ r c, x (ix3 0 r c) = (V0 (Proc.devRef .tc Cert.ReferenceIdeal.main_arg0) : FVec Ideal Cert.ReferenceIdeal.S4x1x512x512 .f32) (ix4 b 0 r c))
    (r c : Fin 512) (l : Fin 262144) (hl : l.val = r.val * 512 + c.val) :
    Cert.KernelIdeal.Region.nmsBlk x (ix3 0 r c) = Cert.ReferenceIdeal.Value.res_main_v48 V0 (ix2 b l) := by
  have hr : (⟨l.val / 512, by omega⟩ : Fin 512) = r := Fin.ext (by dsimp only; omega)
  have hc : (⟨l.val % 512, by omega⟩ : Fin 512) = c := Fin.ext (by dsimp only; omega)
  rw [nmsBlk_eq, v48_eq]
  generalize V0 (Proc.devRef .tc Cert.ReferenceIdeal.main_arg0) = w at hx ⊢
  have hv : ∀ r c, Cert.KernelIdeal.Gen.k0_pay2 x (ix2 r c) = (w : FVec Ideal Cert.ReferenceIdeal.S4x1x512x512 .f32) (ix4 b 0 r c) := fun r c => by
    pointwise [Cert.KernelIdeal.Gen.k0_pay2, hx]
  have h1 := first_eq b _ _ hv
  have h2 := grow_eq b _ _ hv _ _ h1
  have h3 := grow_eq b _ _ hv _ _ h2
  pointwise [inside_eq b, h3, hv, Cert.KernelIdeal.Gen.k0_pay3, hr, hc]

/-- The body's framed scores: the block's from place (3, 3) on, zero around it. -/
theorem pad_at (x : Vec Ideal Cert.KernelIdeal.S1x512x512 .f32) (u : Fin 520) (v : Fin 640) :
    Cert.KernelIdeal.Region.padBlk x (ix3 0 u v)
      = if h : (3 ≤ u.val ∧ u.val < 515) ∧ 3 ≤ v.val ∧ v.val < 515 then
          x (ix3 0 ⟨u.val - 3, by omega⟩ ⟨v.val - 3, by omega⟩) else 0 := by
  pointwise [Cert.KernelIdeal.Region.padBlk, Cert.KernelIdeal.Gen.k0_pay1, Cert.KernelIdeal.Gen.k0_pay2, Cert.KernelIdeal.Gen.k0_pay10]
  by_cases h : (3 ≤ u.val ∧ u.val < 515) ∧ 3 ≤ v.val ∧ v.val < 515
  · rw [dif_pos h, dif_neg (by omega), dif_pos (by omega), dif_neg (by omega), dif_pos (by omega)]
  · rw [dif_neg h]
    split; · rfl
    split
    · split; · rfl
      split
      · exfalso; omega
      · rfl
    · rfl

end Cert.Nms
-- ==== Proof.Arrays.lean ====
/-
  What the TensorCore call leaves in its two arrays, place by place: the suppressed scores of each image and the image
  inside a frame of zeros, both as functions of the input map.
-/
module

public import proofs.«01_k».proof.Proof.Nms
public import proofs.«01_k».proof.Proof.Host
public import Idealize.ShloMosaic.Lib.Pipeline.ValueKit.Geometry

@[expose] public section

noncomputable section

namespace Cert.KernelIdeal.Host

open Cert.KernelIdeal Cert.KernelIdeal.Gen Cert.KernelIdeal.Region
open Idealize.ShloMosaic Idealize.ShloMosaic.TcCoe Idealize.SL.Sem Idealize.ShloMosaic.StableHlo
open Idealize.ShloMosaic.Pipeline (Dat Window)

variable (m : (ℓ : Loc nD τ sig) → Buf (Elt Ideal) ℓ) (d : Dev nD)

/-- The input map. -/
def arg : FVec Ideal S4x1x512x512 .f32 := m (d, Proc.devRef .tc main_arg0)

/-- The first line gives the call the images without their unit axis. -/
theorem v0_at (b : Fin 4) (r c : Fin 512) :
    (V1 m d (Proc.devRef .tc main_v0) : FVec Ideal S4x512x512 .f32) (ix3 b r c) = arg m d (ix4 b 0 r c) := by
  have h : (V1 m d (Proc.devRef .tc main_v0) : FVec Ideal S4x512x512 .f32) = shapeCast S4x512x512 (arg m d) shapeCasts_S4x1x512x512_S4x512x512 := by
    unfold V1 opsA; after_results; rfl
  rw [h]
  pointwise

/-- Window 0 stands at image `t` at point `t`. -/
theorem idx0 : ∀ t : Fin cfg0.N, win0_0.index t 0 = t.val ∧ win0_0.index t 1 = 0 ∧ win0_0.index t 2 = 0 := by decide +kernel
/-- Window 1 stands at image `t` at point `t`. -/
theorem idx1 : ∀ t : Fin cfg0.N, win0_1.index t 0 = t.val ∧ win0_1.index t 1 = 0 ∧ win0_1.index t 2 = 0 := by decide +kernel
/-- Window 2 stands at image `t` at point `t`. -/
theorem idx2 : ∀ t : Fin cfg0.N, win0_2.index t 0 = t.val ∧ win0_2.index t 1 = 0 ∧ win0_2.index t 2 = 0 := by decide +kernel

/-- Image `b` as a block. -/
def img (b : Fin 4) : Vec Ideal S1x512x512 .f32 := fun i => arg m d (ix4 b 0 (i 1) (i 2))

/-- The input block at point `t` is image `t`. -/
theorem iblk_eq (t : Fin cfg0.N) (b : Fin 4) (hb : b.val = t.val) : iblk (V1 m) d t = img m d b := by
  funext j
  obtain ⟨z, r, c, rfl⟩ : ∃ (z : Fin 1) (r c : Fin 512), j = ix3 z r c := ⟨j 0, j 1, j 2, eq_ix3 j⟩
  refine Eq.trans ?_ (v0_at m d b r c)
  blk_simp [iblk]
  refine congrArg (V1 m d (Proc.devRef .tc main_v0)) ?_
  blk_ext [idx0]

/-- The images' suppressed scores, as one array. -/
def nmsAll : FVec Ideal S4x512x512 .f32 := fun j => nmsBlk (img m d (j 0)) (ix3 0 (j 1) (j 2))

/-- The framed images, as one array. -/
def padAll : FVec Ideal S4x520x640 .f32 := fun j => padBlk (img m d (j 0)) (ix3 0 (j 1) (j 2))

/-- After the region, window 1's array is the images' suppressed scores. -/
theorem V2_nms : V2 m d (Proc.devRef .tc main_v1_0) = nmsAll m d := by
  refine (Pipeline.afterRegion_arr (dat (V1 m) d) (V1 m d) launch0.win.arr_inj 1).trans ?_
  refine (dat (V1 m) d).arrAt_eq_of_covers 1 _ (by decide +kernel) fun t hf y => ?_
  blk_simp
  rw [after_1]
  have h : ((win0_1.blk t).view.emb y (0 : Fin 3) : Fin 4).val = t.val := by blk_simp [idx1]
  unfold nmsAll
  rw [iblk_eq m d t _ h]
  refine congrArg (nmsBlk _) ?_
  blk_ext [idx1]

/-- After the region, window 2's array is the images' framed scores. -/
theorem V2_pad : V2 m d (Proc.devRef .tc main_v1_1) = padAll m d := by
  refine (Pipeline.afterRegion_arr (dat (V1 m) d) (V1 m d) launch0.win.arr_inj 2).trans ?_
  refine (dat (V1 m) d).arrAt_eq_of_covers 2 _ (by decide +kernel) fun t hf y => ?_
  blk_simp
  rw [after_2]
  have h : ((win0_2.blk t).view.emb y (0 : Fin 3) : Fin 4).val = t.val := by blk_simp [idx2]
  unfold padAll
  rw [iblk_eq m d t _ h]
  refine congrArg (padBlk _) ?_
  blk_ext [idx2]

end Cert.KernelIdeal.Host
-- ==== Proof.Taps.lean ====
/-
  The reference's two gathers, read at an index.
-/
module

public import proofs.«01_k».proof.Proof.Gen.ReferenceIdeal.Run
public import Idealize.ShloMosaic.Lib.Pointwise

@[expose] public section

noncomputable section

namespace Cert.Reading

open Cert.ReferenceIdeal Cert.ReferenceIdeal.Gen Cert.ReferenceIdeal.Value
open Idealize.ShloMosaic Idealize.ShloMosaic.TcCoe Idealize.SL.Sem

/-- The gather of whole rows: row `idx (b, n)` of image `b`, clamped into the image. -/
theorem rows_at {α : Type} (x : S4x262144x25.Idx → α) (idx : IVec S4x5000x1 32) (b : Fin 4) (n : Fin 5000) (j : Fin 25) :
    Host.gather gather_S4x262144x25_S4x5000x1_S4x5000x25_2_1_0_0_1_2_1125 x idx (ix3 b n j)
      = x (ix3 b ⟨min (idx (ix3 b n 0)).toInt.toNat 262143, by omega⟩ j) := by
  unfold Host.gather
  congr 1
  funext a
  refine Fin.ext ?_
  have hsi : ∀ p, gather_S4x262144x25_S4x5000x1_S4x5000x25_2_1_0_0_1_2_1125.siIdx (ix3 b n j) p = ix3 b n 0 := by
    intro p
    funext c; refine Fin.ext ?_
    match c with
    | ⟨0, _⟩ => rfl
    | ⟨1, _⟩ => rfl
    | ⟨2, _⟩ => exact (Nat.lt_one_iff.mp p.isLt)
  match a with
  | ⟨0, _⟩ =>
    show 0 + b.val + 0 = b.val
    omega
  | ⟨1, _⟩ =>
    show min (idx (gather_S4x262144x25_S4x5000x1_S4x5000x25_2_1_0_0_1_2_1125.siIdx (ix3 b n j) ⟨0, by decide⟩)).toInt.toNat (262144 - 1) + 0 + 0 = _
    rw [hsi]; rfl
  | ⟨2, _⟩ =>
    show 0 + 0 + j.val = j.val
    omega

/-- The gather of single entries: entry `(idx (b, n, 0), idx (b, n, 1))` of image `b`, clamped into the image. -/
theorem entries_at {α : Type} (x : S4x512x512.Idx → α) (idx : IVec S4x5000x2 32) (b : Fin 4) (n : Fin 5000) :
    Host.gather gather_S4x512x512_S4x5000x2_S4x5000_n_12_0_0_12_2_111 x idx (ix2 b n)
      = x (ix3 b ⟨min (idx (ix3 b n 0)).toInt.toNat 511, by omega⟩ ⟨min (idx (ix3 b n 1)).toInt.toNat 511, by omega⟩) := by
  unfold Host.gather
  congr 1
  funext a
  refine Fin.ext ?_
  have hsi : ∀ p, gather_S4x512x512_S4x5000x2_S4x5000_n_12_0_0_12_2_111.siIdx (ix2 b n) p = ix3 b n ⟨p.val, p.isLt⟩ := by
    intro p
    funext c; refine Fin.ext ?_
    match c with
    | ⟨0, _⟩ => rfl
    | ⟨1, _⟩ => rfl
    | ⟨2, _⟩ => rfl
  match a with
  | ⟨0, _⟩ =>
    show 0 + b.val + 0 = b.val
    omega
  | ⟨1, _⟩ =>
    show min (idx (gather_S4x512x512_S4x5000x2_S4x5000_n_12_0_0_12_2_111.siIdx (ix2 b n) ⟨0, by decide⟩)).toInt.toNat (512 - 1) + 0 + 0 = _
    rw [hsi]; rfl
  | ⟨2, _⟩ =>
    show min (idx (gather_S4x512x512_S4x5000x2_S4x5000_n_12_0_0_12_2_111.siIdx (ix2 b n) ⟨1, by decide⟩)).toInt.toNat (512 - 1) + 0 + 0 = _
    rw [hsi]; rfl

/-- The maximum over the 25 entries of a patch. -/
theorem patchMax_at (x : FVec Ideal S4x5000x25 .f32) (b : Fin 4) (n : Fin 5000) :
    Host.reduce FloatOps.maximumf x (constant S_ .f32 0xFF800000#32) reducesTo_S4x5000x25_S4x5000_d2 h_S_ (ix2 b n)
      = Finset.univ.fold max ⊥ (fun k : Fin 25 => x (ix3 b n k)) := by
  have hb : (Ideal.ofBits FTy.f32 0xFF800000#32 : EReal) = ⊥ := by simp [Ideal.ofBits, Ideal.ieee]
  pointwise
  rw [hb]

end Cert.Reading

end
-- ==== Proof.Score.lean ====
/-
  The keypoint's refinement as plain formulas over the extended reals: the soft-argmax of a 5×5 patch, its dispersion,
  and the score sampled at the refined place, once by four taps and once by hat weights over the 6×6 patch.
-/
module

public import Idealize.ShloMosaic.PureOps.Ideal
public import Idealize.ShloMosaic.Lib.Pointwise

@[expose] public section

noncomputable section

namespace Cert.Score

open Idealize.ShloMosaic

/-- The softmax's temperature. -/
abbrev tau : EReal := Ideal.ofBits FTy.f32 0x3DCCCCCD#32
/-- The number 511. -/
abbrev edge : EReal := Ideal.ofBits FTy.f32 0x43FF8000#32
/-- The number 2. -/
abbrev two : EReal := Ideal.ofBits FTy.f32 0x40000000#32

/-- The offset of row or column `j` of the patch: `j − 2`. -/
def off (j : ℕ) : EReal := (((j : ℝ) - 2 : ℝ) : EReal)

variable (w : ℕ → EReal)

/-- The patch's maximum. -/
def top : EReal := Finset.univ.fold max ⊥ fun k : Fin 25 => w k
/-- The softmax weight of entry `k`, not normalised. -/
def wt (k : ℕ) : EReal := Ideal.exp (Ideal.div (w k - top w) tau)
/-- The sum of the weights. -/
def total : EReal := ∑ k : Fin 25, wt w k
/-- The column residual. -/
def resX : EReal := Ideal.div (∑ k : Fin 25, wt w k * off (k % 5)) (total w)
/-- The row residual. -/
def resY : EReal := Ideal.div (∑ k : Fin 25, wt w k * off (k / 5)) (total w)
/-- The halved distance of offset `j` from a residual. -/
def gap (r : EReal) (j : ℕ) : EReal := Ideal.div (off j - r) two
/-- The dispersion. -/
def spread : EReal :=
  Ideal.div (∑ k : Fin 25, wt w k * (gap (resX w) (k % 5) * gap (resX w) (k % 5) + gap (resY w) (k / 5) * gap (resY w) (k / 5))) (total w)

/-- A pixel coordinate scaled to [−1, 1]. -/
def scaled (t : EReal) : EReal := Ideal.div t edge * two - 1
/-- A scaled coordinate back in pixels. -/
def pixels (t : EReal) : EReal := Ideal.div (t + 1) two * edge

/-- The hat weight of offset `j` from pixel `q` for a sample at `p`. -/
def hat (p q : EReal) (j : ℕ) : EReal := max 0 (1 - max (p - (q + off j)) (-(p - (q + off j))))
/-- The score by hat weights over the 6×6 patch `v`. -/
def byHats (v : ℕ → EReal) (px py qx qy : EReal) : EReal :=
  ∑ k : Fin 36, v k * hat px qx (k % 6) * hat py qy (k / 6)

/-- The image framed by two rows and columns of zeros, and zero beyond. -/
def framed (f : Fin 512 → Fin 512 → EReal) (u v : ℕ) : EReal :=
  if h : (2 ≤ u ∧ u < 514) ∧ 2 ≤ v ∧ v < 514 then f ⟨u - 2, by omega⟩ ⟨v - 2, by omega⟩ else 0

/-- The entry of the image at row `y`, column `x`, zero outside it. -/
def tap (f : Fin 512 → Fin 512 → EReal) (y x : EReal) : EReal :=
  if ((0 ≤ x ∧ x ≤ edge) ∧ 0 ≤ y) ∧ y ≤ edge then
    f ⟨min (Ideal.fptosi 32 (min ((511 : ℝ) : EReal) (max 0 y))).toInt.toNat 511, by omega⟩
      ⟨min (Ideal.fptosi 32 (min ((511 : ℝ) : EReal) (max 0 x))).toInt.toNat 511, by omega⟩
  else 0

/-- The score by four taps around row `py`, column `px`, with their bilinear weights. -/
def byTaps (f : Fin 512 → Fin 512 → EReal) (py px : EReal) : EReal :=
  tap f (Ideal.liftRound Int.floor py) (Ideal.liftRound Int.floor px)
      * ((Ideal.liftRound Int.floor px + 1 - px) * (Ideal.liftRound Int.floor py + 1 - py))
    + tap f (Ideal.liftRound Int.floor py + 1) (Ideal.liftRound Int.floor px)
      * ((Ideal.liftRound Int.floor px + 1 - px) * (py - Ideal.liftRound Int.floor py))
    + tap f (Ideal.liftRound Int.floor py) (Ideal.liftRound Int.floor px + 1)
      * ((px - Ideal.liftRound Int.floor px) * (Ideal.liftRound Int.floor py + 1 - py))
    + tap f (Ideal.liftRound Int.floor py + 1) (Ideal.liftRound Int.floor px + 1)
      * ((px - Ideal.liftRound Int.floor px) * (py - Ideal.liftRound Int.floor py))

end Cert.Score

end
-- ==== Proof.Values.lean ====
/-
  The reference's values at Ideal, read at a keypoint: its patch, its soft-argmax, its dispersion and its coordinates.
-/
module

public import proofs.«01_k».proof.Proof.Taps
public import proofs.«01_k».proof.Proof.Score
public import proofs.«01_k».proof.Proof.Recipe

@[expose] public section

set_option maxHeartbeats 1000000

noncomputable section

namespace Cert.Reading

open Cert.ReferenceIdeal Cert.ReferenceIdeal.Gen Cert.ReferenceIdeal.Value
open Idealize.ShloMosaic Idealize.ShloMosaic.TcCoe Idealize.SL.Sem
open Cert.Score

/-- The offsets' bits are the offsets. -/
theorem off_eq (j : ℕ) (hj : j < 6) : Ideal.ofBits FTy.f32 (Cert.KernelIdeal.Tile.offc j) = off j := by
  have h : ∀ a b : ℝ, a = b → ((a : ℝ) : EReal) = (b : EReal) := fun _ _ h => congrArg _ h
  interval_cases j <;> simp [Cert.KernelIdeal.Tile.offc, Ideal.ofBits, Ideal.ieee, off, -EReal.coe_sub, -EReal.coe_mul, -EReal.coe_neg, ← EReal.coe_neg, ← EReal.coe_mul]
  all_goals norm_num

/-- A remainder by 512 of a word that is not negative. -/
theorem rem512 (i : BitVec 32) (h : i.toNat < 2 ^ 31) : IntOp.remsi .host i 512#32 = BitVec.ofNat 32 (i.toNat % 512) := by
  have hm : i.msb = false := by rw [BitVec.msb_eq_decide]; simp; omega
  have hc : ¬ IntOp.SDivCorner i 512#32 := by simp [IntOp.SDivCorner]
  rw [IntOp.remsi, if_neg hc, BitVec.srem_eq, hm, show (512#32).msb = false by decide]
  apply BitVec.eq_of_toNat_eq
  simp
  omega

/-- A quotient by 512 of a word that is not negative. -/
theorem div512 (i : BitVec 32) (h : i.toNat < 2 ^ 31) : IntOp.divsi .host i 512#32 = BitVec.ofNat 32 (i.toNat / 512) := by
  have hm : i.msb = false := by rw [BitVec.msb_eq_decide]; simp; omega
  have hc : ¬ IntOp.SDivCorner i 512#32 := by simp [IntOp.SDivCorner]
  rw [IntOp.divsi, if_neg hc, BitVec.sdiv_eq, hm, show (512#32).msb = false by decide]
  apply BitVec.eq_of_toNat_eq
  simp
  omega

/-- A small natural's word as a float. -/
theorem float_ofNat (n : ℕ) (h : n < 512) : (FloatOps.sitofp (F := Ideal) FTy.f32 (BitVec.ofNat 32 n) : EReal) = ((n : ℝ) : EReal) := by
  show (((BitVec.ofNat 32 n).toInt : ℝ) : EReal) = _
  have : (BitVec.ofNat 32 n).toInt = (n : ℤ) := by
    rw [BitVec.toInt_eq_toNat_of_lt] <;> rw [BitVec.toNat_ofNat] <;> omega
  rw [this]; norm_cast

/-- The printed offsets are the offsets: column first, then row. -/
theorem cst_at (V0 : Valuation τ sig (Elt Ideal)) (x : Fin 25) (k : Fin 2) :
    (res_main_cst V0 (ix2 x k) : EReal) = off (if k = 0 then x.val % 5 else x.val / 5) := by
  have h : ∀ (x : Fin 25) (k : Fin 2), lit0 (S25x2.rowMajor (ix2 x k)) = Cert.KernelIdeal.Tile.offc (if k = 0 then x.val % 5 else x.val / 5) := by
    decide +kernel
  show Ideal.ofBits FTy.f32 (lit0 (S25x2.rowMajor (ix2 x k))) = _
  rw [h, off_eq]
  split <;> omega

variable (V0 : Valuation τ sig (Elt Ideal)) (b : Fin 4) (n : Fin 5000)

/-- Image `b`. -/
def img : Fin 512 → Fin 512 → EReal := fun r c => (V0 (Proc.devRef .tc main_arg0) : FVec Ideal S4x1x512x512 .f32) (ix4 b 0 r c)

/-- The word of keypoint `n`'s place in image `b`. -/
def word : BitVec 32 := (res_main_indices V0 : IVec S4x5000 32) (ix2 b n)

/-- A keypoint's place lies in its image. -/
theorem word_lt : (word V0 b n).toNat < 262144 := by
  have key : ∀ n : Fin (S4x262144.size 1), (BitVec.ofNat 32 n.val).toNat < 262144 := fun n => by
    have : n.val < 262144 := n.isLt
    rw [BitVec.toNat_ofNat, Nat.mod_eq_of_lt (by omega)]; exact this
  exact key _

/-- A keypoint's row. -/
def row : ℕ := (word V0 b n).toNat / 512
/-- A keypoint's column. -/
def col : ℕ := (word V0 b n).toNat % 512
theorem row_lt : row V0 b n < 512 := by have := word_lt V0 b n; unfold row; omega
theorem col_lt : col V0 b n < 512 := by unfold col; omega

/-- A keypoint's patch. -/
def patch (k : ℕ) : EReal := framed (img V0 b) (row V0 b n + k / 5) (col V0 b n + k % 5)

/-- The padded map is the framed image. -/
theorem pad_at (u v : Fin 516) : res_main_v50 V0 (ix3 b u v) = framed (img V0 b) u v := by
  have h0 : (FloatOps.sitofp (F := Ideal) FTy.f32 0#32 : EReal) = 0 := by
    rw [show (0#32) = BitVec.ofNat 32 0 from rfl, float_ofNat 0 (by omega)]; simp
  pointwise [res_main_v50]
  unfold framed img
  by_cases h : (2 ≤ u.val ∧ u.val < 514) ∧ 2 ≤ v.val ∧ v.val < 514
  · rw [dif_pos h, dif_pos (by omega)]
  · rw [dif_neg h, dif_neg (by omega), h0]

/-- The 25 shifted maps, stacked. -/
def planes : FVec Ideal S4x25x512x512 .f32 := (concatenate S4x25x512x512 1 [⟨S4x16x512x512, (res_main_v101 V0)⟩, ⟨S4x9x512x512, ((concatenate S4x9x512x512 1 [⟨S4x1x512x512, ((broadcastInDim S4x1x512x512 ![0, 2, 3] bcast_S4x512x512_S4x1x512x512_0_2_3 (extractStridedSlice S4x512x512 ![0, 3, 1] (res_main_v50 V0) slices_S4x516x516_S4x512x512_0_3_1)) : (⟨S4x1x512x512, .f32⟩ : BufTy).Contents (Elt Ideal))⟩, ⟨S4x1x512x512, ((broadcastInDim S4x1x512x512 ![0, 2, 3] bcast_S4x512x512_S4x1x512x512_0_2_3 (extractStridedSlice S4x512x512 ![0, 3, 2] (res_main_v50 V0) slices_S4x516x516_S4x512x512_0_3_2)) : (⟨S4x1x512x512, .f32⟩ : BufTy).Contents (Elt Ideal))⟩, ⟨S4x1x512x512, ((broadcastInDim S4x1x512x512 ![0, 2, 3] bcast_S4x512x512_S4x1x512x512_0_2_3 (extractStridedSlice S4x512x512 ![0, 3, 3] (res_main_v50 V0) slices_S4x516x516_S4x512x512_0_3_3)) : (⟨S4x1x512x512, .f32⟩ : BufTy).Contents (Elt Ideal))⟩, ⟨S4x1x512x512, ((broadcastInDim S4x1x512x512 ![0, 2, 3] bcast_S4x512x512_S4x1x512x512_0_2_3 (extractStridedSlice S4x512x512 ![0, 3, 4] (res_main_v50 V0) slices_S4x516x516_S4x512x512_0_3_4)) : (⟨S4x1x512x512, .f32⟩ : BufTy).Contents (Elt Ideal))⟩, ⟨S4x1x512x512, ((broadcastInDim S4x1x512x512 ![0, 2, 3] bcast_S4x512x512_S4x1x512x512_0_2_3 (extractStridedSlice S4x512x512 ![0, 4, 0] (res_main_v50 V0) slices_S4x516x516_S4x512x512_0_4_0)) : (⟨S4x1x512x512, .f32⟩ : BufTy).Contents (Elt Ideal))⟩, ⟨S4x1x512x512, ((broadcastInDim S4x1x512x512 ![0, 2, 3] bcast_S4x512x512_S4x1x512x512_0_2_3 (extractStridedSlice S4x512x512 ![0, 4, 1] (res_main_v50 V0) slices_S4x516x516_S4x512x512_0_4_1)) : (⟨S4x1x512x512, .f32⟩ : BufTy).Contents (Elt Ideal))⟩, ⟨S4x1x512x512, ((broadcastInDim S4x1x512x512 ![0, 2, 3] bcast_S4x512x512_S4x1x512x512_0_2_3 (extractStridedSlice S4x512x512 ![0, 4, 2] (res_main_v50 V0) slices_S4x516x516_S4x512x512_0_4_2)) : (⟨S4x1x512x512, .f32⟩ : BufTy).Contents (Elt Ideal))⟩, ⟨S4x1x512x512, ((broadcastInDim S4x1x512x512 ![0, 2, 3] bcast_S4x512x512_S4x1x512x512_0_2_3 (extractStridedSlice S4x512x512 ![0, 4, 3] (res_main_v50 V0) slices_S4x516x516_S4x512x512_0_4_3)) : (⟨S4x1x512x512, .f32⟩ : BufTy).Contents (Elt Ideal))⟩, ⟨S4x1x512x512, ((broadcastInDim S4x1x512x512 ![0, 2, 3] bcast_S4x512x512_S4x1x512x512_0_2_3 (extractStridedSlice S4x512x512 ![0, 4, 4] (res_main_v50 V0) slices_S4x516x516_S4x512x512_0_4_4)) : (⟨S4x1x512x512, .f32⟩ : BufTy).Contents (Elt Ideal))⟩] concatenates_S4x1x512x512_S4x1x512x512_S4x1x512x512_S4x1x512x512_S4x1x512x512_S4x1x512x512_S4x1x512x512_S4x1x512x512_S4x1x512x512_S4x9x512x512_d1 : (⟨S4x9x512x512, .f32⟩ : BufTy).Contents (Elt Ideal)))⟩] concatenates_S4x16x512x512_S4x9x512x512_S4x25x512x512_d1)

/-- Plane `k` is the padded map shifted by row `k / 5` and column `k % 5`. -/
theorem plane_at (k : Fin 25) (r c : Fin 512) :
    planes V0 (ix4 b k r c) = res_main_v50 V0 (ix3 b ⟨r.val + k.val / 5, by omega⟩ ⟨c.val + k.val % 5, by omega⟩) := by
  fin_cases k <;> pointwise [planes, res_main_v101]
  all_goals
    refine congrArg (res_main_v50 V0) ?_
    congr 1 <;> (refine Fin.ext ?_; dsimp only; omega)

/-- A stack of flattened maps, its axes exchanged, at an index. -/
theorem exchanged_at (x : FVec Ideal S4x25x262144 .f32) (q : Fin 262144) (k : Fin 25) :
    transpose S4x262144x25 [0, 2, 1] x transposes_S4x25x262144_S4x262144x25_0_2_1 (ix3 b q k) = x (ix3 b k q) := by
  pointwise

/-- A stack of maps, flattened, at an index. -/
theorem flat_at (x : FVec Ideal S4x25x512x512 .f32) (q : Fin 262144) (k : Fin 25) :
    shapeCast S4x25x262144 x shapeCasts_S4x25x512x512_S4x25x262144 (ix3 b k q) = x (ix4 b k ⟨q.val / 512, by omega⟩ ⟨q.val % 512, by omega⟩) := by
  pointwise

/-- The table the patches are gathered from. -/
def table : FVec Ideal S4x262144x25 .f32 :=
  transpose S4x262144x25 [0, 2, 1] (shapeCast _ (planes V0) shapeCasts_S4x25x512x512_S4x25x262144) transposes_S4x25x262144_S4x262144x25_0_2_1

/-- Row `q` of the table is the patch around place `q`. -/
theorem table_at (q : Fin 262144) (k : Fin 25) : table V0 (ix3 b q k) = framed (img V0 b) (q / 512 + k / 5) (q % 512 + k % 5) := by
  unfold table
  rw [exchanged_at, flat_at, plane_at, pad_at]

/-- The rows the gather names. -/
def starts : IVec S4x5000x1 32 :=
  broadcastInDim S4x5000x1 ![0, 1] bcast_S4x5000_S4x5000x1_0_1 (select (cmpi .slt (res_main_indices V0) (broadcastInDim S4x5000 ![] bcast_S_S4x5000 (constantI S_ 32 0#32))) (addi (res_main_indices V0) (broadcastInDim S4x5000 ![] bcast_S_S4x5000 (constantI S_ 32 262144#32))) (res_main_indices V0))

/-- A word that is not negative is kept by the fix-up of negative indices. -/
theorem kept (i e : BitVec 32) (h : i.toNat < 2 ^ 31) : Scalar.select (IntOp.cmpi .slt i 0#32) e i = i := by
  have : IntOp.cmpi .slt i 0#32 = 0#1 := by
    simp only [IntOp.cmpi]
    rw [show i.slt 0#32 = false from ?_]; rfl
    rw [BitVec.slt_eq_decide, BitVec.toInt_eq_toNat_of_lt (by omega)]
    simp
  rw [this]; rfl

theorem starts_at : starts V0 (ix3 b n 0) = word V0 b n := by
  have hw := word_lt V0 b n
  refine Eq.trans ?_ (kept (word V0 b n) (IntOp.addi (word V0 b n) 262144#32) (by omega))
  rfl

/-- The gathered patches. -/
theorem patches_eq : res_main_v113 V0 = Host.gather gather_S4x262144x25_S4x5000x1_S4x5000x25_2_1_0_0_1_2_1125 (table V0) (starts V0) := rfl

/-- Entry `k` of the gathered patch. -/
theorem patch_at (k : Fin 25) : (res_main_v113 V0 : FVec Ideal S4x5000x25 .f32) (ix3 b n k) = patch V0 b n k := by
  have hw := word_lt V0 b n
  have hs : min (starts V0 (ix3 b n 0)).toInt.toNat 262143 = (word V0 b n).toNat := by
    rw [starts_at, BitVec.toInt_eq_toNat_of_lt (by omega)]; omega
  refine (congrFun (patches_eq V0) (ix3 b n k)).trans ((rows_at (table V0) (starts V0) b n k).trans ((table_at V0 b _ k).trans ?_))
  unfold patch row col
  rw [← hs]

/-- The softmax weights of any patches, at an index. -/
theorem weights_at (x : FVec Ideal S4x5000x25 .f32) (k : Fin 25) :
    Host.exp (Host.divf (subf x (broadcastInDim S4x5000x25 ![0, 1, 2] bcast_S4x5000x1_S4x5000x25_0_1_2 (broadcastInDim S4x5000x1 ![0, 1] bcast_S4x5000_S4x5000x1_0_1 (Host.reduce FloatOps.maximumf x (constant S_ .f32 0xFF800000#32) reducesTo_S4x5000x25_S4x5000_d2 h_S_)))) (broadcastInDim S4x5000x25 ![] bcast_S_S4x5000x25 (constant S_ .f32 0x3DCCCCCD#32))) (ix3 b n k)
      = wt (fun k => if h : k < 25 then x (ix3 b n ⟨k, h⟩) else 0) k := by
  generalize hM : Host.reduce FloatOps.maximumf x (constant S_ .f32 0xFF800000#32) reducesTo_S4x5000x25_S4x5000_d2 h_S_ = M
  have h : M (ix2 b n) = top (fun k => if h : k < 25 then x (ix3 b n ⟨k, h⟩) else 0) := by
    rw [← hM, patchMax_at]
    unfold top
    refine congrArg (fun f => Finset.univ.fold max ⊥ f) (funext fun k => ?_)
    exact (show (fun k : ℕ => if h : k < 25 then x (ix3 b n ⟨k, h⟩) else 0) k.val = x (ix3 b n k) from dif_pos k.isLt).symm
  pointwise [h]
  unfold wt
  rw [show (fun k : ℕ => if h : k < 25 then x (ix3 b n ⟨k, h⟩) else 0) k.val = x (ix3 b n k) from dif_pos k.isLt]

/-- Two patches that agree on their 25 entries have the same weights. -/
theorem wt_congr {w w' : ℕ → EReal} (h : ∀ k < 25, w k = w' k) (k : ℕ) (hk : k < 25) : wt w k = wt w' k := by
  have ht : top w = top w' := congrArg (fun f : Fin 25 → EReal => Finset.univ.fold max ⊥ f) (funext fun k => h k k.isLt)
  unfold wt
  rw [h k hk, ht]

/-- The softmax weights. -/
theorem wt_at (k : Fin 25) : (res_main_v120 V0 : FVec Ideal S4x5000x25 .f32) (ix3 b n k) = wt (patch V0 b n) k := by
  refine (weights_at b n (res_main_v113 V0) k).trans ?_
  refine wt_congr (fun j hj => ?_) k k.isLt
  rw [dif_pos hj]; exact patch_at V0 b n ⟨j, hj⟩

/-- The sum of the weights. -/
theorem total_at : (res_main_v122 V0 : FVec Ideal S4x5000x1 .f32) (ix3 b n 0) = total (patch V0 b n) := by
  pointwise [res_main_v122, wt_at]
  rfl

/-- The residuals: column first, then row. -/
theorem res_at (k : Fin 2) : (res_main_v125 V0 : FVec Ideal S4x5000x2 .f32) (ix3 b n k)
    = if k = 0 then resX (patch V0 b n) else resY (patch V0 b n) := by
  pointwise [res_main_v125, wt_at, total_at, cst_at]
  fin_cases k <;> rfl

/-- The halved distances. -/
theorem gap_at (j : Fin 25) (k : Fin 2) : (res_main_v133 V0 : FVec Ideal S4x5000x25x2 .f32) (ix4 b n j k)
    = if k = 0 then gap (resX (patch V0 b n)) (j % 5) else gap (resY (patch V0 b n)) (j / 5) := by
  pointwise [res_main_v133, res_at, cst_at]
  fin_cases k <;> rfl

/-- The dispersion. -/
theorem spread_at : (Host.divf (Host.reduceAdd (mulf (res_main_v120 V0) (Host.reduceAdd (mulf (res_main_v133 V0) (res_main_v133 V0)) (constant S_ .f32 0x00000000#32) reducesTo_S4x5000x25x2_S4x5000x25_d3 h_S_)) (constant S_ .f32 0x00000000#32) reducesTo_S4x5000x25_S4x5000_d2 h_S_) (shapeCast _ (res_main_v122 V0) shapeCasts_S4x5000x1_S4x5000) : FVec Ideal S4x5000 .f32) (ix2 b n)
    = spread (patch V0 b n) := by
  pointwise [wt_at, gap_at, total_at, Fin.sum_univ_two]
  unfold spread
  rfl

/-- The column's word: the fix-up of a negative remainder leaves it. -/
theorem colFix (r : BitVec 32) (h : r.toNat < 512) :
    Scalar.select (IntOp.andi (IntOp.cmpi .ne (IntOp.cmpi .slt r 0#32) (IntOp.cmpi .slt 512#32 0#32)) (IntOp.cmpi .ne r 0#32))
      (IntOp.addi r 512#32) r = r := by
  have : IntOp.cmpi .slt r 0#32 = 0#1 := by
    simp only [IntOp.cmpi]
    rw [show r.slt 0#32 = false from ?_]; rfl
    rw [BitVec.slt_eq_decide, BitVec.toInt_eq_toNat_of_lt (by omega)]
    simp
  rw [this, show IntOp.cmpi .ne (0#1) (IntOp.cmpi .slt 512#32 0#32) = 0#1 by decide]
  simp [IntOp.andi, Scalar.select]

/-- The row's word: the fix-up of a negative quotient leaves it. -/
theorem rowFix (i q : BitVec 32) (h : i.toNat < 262144) :
    Scalar.select (IntOp.andi (IntOp.cmpi .ne (if i = 0 then 0 else if BitVec.msb i = true then -1 else 1)
        (if (512#32) = 0 then 0 else if BitVec.msb (512#32) = true then -1 else (1 : BitVec 32)))
        (IntOp.cmpi .ne (IntOp.remsi .host i 512#32) 0#32)) (IntOp.subi q 1#32) q = q := by
  by_cases h0 : i = 0
  · subst h0
    rw [show IntOp.cmpi .ne (IntOp.remsi .host (0 : BitVec 32) 512#32) 0#32 = 0#1 by decide]
    simp [IntOp.andi, Scalar.select]
  · have hm : i.msb = false := by rw [BitVec.msb_eq_decide]; simp; omega
    rw [if_neg h0, hm]
    rw [show IntOp.cmpi .ne (if false = true then (-1 : BitVec 32) else 1) (if (512#32) = 0 then 0 else if BitVec.msb (512#32) = true then -1 else (1 : BitVec 32)) = 0#1 by decide]
    simp [IntOp.andi, Scalar.select]

theorem rem_at : (res_main_call5_v4 V0 : IVec S4x5000 32) (ix2 b n) = BitVec.ofNat 32 (col V0 b n) := by
  have hw := word_lt V0 b n
  exact rem512 (word V0 b n) (by omega)
theorem quot_at : (res_main_call6_v2 V0 : IVec S4x5000 32) (ix2 b n) = BitVec.ofNat 32 (row V0 b n) := by
  have hw := word_lt V0 b n
  exact div512 (word V0 b n) (by omega)
theorem word_at : (res_main_indices V0 : IVec S4x5000 32) (ix2 b n) = word V0 b n := rfl
theorem side5 : (res_main_call5_v2 V0 : IVec S_ 32) ix0 = 512#32 := by
  show Scalar.select (IntOp.cmpi .eq 512#32 0#32) 1#32 512#32 = 512#32
  decide
theorem side6 : (res_main_call6_v0 V0 : IVec S_ 32) ix0 = 512#32 := rfl

/-- The refined coordinates, scaled: column first, then row. -/
theorem coord_at (k : Fin 2) : (res_main_v154 V0 : FVec Ideal S4x5000x2 .f32) (ix3 b n k)
    = if k = 0 then scaled (((col V0 b n : ℝ) : EReal) + resX (patch V0 b n)) else scaled (((row V0 b n : ℝ) : EReal) + resY (patch V0 b n)) := by
  have hw := word_lt V0 b n
  have hr := row_lt V0 b n
  have hc := col_lt V0 b n
  have h1 : (BitVec.ofNat 32 (col V0 b n)).toNat < 512 := by rw [BitVec.toNat_ofNat, Nat.mod_eq_of_lt (by omega)]; exact hc
  pointwise [res_main_v154, res_at, rem_at, quot_at, word_at, side5, side6, colFix _ h1, rowFix _ _ hw]
  fin_cases k
  · rw [dif_pos (by decide), float_ofNat _ hc]; rfl
  · rw [dif_neg (by decide), float_ofNat _ hr]; rfl

end Cert.Reading

end
-- ==== Proof.Sample.lean ====
/-
  The reference's bilinear sample at a keypoint: four taps of the image with their weights.
-/
module

public import proofs.«01_k».proof.Proof.Values

@[expose] public section

set_option maxHeartbeats 1000000

noncomputable section

namespace Cert.Reading

open Cert.ReferenceIdeal Cert.ReferenceIdeal.Gen Cert.ReferenceIdeal.Value
open Idealize.ShloMosaic Idealize.ShloMosaic.TcCoe Idealize.SL.Sem
open Cert.Score

/-- A pixel clipped into the image, as a word. -/
def clipped (y : EReal) : BitVec 32 := Ideal.fptosi 32 (min ((511 : ℝ) : EReal) (max 0 y))

theorem clipped_coe (a : ℝ) : clipped (a : EReal) = BitVec.ofInt 32 ⌊min 511 (max 0 a)⌋ := by
  have h0 : (0 : ℝ) ≤ min 511 (max 0 a) := le_min (by norm_num) (le_max_left _ _)
  have h1 : min 511 (max 0 a) ≤ (511 : ℝ) := min_le_left _ _
  have e : min ((511 : ℝ) : EReal) (max 0 (a : EReal)) = ((min 511 (max 0 a) : ℝ) : EReal) := by
    have hm := EReal.coe_strictMono.monotone
    rw [hm.map_min, hm.map_max]; rfl
  unfold clipped Ideal.fptosi
  rw [e, Ideal.toIntClamped_coe, if_pos h0]
  have f0 : 0 ≤ ⌊min 511 (max 0 a)⌋ := Int.floor_nonneg.mpr h0
  have f1 : ⌊min 511 (max 0 a)⌋ ≤ 511 := by
    have := Int.floor_le_floor h1
    simpa using this
  congr 1
  rw [min_eq_right, max_eq_right] <;> norm_num <;> omega

theorem clipped_lt (y : EReal) : (clipped y).toNat < 512 := by
  induction y with
  | bot =>
    have : clipped ⊥ = clipped ((0 : ℝ) : EReal) := by simp [clipped]
    rw [this, clipped_coe]; norm_num
  | top =>
    have : clipped ⊤ = clipped ((511 : ℝ) : EReal) := by
      unfold clipped
      congr 1
      rw [max_eq_right le_top, min_eq_left le_top, max_eq_right, min_self]
      exact_mod_cast (by norm_num : (0 : ℝ) ≤ 511)
    rw [this, clipped_coe]; norm_num
  | coe a =>
    rw [clipped_coe]
    have h0 : (0 : ℝ) ≤ min 511 (max 0 a) := le_min (by norm_num) (le_max_left _ _)
    have h1 : min 511 (max 0 a) ≤ (511 : ℝ) := min_le_left _ _
    have f0 : 0 ≤ ⌊min 511 (max 0 a)⌋ := Int.floor_nonneg.mpr h0
    have f1 : ⌊min 511 (max 0 a)⌋ ≤ 511 := by
      have := Int.floor_le_floor h1
      simpa using this
    generalize ⌊min 511 (max 0 a)⌋ = z at f0 f1
    rw [BitVec.toNat_ofInt]; omega

variable (V0 : Valuation τ sig (Elt Ideal)) (b : Fin 4) (n : Fin 5000)

/-- The clipped pixels of a vector of coordinates. -/
def pix (y : FVec Ideal S4x5000 .f32) : IVec S4x5000 32 :=
  fptosi 32 (minimumf (broadcastInDim S4x5000 ![] bcast_S_S4x5000 (sitofp .f32 (constantI S_ 32 511#32))) (maximumf (broadcastInDim S4x5000 ![] bcast_S_S4x5000 (sitofp .f32 (constantI S_ 32 0#32))) y))

theorem pix_at (y : FVec Ideal S4x5000 .f32) : pix y (ix2 b n) = clipped (y (ix2 b n)) := by
  have h0 : FloatOps.sitofp (F := Ideal) FTy.f32 0#32 = (0 : EReal) := by
    rw [show (0#32) = BitVec.ofNat 32 0 from rfl, float_ofNat 0 (by omega)]; simp
  have h1 : FloatOps.sitofp (F := Ideal) FTy.f32 511#32 = ((511 : ℝ) : EReal) := by
    rw [show (511#32) = BitVec.ofNat 32 511 from rfl, float_ofNat 511 (by omega)]; norm_num
  pointwise [pix, h0, h1]
  rfl

/-- Taps of the images at rows `y` and columns `x`. -/
def taps (z : FVec Ideal S4x512x512 .f32) (y x : FVec Ideal S4x5000 .f32) : FVec Ideal S4x5000 .f32 :=
  select (andi (andi (andi (cmpf .oge x (broadcastInDim S4x5000 ![] bcast_S_S4x5000 (constant S_ .f32 0x00000000#32))) (cmpf .ole x (broadcastInDim S4x5000 ![] bcast_S_S4x5000 (constant S_ .f32 0x43FF8000#32)))) (cmpf .oge y (broadcastInDim S4x5000 ![] bcast_S_S4x5000 (constant S_ .f32 0x00000000#32)))) (cmpf .ole y (broadcastInDim S4x5000 ![] bcast_S_S4x5000 (constant S_ .f32 0x43FF8000#32)))) (Host.gather gather_S4x512x512_S4x5000x2_S4x5000_n_12_0_0_12_2_111 z (concatenate S4x5000x2 2 [⟨S4x5000x1, (broadcastInDim S4x5000x1 ![0, 1] bcast_S4x5000_S4x5000x1_0_1 (select (cmpi .slt (pix y) (broadcastInDim S4x5000 ![] bcast_S_S4x5000 (constantI S_ 32 0#32))) (addi (pix y) (broadcastInDim S4x5000 ![] bcast_S_S4x5000 (constantI S_ 32 512#32))) (pix y)))⟩, ⟨S4x5000x1, (broadcastInDim S4x5000x1 ![0, 1] bcast_S4x5000_S4x5000x1_0_1 (select (cmpi .slt (pix x) (broadcastInDim S4x5000 ![] bcast_S_S4x5000 (constantI S_ 32 0#32))) (addi (pix x) (broadcastInDim S4x5000 ![] bcast_S_S4x5000 (constantI S_ 32 512#32))) (pix x)))⟩] concatenates_S4x5000x1_S4x5000x1_S4x5000x2_d2)) (broadcastInDim S4x5000 ![1] bcast_S5000_S4x5000_1 (broadcastInDim S5000 ![] bcast_S_S5000 (id (constant S_ .f32 0x00000000#32))))

/-- The two coordinates of a tap, side by side. -/
def pair (y x : FVec Ideal S4x5000 .f32) : IVec S4x5000x2 32 :=
  concatenate S4x5000x2 2 [⟨S4x5000x1, (broadcastInDim S4x5000x1 ![0, 1] bcast_S4x5000_S4x5000x1_0_1 (select (cmpi .slt (pix y) (broadcastInDim S4x5000 ![] bcast_S_S4x5000 (constantI S_ 32 0#32))) (addi (pix y) (broadcastInDim S4x5000 ![] bcast_S_S4x5000 (constantI S_ 32 512#32))) (pix y)))⟩, ⟨S4x5000x1, (broadcastInDim S4x5000x1 ![0, 1] bcast_S4x5000_S4x5000x1_0_1 (select (cmpi .slt (pix x) (broadcastInDim S4x5000 ![] bcast_S_S4x5000 (constantI S_ 32 0#32))) (addi (pix x) (broadcastInDim S4x5000 ![] bcast_S_S4x5000 (constantI S_ 32 512#32))) (pix x)))⟩] concatenates_S4x5000x1_S4x5000x1_S4x5000x2_d2

theorem pair_0 (y x : FVec Ideal S4x5000 .f32) : pair y x (ix3 b n 0) = clipped (y (ix2 b n)) := by
  have := clipped_lt (y (ix2 b n))
  pointwise [pair, pix_at]
  exact kept _ _ (by omega)

theorem pair_1 (y x : FVec Ideal S4x5000 .f32) : pair y x (ix3 b n 1) = clipped (x (ix2 b n)) := by
  have := clipped_lt (x (ix2 b n))
  pointwise [pair, pix_at]
  exact kept _ _ (by omega)

/-- A select under four conditions. -/
theorem select_four {α : Type} (p q r s : Prop) [Decidable p] [Decidable q] [Decidable r] [Decidable s] (A B : α) :
    Scalar.select (IntOp.andi (IntOp.andi (IntOp.andi (BitVec.ofBool (decide p)) (BitVec.ofBool (decide q))) (BitVec.ofBool (decide r)))
      (BitVec.ofBool (decide s))) A B = if ((p ∧ q) ∧ r) ∧ s then A else B := by
  by_cases hp : p <;> by_cases hq : q <;> by_cases hr : r <;> by_cases hs : s <;> simp [hp, hq, hr, hs, IntOp.andi, Scalar.select]

/-- A tap reads the image at its clipped row and column, or is zero outside. -/
theorem taps_at (z : FVec Ideal S4x512x512 .f32) (y x : FVec Ideal S4x5000 .f32) :
    taps z y x (ix2 b n) = tap (fun r c => z (ix3 b r c)) (y (ix2 b n)) (x (ix2 b n)) := by
  have hg : Host.gather gather_S4x512x512_S4x5000x2_S4x5000_n_12_0_0_12_2_111 z (pair y x) (ix2 b n)
      = z (ix3 b ⟨min (clipped (y (ix2 b n))).toInt.toNat 511, by omega⟩ ⟨min (clipped (x (ix2 b n))).toInt.toNat 511, by omega⟩) := by
    rw [entries_at]
    simp only [pair_0, pair_1]
  have e : taps z y x = select (andi (andi (andi (cmpf .oge x (broadcastInDim S4x5000 ![] bcast_S_S4x5000 (constant S_ .f32 0x00000000#32))) (cmpf .ole x (broadcastInDim S4x5000 ![] bcast_S_S4x5000 (constant S_ .f32 0x43FF8000#32)))) (cmpf .oge y (broadcastInDim S4x5000 ![] bcast_S_S4x5000 (constant S_ .f32 0x00000000#32)))) (cmpf .ole y (broadcastInDim S4x5000 ![] bcast_S_S4x5000 (constant S_ .f32 0x43FF8000#32)))) (Host.gather gather_S4x512x512_S4x5000x2_S4x5000_n_12_0_0_12_2_111 z (pair y x)) (broadcastInDim S4x5000 ![1] bcast_S5000_S4x5000_1 (broadcastInDim S5000 ![] bcast_S_S5000 (id (constant S_ .f32 0x00000000#32)))) := rfl
  rw [e]
  generalize Host.gather gather_S4x512x512_S4x5000x2_S4x5000_n_12_0_0_12_2_111 z (pair y x) = g at hg
  have h0 : id (constant (F := Ideal) S_ FTy.f32 0#32) ix0 = (0 : EReal) := by
    show Ideal.ofBits FTy.f32 0#32 = 0
    simp [Ideal.ofBits, Ideal.ieee]
  pointwise [hg, h0, select_four]
  rfl

/-- The images, without their channel axis. -/
theorem images_at (r c : Fin 512) : (res_main_v106 V0 : FVec Ideal S4x512x512 .f32) (ix3 b r c) = img V0 b r c := by
  pointwise [res_main_v106]
  rfl

/-- The sampled column, in pixels. -/
theorem px_at : (res_main_v175 V0 : FVec Ideal S4x5000 .f32) (ix2 b n) = pixels (scaled (((col V0 b n : ℝ) : EReal) + resX (patch V0 b n))) := by
  pointwise [res_main_v175, res_main_v173, coord_at]
  rfl
/-- The sampled row, in pixels. -/
theorem py_at : (res_main_v177 V0 : FVec Ideal S4x5000 .f32) (ix2 b n) = pixels (scaled (((row V0 b n : ℝ) : EReal) + resY (patch V0 b n))) := by
  pointwise [res_main_v177, res_main_v173, coord_at]
  rfl

/-- The reference's score: the sum of the four taps, weighted. -/
theorem score_eq : addf (res_main_v320 V0) (mulf (select (andi (andi (andi (cmpf .oge (res_main_v181 V0) (broadcastInDim S4x5000 ![] bcast_S_S4x5000 (constant S_ .f32 0x00000000#32))) (cmpf .ole (res_main_v181 V0) (broadcastInDim S4x5000 ![] bcast_S_S4x5000 (constant S_ .f32 0x43FF8000#32)))) (cmpf .oge (res_main_v183 V0) (broadcastInDim S4x5000 ![] bcast_S_S4x5000 (constant S_ .f32 0x00000000#32)))) (cmpf .ole (res_main_v183 V0) (broadcastInDim S4x5000 ![] bcast_S_S4x5000 (constant S_ .f32 0x43FF8000#32)))) (Host.gather gather_S4x512x512_S4x5000x2_S4x5000_n_12_0_0_12_2_111 (res_main_v106 V0) (concatenate S4x5000x2 2 [⟨S4x5000x1, (broadcastInDim S4x5000x1 ![0, 1] bcast_S4x5000_S4x5000x1_0_1 (select (cmpi .slt (res_main_v286 V0) (broadcastInDim S4x5000 ![] bcast_S_S4x5000 (constantI S_ 32 0#32))) (addi (res_main_v286 V0) (broadcastInDim S4x5000 ![] bcast_S_S4x5000 (constantI S_ 32 512#32))) (res_main_v286 V0)))⟩, ⟨S4x5000x1, (broadcastInDim S4x5000x1 ![0, 1] bcast_S4x5000_S4x5000x1_0_1 (select (cmpi .slt (res_main_v288 V0) (broadcastInDim S4x5000 ![] bcast_S_S4x5000 (constantI S_ 32 0#32))) (addi (res_main_v288 V0) (broadcastInDim S4x5000 ![] bcast_S_S4x5000 (constantI S_ 32 512#32))) (res_main_v288 V0)))⟩] concatenates_S4x5000x1_S4x5000x1_S4x5000x2_d2)) (broadcastInDim S4x5000 ![1] bcast_S5000_S4x5000_1 (broadcastInDim S5000 ![] bcast_S_S5000 (id (constant S_ .f32 0x00000000#32))))) (mulf (subf (res_main_v175 V0) (res_main_v178 V0)) (subf (res_main_v177 V0) (res_main_v179 V0))))
    = addf (addf (addf (mulf (taps (res_main_v106 V0) (res_main_v179 V0) (res_main_v178 V0)) (mulf (subf (res_main_v181 V0) (res_main_v175 V0)) (subf (res_main_v183 V0) (res_main_v177 V0))))
      (mulf (taps (res_main_v106 V0) (res_main_v183 V0) (res_main_v178 V0)) (mulf (subf (res_main_v181 V0) (res_main_v175 V0)) (subf (res_main_v177 V0) (res_main_v179 V0)))))
      (mulf (taps (res_main_v106 V0) (res_main_v179 V0) (res_main_v181 V0)) (mulf (subf (res_main_v175 V0) (res_main_v178 V0)) (subf (res_main_v183 V0) (res_main_v177 V0)))))
      (mulf (taps (res_main_v106 V0) (res_main_v183 V0) (res_main_v181 V0)) (mulf (subf (res_main_v175 V0) (res_main_v178 V0)) (subf (res_main_v177 V0) (res_main_v179 V0)))) := rfl

theorem floorX_at : (res_main_v178 V0 : FVec Ideal S4x5000 .f32) (ix2 b n) = Ideal.liftRound Int.floor ((res_main_v175 V0 : FVec Ideal S4x5000 .f32) (ix2 b n)) := rfl
theorem floorY_at : (res_main_v179 V0 : FVec Ideal S4x5000 .f32) (ix2 b n) = Ideal.liftRound Int.floor ((res_main_v177 V0 : FVec Ideal S4x5000 .f32) (ix2 b n)) := rfl
theorem nextX_at : (res_main_v181 V0 : FVec Ideal S4x5000 .f32) (ix2 b n) = Ideal.liftRound Int.floor ((res_main_v175 V0 : FVec Ideal S4x5000 .f32) (ix2 b n)) + 1 := by
  pointwise [res_main_v181, floorX_at]
theorem nextY_at : (res_main_v183 V0 : FVec Ideal S4x5000 .f32) (ix2 b n) = Ideal.liftRound Int.floor ((res_main_v177 V0 : FVec Ideal S4x5000 .f32) (ix2 b n)) + 1 := by
  pointwise [res_main_v183, floorY_at]

/-- The reference's score at a keypoint. -/
theorem score_at : (addf (res_main_v320 V0) (mulf (select (andi (andi (andi (cmpf .oge (res_main_v181 V0) (broadcastInDim S4x5000 ![] bcast_S_S4x5000 (constant S_ .f32 0x00000000#32))) (cmpf .ole (res_main_v181 V0) (broadcastInDim S4x5000 ![] bcast_S_S4x5000 (constant S_ .f32 0x43FF8000#32)))) (cmpf .oge (res_main_v183 V0) (broadcastInDim S4x5000 ![] bcast_S_S4x5000 (constant S_ .f32 0x00000000#32)))) (cmpf .ole (res_main_v183 V0) (broadcastInDim S4x5000 ![] bcast_S_S4x5000 (constant S_ .f32 0x43FF8000#32)))) (Host.gather gather_S4x512x512_S4x5000x2_S4x5000_n_12_0_0_12_2_111 (res_main_v106 V0) (concatenate S4x5000x2 2 [⟨S4x5000x1, (broadcastInDim S4x5000x1 ![0, 1] bcast_S4x5000_S4x5000x1_0_1 (select (cmpi .slt (res_main_v286 V0) (broadcastInDim S4x5000 ![] bcast_S_S4x5000 (constantI S_ 32 0#32))) (addi (res_main_v286 V0) (broadcastInDim S4x5000 ![] bcast_S_S4x5000 (constantI S_ 32 512#32))) (res_main_v286 V0)))⟩, ⟨S4x5000x1, (broadcastInDim S4x5000x1 ![0, 1] bcast_S4x5000_S4x5000x1_0_1 (select (cmpi .slt (res_main_v288 V0) (broadcastInDim S4x5000 ![] bcast_S_S4x5000 (constantI S_ 32 0#32))) (addi (res_main_v288 V0) (broadcastInDim S4x5000 ![] bcast_S_S4x5000 (constantI S_ 32 512#32))) (res_main_v288 V0)))⟩] concatenates_S4x5000x1_S4x5000x1_S4x5000x2_d2)) (broadcastInDim S4x5000 ![1] bcast_S5000_S4x5000_1 (broadcastInDim S5000 ![] bcast_S_S5000 (id (constant S_ .f32 0x00000000#32))))) (mulf (subf (res_main_v175 V0) (res_main_v178 V0)) (subf (res_main_v177 V0) (res_main_v179 V0)))) : FVec Ideal S4x5000 .f32) (ix2 b n)
    = byTaps (img V0 b) (pixels (scaled (((row V0 b n : ℝ) : EReal) + resY (patch V0 b n)))) (pixels (scaled (((col V0 b n : ℝ) : EReal) + resX (patch V0 b n)))) := by
  refine (congrFun (score_eq V0) (ix2 b n)).trans ?_
  have hi : (fun r c => (res_main_v106 V0 : FVec Ideal S4x512x512 .f32) (ix3 b r c)) = img V0 b := funext fun r => funext fun c => images_at V0 b r c
  rw [← px_at, ← py_at]
  pointwise [taps_at, hi, nextX_at, nextY_at, floorX_at, floorY_at]
  rfl

end Cert.Reading

end
-- ==== Proof.Blend.lean ====
/-
  The two ways to sample the score agree: hat weights over the 6×6 patch, and four bilinear taps of the image.
-/
module

public import proofs.«01_k».proof.Proof.Sample

@[expose] public section

noncomputable section

namespace Cert.Score

open Idealize.ShloMosaic
open Cert.Reading (clipped clipped_coe)

/-! ## The constants -/

theorem two_eq : two = ((2 : ℝ) : EReal) := by
  simp [Ideal.ofBits, Ideal.ieee, -EReal.coe_mul, ← EReal.coe_mul]; norm_num
theorem edge_eq : edge = ((511 : ℝ) : EReal) := by
  simp [Ideal.ofBits, Ideal.ieee, -EReal.coe_mul, ← EReal.coe_mul]; norm_num
theorem tau_pos : ∃ t : ℝ, 0 < t ∧ tau = (t : EReal) := by
  refine ⟨13421773 * (2 ^ 27)⁻¹, by positivity, ?_⟩
  simp [Ideal.ofBits, Ideal.ieee, -EReal.coe_mul, ← EReal.coe_mul]

/-! ## Arithmetic with the lowest value -/

theorem bot_div {t : ℝ} (ht : 0 < t) : Ideal.div ⊥ (t : EReal) = ⊥ := by
  rw [Ideal.div_coe (ne_of_gt ht)]
  exact EReal.bot_mul_coe_of_pos (by positivity)
theorem coe_div {t : ℝ} (ht : 0 < t) (a : ℝ) : Ideal.div (a : EReal) (t : EReal) = ((a / t : ℝ) : EReal) := by
  rw [Ideal.div_coe (ne_of_gt ht), ← EReal.coe_mul]
  congr 1; ring
theorem coe_max (a b : ℝ) : max (a : EReal) (b : EReal) = ((max a b : ℝ) : EReal) := (EReal.coe_strictMono.monotone.map_max).symm

theorem scaled_bot : scaled ⊥ = ⊥ := by
  unfold scaled
  rw [edge_eq, two_eq, bot_div (by norm_num), EReal.bot_mul_coe_of_pos (by norm_num), sub_eq_add_neg, EReal.bot_add]
theorem pixels_bot : pixels ⊥ = ⊥ := by
  unfold pixels
  rw [edge_eq, two_eq, EReal.bot_add, bot_div (by norm_num), EReal.bot_mul_coe_of_pos (by norm_num)]
/-- On a real coordinate the scaling and its inverse cancel. -/
theorem pixels_scaled (t : ℝ) : pixels (scaled (t : EReal)) = (t : EReal) := by
  unfold pixels scaled
  rw [edge_eq, two_eq, coe_div (by norm_num), ← EReal.coe_mul, ← EReal.coe_one, ← EReal.coe_sub, ← EReal.coe_add, coe_div (by norm_num), ← EReal.coe_mul]
  congr 1; ring

/-! ## Hat weights -/

/-- The hat weight of a real sample is a real. -/
theorem hat_coe (p q : ℝ) (j : ℕ) : hat (p : EReal) (q : EReal) j = ((max 0 (1 - |p - (q + (j - 2))|) : ℝ) : EReal) := by
  unfold hat off
  rw [← EReal.coe_add, ← EReal.coe_sub, ← EReal.coe_neg, coe_max, ← EReal.coe_one, ← EReal.coe_sub, ← EReal.coe_zero, coe_max]
  rfl
theorem hat_bot (q : ℝ) (j : ℕ) : hat ⊥ (q : EReal) j = 0 := by
  unfold hat off
  rw [← EReal.coe_add, show (⊥ : EReal) - ((q + ((j : ℝ) - 2) : ℝ) : EReal) = ⊥ by rw [sub_eq_add_neg, EReal.bot_add], EReal.neg_bot, max_eq_right bot_le, EReal.sub_top]
  · exact max_eq_left bot_le

variable {a : ℝ}

/-- The hat weight at the sample's own column. -/
theorem hat_here (q : ℝ) (j : ℕ) (hj : (j : ℝ) - 2 ≤ a) (h' : a < (j : ℝ) - 2 + 1) :
    hat ((q + a : ℝ) : EReal) (q : EReal) j = ((1 - (a - (j - 2)) : ℝ) : EReal) := by
  rw [hat_coe, show q + a - (q + ((j : ℝ) - 2)) = a - (j - 2) by ring, abs_of_nonneg (by linarith), max_eq_right (by linarith)]
/-- The hat weight at the next column. -/
theorem hat_next (q : ℝ) (j : ℕ) (hj : (j : ℝ) - 2 ≤ a) (h' : a < (j : ℝ) - 2 + 1) :
    hat ((q + a : ℝ) : EReal) (q : EReal) (j + 1) = ((a - (j - 2) : ℝ) : EReal) := by
  rw [hat_coe, show q + a - (q + (((j + 1 : ℕ) : ℝ) - 2)) = -(1 - (a - (j - 2))) by push_cast; ring, abs_neg, abs_of_nonneg (by linarith),
    max_eq_right (by linarith)]
  congr 1; ring
/-- The hat weight vanishes at every other column. -/
theorem hat_far (q : ℝ) (j i : ℕ) (hj : (j : ℝ) - 2 ≤ a) (h' : a < (j : ℝ) - 2 + 1) (h1 : i ≠ j) (h2 : i ≠ j + 1) :
    hat ((q + a : ℝ) : EReal) (q : EReal) i = 0 := by
  rw [hat_coe, max_eq_left, EReal.coe_zero]
  rw [show q + a - (q + ((i : ℝ) - 2)) = a - (i - 2) by ring]
  rcases Nat.lt_or_ge i j with h | h
  · have : (i : ℝ) + 1 ≤ j := by exact_mod_cast h
    have := le_abs_self (a - (i - 2)); linarith
  · have : (j : ℝ) + 2 ≤ i := by exact_mod_cast (by omega : j + 2 ≤ i)
    have := neg_le_abs (a - (i - 2)); linarith

/-! ## Sums of six with two terms -/

theorem two_of_six (T : ℕ → EReal) (j : ℕ) (hj : j ≤ 4) (h : ∀ i < 6, i ≠ j → i ≠ j + 1 → T i = 0) :
    ∑ i : Fin 6, T i = T j + T (j + 1) := by
  rw [Fin.sum_univ_six]
  have h0 := h 0; have h1 := h 1; have h2 := h 2; have h3 := h 3; have h4 := h 4; have h5 := h 5
  interval_cases j <;> simp_all

/-- A sum of thirty-six terms, six by six. -/
theorem six_by_six (T : ℕ → EReal) : ∑ k : Fin 36, T k = ∑ i : Fin 6, ∑ j : Fin 6, T (6 * i + j) := by
  rw [Fin.sum_univ_eq_sum_range T 36]
  simp only [Fin.sum_univ_six, Finset.sum_range_succ, Finset.sum_range_zero, zero_add, add_assoc]
  rfl

/-! ## Taps -/

/-- A tap at whole coordinates reads the framed image. -/
theorem tap_framed (f : Fin 512 → Fin 512 → EReal) (u v : ℕ) :
    tap f (((u : ℝ) - 2 : ℝ) : EReal) (((v : ℝ) - 2 : ℝ) : EReal) = framed f u v := by
  have clip : ∀ u : ℕ, 2 ≤ u → u < 514 → min (clipped (((u : ℝ) - 2 : ℝ) : EReal)).toInt.toNat 511 = u - 2 := by
    intro u h2 h3
    have a2 : (2 : ℝ) ≤ u := by exact_mod_cast h2
    have a3 : (u : ℝ) ≤ 513 := by exact_mod_cast (by omega : u ≤ 513)
    have hm : min (511 : ℝ) (max 0 ((u : ℝ) - 2)) = (u : ℝ) - 2 := by rw [max_eq_right (by linarith), min_eq_right (by linarith)]
    rw [clipped_coe, hm]
    have : ((u : ℝ) - 2) = ((u - 2 : ℕ) : ℝ) := by push_cast [h2]; ring
    rw [this, Int.floor_natCast, BitVec.toInt_ofInt]
    have : ((u - 2 : ℕ) : ℤ).bmod (2 ^ 32) = ((u - 2 : ℕ) : ℤ) := by
      apply Int.bmod_eq_of_le <;> norm_num <;> omega
    rw [this, Int.toNat_natCast]; omega
  have lo : ∀ u : ℕ, (0 : EReal) ≤ (((u : ℝ) - 2 : ℝ) : EReal) ↔ 2 ≤ u := by
    intro u
    rw [← EReal.coe_zero, EReal.coe_le_coe_iff]
    constructor
    · intro h; exact_mod_cast (by linarith : (2 : ℝ) ≤ u)
    · intro h; have : (2 : ℝ) ≤ u := by exact_mod_cast h
      linarith
  have hi : ∀ u : ℕ, (((u : ℝ) - 2 : ℝ) : EReal) ≤ edge ↔ u < 514 := by
    intro u
    rw [edge_eq, EReal.coe_le_coe_iff]
    constructor
    · intro h; have : (u : ℝ) ≤ 513 := by linarith
      have : u ≤ 513 := by exact_mod_cast this
      omega
    · intro h; have : (u : ℝ) ≤ 513 := by exact_mod_cast (by omega : u ≤ 513)
      linarith
  unfold tap framed
  by_cases h : (2 ≤ u ∧ u < 514) ∧ 2 ≤ v ∧ v < 514
  · obtain ⟨⟨h1, h2⟩, h3, h4⟩ := h
    rw [if_pos ⟨⟨⟨(lo v).2 h3, (hi v).2 h4⟩, (lo u).2 h1⟩, (hi u).2 h2⟩, dif_pos ⟨⟨h1, h2⟩, h3, h4⟩]
    congr 1
    · exact Fin.ext (clip u h1 h2)
    · exact Fin.ext (clip v h3 h4)
  · rw [dif_neg h, if_neg]
    rintro ⟨⟨⟨h3, h4⟩, h1⟩, h2⟩
    exact h ⟨⟨(lo u).1 h1, (hi u).1 h2⟩, (lo v).1 h3, (hi v).1 h4⟩

theorem tap_bot (f : Fin 512 → Fin 512 → EReal) (y : EReal) : tap f y ⊥ = 0 := by
  unfold tap
  rw [if_neg]
  rintro ⟨⟨⟨h, -⟩, -⟩, -⟩
  exact absurd h (by decide)

/-! ## The two samples -/

variable (f : Fin 512 → Fin 512 → EReal) (y x : ℕ)

/-- The framed image's entries from row `y`, column `x`, as a patch of six by six. -/
def six (k : ℕ) : EReal := framed f (y + k / 6) (x + k % 6)

theorem blend_bot : byHats (six f y x) ⊥ ⊥ ((x : ℝ) : EReal) ((y : ℝ) : EReal) = byTaps f ⊥ ⊥ := by
  unfold byHats byTaps
  simp only [hat_bot, mul_zero, Finset.sum_const_zero, Ideal.liftRound_bot, EReal.bot_add, tap_bot, zero_mul, add_zero]

/-- At a real sample within two pixels the hat weights leave the four taps. -/
theorem blend_coe (a c : ℝ) (ha : |a| ≤ 2) (hc : |c| ≤ 2) :
    byHats (six f y x) ((x + a : ℝ) : EReal) ((y + c : ℝ) : EReal) ((x : ℝ) : EReal) ((y : ℝ) : EReal)
      = byTaps f ((y + c : ℝ) : EReal) ((x + a : ℝ) : EReal) := by
  have cell : ∀ a : ℝ, |a| ≤ 2 → ∃ j : ℕ, j ≤ 4 ∧ ((j : ℤ) - 2 = ⌊a⌋) ∧ (j : ℝ) - 2 ≤ a ∧ a < (j : ℝ) - 2 + 1 := by
    intro a ha
    obtain ⟨h1, h2⟩ := abs_le.mp ha
    have f1 : -2 ≤ ⌊a⌋ := Int.le_floor.mpr (by push_cast; linarith)
    have f2 : ⌊a⌋ ≤ 2 := by
      have := Int.floor_le_floor h2
      simpa using this
    refine ⟨(⌊a⌋ + 2).toNat, by omega, by omega, ?_, ?_⟩
    · have e : (((⌊a⌋ + 2).toNat : ℕ) : ℝ) = ⌊a⌋ + 2 := by exact_mod_cast Int.toNat_of_nonneg (by omega : 0 ≤ ⌊a⌋ + 2)
      rw [e]; have := Int.floor_le a; linarith
    · have e : (((⌊a⌋ + 2).toNat : ℕ) : ℝ) = ⌊a⌋ + 2 := by exact_mod_cast Int.toNat_of_nonneg (by omega : 0 ≤ ⌊a⌋ + 2)
      rw [e]; have := Int.lt_floor_add_one a; linarith
  obtain ⟨j, hj4, hjf, hj1, hj2⟩ := cell a ha
  obtain ⟨i, hi4, hif, hi1, hi2⟩ := cell c hc
  have fl : ∀ (x j : ℕ) (a : ℝ), (j : ℤ) - 2 = ⌊a⌋ → Ideal.liftRound Int.floor ((x + a : ℝ) : EReal) = ((((x + j : ℕ) : ℝ) - 2 : ℝ) : EReal) := by
    intro x j a h
    rw [Ideal.liftRound_coe]
    congr 1
    rw [Int.floor_natCast_add, ← h]; push_cast; ring
  have fl1 : ∀ (x j : ℕ), ((((x + j : ℕ) : ℝ) - 2 : ℝ) : EReal) + 1 = ((((x + (j + 1) : ℕ) : ℝ) - 2 : ℝ) : EReal) := by
    intro x j
    rw [← EReal.coe_one, ← EReal.coe_add]
    congr 1; push_cast; ring
  unfold byHats byTaps
  rw [fl x j a hjf, fl y i c hif, fl1, fl1, tap_framed, tap_framed, tap_framed, tap_framed]
  rw [six_by_six (fun k => six f y x k * hat ((x + a : ℝ) : EReal) ((x : ℝ) : EReal) (k % 6) * hat ((y + c : ℝ) : EReal) ((y : ℝ) : EReal) (k / 6))]
  have term : ∀ (i j : Fin 6), six f y x (6 * i + j) * hat ((x + a : ℝ) : EReal) ((x : ℝ) : EReal) ((6 * i.val + j.val) % 6) * hat ((y + c : ℝ) : EReal) ((y : ℝ) : EReal) ((6 * i.val + j.val) / 6)
      = framed f (y + i) (x + j) * hat ((x + a : ℝ) : EReal) ((x : ℝ) : EReal) j * hat ((y + c : ℝ) : EReal) ((y : ℝ) : EReal) i := by
    intro i j
    unfold six
    rw [show (6 * i.val + j.val) % 6 = j.val by omega, show (6 * i.val + j.val) / 6 = i.val by omega]
  simp only [term]
  have inner : ∀ r : ℕ, ∑ q : Fin 6, framed f (y + r) (x + q) * hat ((x + a : ℝ) : EReal) ((x : ℝ) : EReal) q * hat ((y + c : ℝ) : EReal) ((y : ℝ) : EReal) r
      = framed f (y + r) (x + j) * ((1 - (a - (j - 2)) : ℝ) : EReal) * hat ((y + c : ℝ) : EReal) ((y : ℝ) : EReal) r
        + framed f (y + r) (x + (j + 1)) * ((a - (j - 2) : ℝ) : EReal) * hat ((y + c : ℝ) : EReal) ((y : ℝ) : EReal) r := by
    intro r
    rw [two_of_six (fun q => framed f (y + r) (x + q) * hat ((x + a : ℝ) : EReal) ((x : ℝ) : EReal) q * hat ((y + c : ℝ) : EReal) ((y : ℝ) : EReal) r) j hj4
      (fun q _ h1 h2 => by rw [hat_far x j q hj1 hj2 h1 h2, mul_zero, zero_mul])]
    rw [hat_here x j hj1 hj2, hat_next x j hj1 hj2]
  simp only [inner]
  rw [two_of_six (fun r => framed f (y + r) (x + j) * ((1 - (a - (j - 2)) : ℝ) : EReal) * hat ((y + c : ℝ) : EReal) ((y : ℝ) : EReal) r
        + framed f (y + r) (x + (j + 1)) * ((a - (j - 2) : ℝ) : EReal) * hat ((y + c : ℝ) : EReal) ((y : ℝ) : EReal) r) i hi4
      (fun r _ h1 h2 => by rw [hat_far y i r hi1 hi2 h1 h2, mul_zero, mul_zero, add_zero])]
  rw [hat_here y i hi1 hi2, hat_next y i hi1 hi2]
  have wx1 : ((((x + (j + 1) : ℕ) : ℝ) - 2 : ℝ) : EReal) - ((x + a : ℝ) : EReal) = ((1 - (a - (j - 2)) : ℝ) : EReal) := by
    rw [← EReal.coe_sub]; congr 1; push_cast; ring
  have wx0 : ((x + a : ℝ) : EReal) - ((((x + j : ℕ) : ℝ) - 2 : ℝ) : EReal) = ((a - (j - 2) : ℝ) : EReal) := by
    rw [← EReal.coe_sub]; congr 1; push_cast; ring
  have wy1 : ((((y + (i + 1) : ℕ) : ℝ) - 2 : ℝ) : EReal) - ((y + c : ℝ) : EReal) = ((1 - (c - (i - 2)) : ℝ) : EReal) := by
    rw [← EReal.coe_sub]; congr 1; push_cast; ring
  have wy0 : ((y + c : ℝ) : EReal) - ((((y + i : ℕ) : ℝ) - 2 : ℝ) : EReal) = ((c - (i - 2) : ℝ) : EReal) := by
    rw [← EReal.coe_sub]; congr 1; push_cast; ring
  rw [wx1, wx0, wy1, wy0]
  simp only [mul_assoc]
  rw [add_add_add_comm, ← add_assoc]

end Cert.Score

end
-- ==== Proof.Lane.lean ====
/-
  The SparseCore's recipe at Ideal, in one lane, is the plain formulas; and the residuals are reals within two
  pixels, or both the lowest value.
-/
module

public import proofs.«01_k».proof.Proof.Blend
public import proofs.«01_k».proof.Proof.Words

@[expose] public section

noncomputable section

namespace Cert.Score

open Idealize.ShloMosaic

/-! ## The residuals -/

variable (w : ℕ → EReal)

theorem le_top (k : Fin 25) : w k ≤ top w := Finset.le_sup (f := fun k : Fin 25 => w k) (Finset.mem_univ k)

theorem top_mem : ∃ k : Fin 25, w k = top w := by
  obtain ⟨k, -, h⟩ := Finset.exists_max_image (Finset.univ : Finset (Fin 25)) (fun k => w k) Finset.univ_nonempty
  exact ⟨k, le_antisymm (le_top w k) (Finset.sup_le fun i hi => h i hi)⟩

theorem coe_sum {n : ℕ} (g : Fin n → ℝ) : ∑ k, ((g k : ℝ) : EReal) = ((∑ k, g k : ℝ) : EReal) := by
  induction n with
  | zero => simp
  | succ n ih => rw [Fin.sum_univ_castSucc, Fin.sum_univ_castSucc, ih, ← EReal.coe_add]

/-- Where the maximum is not a real, every weight is zero. -/
theorem wt_zero (h : top w = ⊥ ∨ top w = ⊤) (k : Fin 25) : wt w k = 0 := by
  obtain ⟨t, ht, e⟩ := tau_pos
  have : w k - top w = ⊥ := by
    rcases h with h | h
    · have := le_top w k
      rw [h] at this ⊢
      rw [le_bot_iff.mp this, sub_eq_add_neg, EReal.bot_add]
    · rw [h, EReal.sub_top]
  unfold wt
  rw [this, e, bot_div ht]
  rfl

/-- Where it is a real, the weights are reals of which none is negative and one is 1. -/
theorem wt_real (m : ℝ) (h : top w = (m : EReal)) :
    ∃ e : Fin 25 → ℝ, (∀ k : Fin 25, wt w k = (e k : EReal)) ∧ (∀ k, 0 ≤ e k) ∧ ∃ k, e k = 1 := by
  obtain ⟨t, ht, et⟩ := tau_pos
  have one : ∀ k : Fin 25, ∃ e : ℝ, wt w k = (e : EReal) ∧ 0 ≤ e ∧ (w k = top w → e = 1) := by
    intro k
    have hk := le_top w k
    unfold wt
    rw [h] at hk ⊢
    rw [et]
    induction hw : w k with
    | bot =>
      refine ⟨0, ?_, le_refl _, fun h' => absurd h' (by simp)⟩
      rw [sub_eq_add_neg, EReal.bot_add, bot_div ht]; rfl
    | top => rw [hw] at hk; exact absurd hk (by simp)
    | coe r =>
      refine ⟨Real.exp ((r - m) / t), ?_, (Real.exp_pos _).le, fun h' => ?_⟩
      · rw [← EReal.coe_sub, coe_div ht]; rfl
      · rw [EReal.coe_eq_coe_iff.mp h', sub_self, zero_div, Real.exp_zero]
  choose e h1 h2 h3 using one
  obtain ⟨k, hk⟩ := top_mem w
  exact ⟨e, h1, h2, k, h3 k hk⟩

/-- A weighted mean of numbers within two of zero is within two of zero. -/
theorem mean_le (e g : Fin 25 → ℝ) (h0 : ∀ k, 0 ≤ e k) (h1 : 0 < ∑ k, e k) (hg : ∀ k, |g k| ≤ 2) :
    |(∑ k, e k * g k) / ∑ k, e k| ≤ 2 := by
  rw [abs_div, abs_of_pos h1, div_le_iff₀ h1, Finset.mul_sum]
  refine (Finset.abs_sum_le_sum_abs _ _).trans (Finset.sum_le_sum fun k _ => ?_)
  rw [abs_mul, abs_of_nonneg (h0 k), mul_comm]
  exact mul_le_mul_of_nonneg_right (hg k) (h0 k)

/-- The residuals are reals within two pixels, or both the lowest value. -/
theorem res_cases : (∃ a c : ℝ, resX w = (a : EReal) ∧ resY w = (c : EReal) ∧ |a| ≤ 2 ∧ |c| ≤ 2) ∨ (resX w = ⊥ ∧ resY w = ⊥) := by
  have none : top w = ⊥ ∨ top w = ⊤ → resX w = ⊥ ∧ resY w = ⊥ := by
    intro h
    have hz := wt_zero w h
    unfold resX resY total
    simp only [hz, zero_mul, Finset.sum_const_zero]
    simp [Ideal.div]
  have some : ∀ m : ℝ, top w = (m : EReal) → ∀ o : ℕ → ℕ, (∀ k < 25, o k ≤ 4) →
      ∃ a : ℝ, Ideal.div (∑ k : Fin 25, wt w k * off (o k)) (total w) = (a : EReal) ∧ |a| ≤ 2 := by
    intro m h o ho
    obtain ⟨e, h1, h2, k, hk⟩ := wt_real w m h
    have hp : 0 < ∑ k, e k := lt_of_lt_of_le (by rw [hk]; norm_num : 0 < e k) (Finset.single_le_sum (fun i _ => h2 i) (Finset.mem_univ k))
    refine ⟨(∑ k, e k * ((o k : ℝ) - 2)) / ∑ k, e k, ?_, mean_le e (fun k => (o k : ℝ) - 2) h2 hp fun k => ?_⟩
    · unfold total off
      simp only [h1, ← EReal.coe_mul]
      rw [coe_sum, coe_sum, coe_div hp]
    · have : (o k : ℝ) ≤ 4 := by exact_mod_cast ho k k.isLt
      have : (0 : ℝ) ≤ o k := by positivity
      rw [abs_le]; constructor <;> linarith
  induction h : top w with
  | bot => exact Or.inr (none (Or.inl h))
  | top => exact Or.inr (none (Or.inr h))
  | coe m =>
    obtain ⟨a, e1, b1⟩ := some m h (fun k => k % 5) (fun k hk => by omega)
    obtain ⟨c, e2, b2⟩ := some m h (fun k => k / 5) (fun k hk => by omega)
    exact Or.inl ⟨a, c, e1, e2, b1, b2⟩

/-- The two samples agree around a keypoint, at its residuals. -/
theorem blend (f : Fin 512 → Fin 512 → EReal) (y x : ℕ) :
    byHats (six f y x) (pixels (scaled (((x : ℝ) : EReal) + resX w))) (pixels (scaled (((y : ℝ) : EReal) + resY w))) ((x : ℝ) : EReal) ((y : ℝ) : EReal)
      = byTaps f (pixels (scaled (((y : ℝ) : EReal) + resY w))) (pixels (scaled (((x : ℝ) : EReal) + resX w))) := by
  rcases res_cases w with ⟨a, c, e1, e2, b1, b2⟩ | ⟨e1, e2⟩
  · rw [e1, e2, ← EReal.coe_add, ← EReal.coe_add, pixels_scaled, pixels_scaled]
    exact blend_coe f y x a c b1 b2
  · rw [e1, e2, EReal.add_bot, EReal.add_bot, scaled_bot, pixels_bot]
    exact blend_bot f y x

end Cert.Score

namespace Cert.Reading

open Cert.KernelIdeal Cert.KernelIdeal.Gen Cert.KernelIdeal.Tile
open Idealize.ShloMosaic Idealize.SL.Sem
open Cert.Score

variable (V : ℕ → Vec Ideal S16 .f32) (X Y : IVec S16 32) (l : Fin 16)

/-- The inner patch of a lane. -/
def inner (k : ℕ) : EReal := V (k / 5 * 6 + k % 5) (ix1 l)

theorem mx_at : mx V 24 (ix1 l) = top (inner V l) := by
  have h : ∀ n, mx V n (ix1 l) = (Finset.range (n + 1)).sup (inner V l) := by
    intro n
    induction n with
    | zero => simp; rfl
    | succ n ih =>
      rw [Finset.range_add_one, Finset.sup_insert, ← ih, sup_comm]
      rfl
  rw [h]
  refine le_antisymm (Finset.sup_le fun k hk => ?_) (Finset.sup_le fun k _ => ?_)
  · exact le_top (inner V l) ⟨k, Finset.mem_range.mp hk⟩
  · exact Finset.le_sup (f := inner V l) (Finset.mem_range.mpr k.isLt)

theorem ex_at (k : ℕ) : ex V k (ix1 l) = wt (inner V l) k := by
  pointwise [ex, inn, cst, mx_at]
  rfl

theorem den_at : den V 25 (ix1 l) = total (inner V l) := by
  have h : ∀ n, den V n (ix1 l) = ∑ k : Fin n, wt (inner V l) k := by
    intro n
    induction n with
    | zero => pointwise [den, cst]; simp
    | succ n ih => rw [Fin.sum_univ_castSucc]; pointwise [den, ih, ex_at]; rfl
  exact h 25

theorem sx_at : sx V 25 (ix1 l) = ∑ k : Fin 25, wt (inner V l) k * off (k % 5) := by
  have h : ∀ n, sx V n (ix1 l) = ∑ k : Fin n, wt (inner V l) k * off (k % 5) := by
    intro n
    induction n with
    | zero => pointwise [sx, cst]; simp
    | succ n ih =>
      rw [Fin.sum_univ_castSucc]
      pointwise [sx, cst, ih, ex_at]
      rw [off_eq _ (by omega)]; rfl
  exact h 25

theorem sy_at : sy V 25 (ix1 l) = ∑ k : Fin 25, wt (inner V l) k * off (k / 5) := by
  have h : ∀ n, n ≤ 25 → sy V n (ix1 l) = ∑ k : Fin n, wt (inner V l) k * off (k / 5) := by
    intro n
    induction n with
    | zero => intro _; pointwise [sy, cst]; simp
    | succ n ih =>
      intro hn
      rw [Fin.sum_univ_castSucc]
      pointwise [sy, cst, ih (by omega), ex_at]
      rw [off_eq _ (by omega)]; rfl
  exact h 25 (le_refl _)

theorem rx_at : rx V (ix1 l) = resX (inner V l) := by
  pointwise [rx, sx_at, den_at]; rfl
theorem ry_at : ry V (ix1 l) = resY (inner V l) := by
  pointwise [ry, sy_at, den_at]; rfl

theorem disp_at : disp V (ix1 l) = spread (inner V l) := by
  have h : ∀ n, n ≤ 25 → ds V n (ix1 l) = ∑ k : Fin n, wt (inner V l) k * (gap (resX (inner V l)) (k % 5) * gap (resX (inner V l)) (k % 5) + gap (resY (inner V l)) (k / 5) * gap (resY (inner V l)) (k / 5)) := by
    intro n
    induction n with
    | zero => intro _; pointwise [ds, cst]; simp
    | succ n ih =>
      intro hn
      rw [Fin.sum_univ_castSucc]
      pointwise [ds, dfx, dfy, cst, ih (by omega), ex_at, rx_at, ry_at]
      rw [off_eq (n % 5) (by omega), off_eq (n / 5) (by omega)]; rfl
  pointwise [disp, h 25 (le_refl _), den_at]
  rfl

theorem kpx_at : kpx V X (ix1 l) = scaled (FloatOps.sitofp (F := Ideal) .f32 (X (ix1 l)) + resX (inner V l)) := by
  pointwise [kpx, nrm, toF, cst, rx_at]; rfl
theorem kpy_at : kpy V Y (ix1 l) = scaled (FloatOps.sitofp (F := Ideal) .f32 (Y (ix1 l)) + resY (inner V l)) := by
  pointwise [kpy, nrm, toF, cst, ry_at]; rfl
theorem ixx_at : ixx V X (ix1 l) = pixels (kpx V X (ix1 l)) := by
  pointwise [ixx, Tile.pix, cst]; rfl
theorem iyy_at : iyy V Y (ix1 l) = pixels (kpy V Y (ix1 l)) := by
  pointwise [iyy, Tile.pix, cst]; rfl

theorem sc_at : Tile.sc V X Y 36 (ix1 l) = byHats (fun k => V k (ix1 l)) (pixels (kpx V X (ix1 l))) (pixels (kpy V Y (ix1 l)))
    (FloatOps.sitofp (F := Ideal) .f32 (X (ix1 l))) (FloatOps.sitofp (F := Ideal) .f32 (Y (ix1 l))) := by
  have h : ∀ n, n ≤ 36 → Tile.sc V X Y n (ix1 l) = ∑ k : Fin n, V k (ix1 l)
      * hat (pixels (kpx V X (ix1 l))) (FloatOps.sitofp (F := Ideal) .f32 (X (ix1 l))) (k % 6)
      * hat (pixels (kpy V Y (ix1 l))) (FloatOps.sitofp (F := Ideal) .f32 (Y (ix1 l))) (k / 6) := by
    intro n
    induction n with
    | zero => intro _; pointwise [Tile.sc, cst]; simp
    | succ n ih =>
      intro hn
      rw [Fin.sum_univ_castSucc]
      pointwise [Tile.sc, wx, wy, toF, cst, ih (by omega), ixx_at, iyy_at]
      rw [off_eq (n % 6) (by omega), off_eq (n / 6) (by omega)]; rfl
  exact h 36 (le_refl _)

end Cert.Reading

end
-- ==== Proof.Ends.lean ====
/-
  The kernel's arrays around the SparseCore call: the keypoints' flat positions are the reference's, a keypoint's patch is
  the framed image around it, and the results are cut from the call's arrays.
-/
module

public import proofs.«01_k».proof.Proof.Arrays
public import proofs.«01_k».proof.Proof.Lane
public import proofs.«01_k».proof.Proof.Launch
public import proofs.«01_k».proof.Proof.Nms

@[expose] public section

noncomputable section

namespace Cert.KernelIdeal.Ends

open Cert.KernelIdeal Cert.KernelIdeal.Gen Cert.KernelIdeal.Tile Cert.KernelIdeal.Host Cert.KernelIdeal.Launch
open Idealize.ShloMosaic Idealize.SL.Sem
open Cert.Reading (word row col word_lt row_lt col_lt)
open Cert.Score

/-! ## Cutting and stacking, at an index -/

/-- The place of keypoint `n` of image `b` among all the call's keypoints. -/
def pos (b : Fin 4) (n : Fin 5000) : Fin 20480 := ⟨b.val * 5120 + n.val, by omega⟩

theorem cut_at {α : Type} (x : S20480.Idx → α) (b : Fin 4) (n : Fin 5000) :
    extractStridedSlice S4x5000 ![0, 0] (shapeCast S4x5120 x shapeCasts_S20480_S4x5120) slices_S4x5120_S4x5000_0_0 (ix2 b n) = x (ix1 (pos b n)) := by
  pointwise
  rfl

theorem row_at (a : S4x5000.Idx → BitVec 32) (c : S4x120.Idx → BitVec 32) (b : Fin 4) (n : Fin 5000) :
    shapeCast S20480 (concatenate S4x5120 1 [⟨S4x5000, a⟩, ⟨S4x120, c⟩] concatenates_S4x5000_S4x120_S4x5120_d1) shapeCasts_S4x5120_S20480 (ix1 (pos b n)) = a (ix2 b n) := by
  pointwise [pos]
  have e : (b.val * 5120 + n.val) % 5120 = n.val := by omega
  rw [dif_pos (by omega)]
  exact congrArg (fun z => a (ix2 b z)) (Fin.ext e)

theorem map_at (x : FVec Ideal S4x520x640 .f32) (R : Fin 83200) (l : Fin 16) (b : Fin 4) (u : Fin 520) (v : Fin 640)
    (hR : R.val = b.val * 20800 + u.val * 40 + v.val / 16) (hl : l.val = v.val % 16) :
    shapeCast S83200x16 x shapeCasts_S4x520x640_S83200x16 (ix2 R l) = x (ix3 b u v) := by
  pointwise
  have h1 : R.val / 20800 = b.val := by omega
  have h2 : R.val / 40 % 520 = u.val := by omega
  have h3 : R.val % 40 * 16 + l.val = v.val := by omega
  refine congrArg x ?_
  rw [show (⟨R.val / 20800, by omega⟩ : Fin 4) = b from Fin.ext h1, show (⟨R.val / 40 % 520, by omega⟩ : Fin 520) = u from Fin.ext h2,
    show (⟨R.val % 40 * 16 + l.val, by omega⟩ : Fin 640) = v from Fin.ext h3]

theorem pair_at (x y : FVec Ideal S4x5000 .f32) (b : Fin 4) (n : Fin 5000) (k : Fin 2) :
    concatenate S4x5000x2 2 [⟨S4x5000x1, broadcastInDim S4x5000x1 ![0, 1] bcast_S4x5000_S4x5000x1_0_1 x⟩, ⟨S4x5000x1, broadcastInDim S4x5000x1 ![0, 1] bcast_S4x5000_S4x5000x1_0_1 y⟩]
      concatenates_S4x5000x1_S4x5000x1_S4x5000x2_d2 (ix3 b n k) = if k = 0 then x (ix2 b n) else y (ix2 b n) := by
  fin_cases k
  · pointwise
  · pointwise

/-- The framed block is the frame of the image, one step further in. -/
theorem pad_framed (x : Vec Ideal S1x512x512 .f32) (f : Fin 512 → Fin 512 → EReal) (hx : ∀ r c, x (ix3 0 r c) = f r c)
    (u : Fin 520) (v : Fin 640) (p q : ℕ) (hu : u.val = p + 1) (hv : v.val = q + 1) :
    Region.padBlk x (ix3 0 u v) = framed f p q := by
  rw [Cert.Nms.pad_at]
  unfold framed
  by_cases h : (2 ≤ p ∧ p < 514) ∧ 2 ≤ q ∧ q < 514
  · rw [dif_pos h, dif_pos (by omega), hx]
    congr 1 <;> exact Fin.ext (by dsimp only; omega)
  · rw [dif_neg h, dif_neg (by omega)]

variable (m : (ℓ : Loc nD τ sig) → Buf (Elt Ideal) ℓ) (d : Dev nD)

/-! ## The results -/

/-- The four arrays the SparseCore call fills. -/
def allX : FVec Ideal S20480 .f32 := fun p => oX (F := Ideal) (Pm m d) (Im m d p)
def allY : FVec Ideal S20480 .f32 := fun p => oY (F := Ideal) (Pm m d) (Im m d p)
def allS : FVec Ideal S20480 .f32 := fun p => oS (F := Ideal) (Pm m d) (Im m d p)
def allD : FVec Ideal S20480 .f32 := fun p => oD (F := Ideal) (Pm m d) (Im m d p)

theorem V5_s : V5 m d (dr main_v22) = extractStridedSlice S4x5000 ![0, 0] (shapeCast S4x5120 (allS m d) shapeCasts_S20480_S4x5120) slices_S4x5120_S4x5000_0_0 := by
  unfold V5 opsC
  after_results
  rw [V4_s]
  rfl

theorem V5_d : V5 m d (dr main_v24) = extractStridedSlice S4x5000 ![0, 0] (shapeCast S4x5120 (allD m d) shapeCasts_S20480_S4x5120) slices_S4x5120_S4x5000_0_0 := by
  unfold V5 opsC
  after_results
  rw [V4_d]
  rfl

theorem V5_xy : V5 m d (dr main_v20) =
    concatenate S4x5000x2 2 [⟨S4x5000x1, broadcastInDim S4x5000x1 ![0, 1] bcast_S4x5000_S4x5000x1_0_1
        (extractStridedSlice S4x5000 ![0, 0] (shapeCast S4x5120 (allX m d) shapeCasts_S20480_S4x5120) slices_S4x5120_S4x5000_0_0)⟩,
      ⟨S4x5000x1, broadcastInDim S4x5000x1 ![0, 1] bcast_S4x5000_S4x5000x1_0_1
        (extractStridedSlice S4x5000 ![0, 0] (shapeCast S4x5120 (allY m d) shapeCasts_S20480_S4x5120) slices_S4x5120_S4x5000_0_0)⟩]
      concatenates_S4x5000x1_S4x5000x1_S4x5000x2_d2 := by
  unfold V5 opsC
  after_results
  rw [V4_x, V4_y]
  rfl

/-- The map the SparseCore call reads is the framed images, as rows of sixteen. -/
theorem Pm_eq : Pm m d = shapeCast S83200x16 (padAll m d) shapeCasts_S4x520x640_S83200x16 := by
  unfold Pm V3 opsB
  after_results
  rw [V2_pad]
  rfl

/-! ## The keypoints -/

variable (V0 : Valuation Cert.ReferenceIdeal.τ Cert.ReferenceIdeal.sig (Elt Ideal))
  (hV : V0 (Proc.devRef .tc Cert.ReferenceIdeal.main_arg0) = arg m d)
include hV

/-- The suppressed scores the kernel ranks are the ones the reference ranks. -/
theorem rank_eq : shapeCast S4x262144 (nmsAll m d) shapeCasts_S4x512x512_S4x262144 = Cert.ReferenceIdeal.Value.res_main_v48 V0 := by
  funext j
  obtain ⟨b, l, rfl⟩ : ∃ (b : Fin 4) (l : Fin 262144), j = ix2 b l := ⟨j 0, j 1, eq_ix2 j⟩
  have hl : l.val = l.val / 512 * 512 + l.val % 512 := by omega
  refine Eq.trans ?_ (Cert.Nms.nms_at b (img m d b) V0 (fun r c => ?_) ⟨l.val / 512, by omega⟩ ⟨l.val % 512, by omega⟩ l hl)
  · have h : ∀ x : FVec Ideal S4x512x512 .f32, shapeCast S4x262144 x shapeCasts_S4x512x512_S4x262144 (ix2 b l) = x (ix3 b ⟨l.val / 512, by omega⟩ ⟨l.val % 512, by omega⟩) := by
      intro x; pointwise
    exact (h _).trans rfl
  · rw [hV]; rfl

/-- A keypoint's flat position: its place in its image, plus the images before it. -/
theorem Im_at (b : Fin 4) (n : Fin 5000) : (Im m d (ix1 (pos b n))).toNat = b.val * 262144 + (word V0 b n).toNat := by
  rw [Im_eq]
  refine (congrArg BitVec.toNat (row_at _ _ b n)).trans ?_
  have hw := word_lt V0 b n
  have e : ∀ x : FVec Ideal S4x512x512 .f32, x = nmsAll m d →
      (Host.topK S4x5000 1 (FloatOps.cmpfTotal (F := Ideal) .gt) (shapeCast S4x262144 x shapeCasts_S4x512x512_S4x262144) sliceFits_S4x262144_S4x5000).2 (ix2 b n) = word V0 b n := by
    intro x hx
    rw [hx, rank_eq m d V0 hV]
    rfl
  refine (congrArg BitVec.toNat (congrArg₂ (· + ·) (e _ (V2_nms m d)) rfl)).trans ?_
  refine (BitVec.toNat_add _ _).trans ?_
  have hb : ∀ x : S4.Idx → BitVec 32, broadcastInDim S4x5000 ![0, 1] bcast_S4x1_S4x5000_0_1 (broadcastInDim S4x1 ![0] bcast_S4_S4x1_0 x) (ix2 b n) = x (ix1 b) := by
    intro x; pointwise
  rw [hb, base_toNat]
  show ((word V0 b n).toNat + b.val * 262144) % 2 ^ 32 = _
  omega

theorem col_eq (b : Fin 4) (n : Fin 5000) : (Im m d (ix1 (pos b n))).toNat % 512 = col V0 b n := by
  rw [Im_at m d V0 hV]; unfold col; omega
theorem row_eq (b : Fin 4) (n : Fin 5000) : (Im m d (ix1 (pos b n))).toNat / 512 % 512 = row V0 b n := by
  have := word_lt V0 b n
  rw [Im_at m d V0 hV]; unfold row; omega

/-- A keypoint's patch is the framed image around it. -/
theorem patch_at (b : Fin 4) (n : Fin 5000) (k : ℕ) (hk : k < 36) :
    patchP (F := Ideal) (Pm m d) (Im m d (ix1 (pos b n))) k = Cert.Score.six (Cert.Reading.img V0 b) (row V0 b n) (col V0 b n) k := by
  have hr := row_lt V0 b n
  have hc := col_lt V0 b n
  have hw := word_lt V0 b n
  have hg := Im_at m d V0 hV b n
  have e1 := row_eq m d V0 hV b n
  have e2 := col_eq m d V0 hV b n
  generalize Im m d (ix1 (pos b n)) = g at hg e1 e2
  generalize row V0 b n = r at *
  generalize col V0 b n = c at *
  unfold patchP
  rw [e2, Pm_eq]
  refine (map_at (padAll m d) _ _ b ⟨r + 1 + k / 6, by omega⟩ ⟨c + 1 + k % 6, by omega⟩ ?_ ?_).trans ?_
  · have hR : rowN g.toNat (2 * (k / 6) + ((c + 1) % 16 + k % 6) / 16) < 83200 := rowN_lt (by omega) (by omega)
    show rowN g.toNat (2 * (k / 6) + ((c + 1) % 16 + k % 6) / 16) % 83200 = _
    rw [Nat.mod_eq_of_lt hR]
    unfold rowN
    dsimp only
    rw [e1, e2]
    omega
  · show ((c + 1) % 16 + k % 6) % 16 = (c + 1 + k % 6) % 16
    omega
  · exact pad_framed (img m d b) (Cert.Reading.img V0 b) (fun u v => by unfold Cert.Reading.img; rw [hV]; rfl) _ _ _ _ (by show r + 1 + k / 6 = _; omega) (by show c + 1 + k % 6 = _; omega)

end Cert.KernelIdeal.Ends

end
-- ==== Proof.Agree.lean ====
/-
  The kernel's three results over the extended reals, keypoint by keypoint, in the plain formulas the reference's
  results are read in.
-/
module

public import proofs.«01_k».proof.Proof.Ends

@[expose] public section

noncomputable section

namespace Cert.Score

variable {w w' : ℕ → EReal} (h : ∀ k < 25, w k = w' k)
include h

/-- The formulas read only the 25 entries of the inner patch. -/
theorem total_congr : total w = total w' := Finset.sum_congr rfl fun k _ => Cert.Reading.wt_congr h k k.isLt
theorem resX_congr : resX w = resX w' := by
  unfold resX
  rw [total_congr h, Finset.sum_congr rfl fun (k : Fin 25) _ => congrArg (· * off (k % 5)) (Cert.Reading.wt_congr h k k.isLt)]
theorem resY_congr : resY w = resY w' := by
  unfold resY
  rw [total_congr h, Finset.sum_congr rfl fun (k : Fin 25) _ => congrArg (· * off (k / 5)) (Cert.Reading.wt_congr h k k.isLt)]
theorem spread_congr : spread w = spread w' := by
  unfold spread
  rw [total_congr h, resX_congr h, resY_congr h]
  congr 1
  exact Finset.sum_congr rfl fun (k : Fin 25) _ => by rw [Cert.Reading.wt_congr h k k.isLt]
omit h in
theorem byHats_congr {v v' : ℕ → EReal} (hv : ∀ k < 36, v k = v' k) (px py qx qy : EReal) : byHats v px py qx qy = byHats v' px py qx qy :=
  Finset.sum_congr rfl fun (k : Fin 36) _ => by rw [hv k k.isLt]

end Cert.Score

namespace Cert.KernelIdeal.Ends

open Cert.KernelIdeal Cert.KernelIdeal.Gen Cert.KernelIdeal.Tile Cert.KernelIdeal.Host Cert.KernelIdeal.Launch
open Idealize.ShloMosaic Idealize.SL.Sem
open Cert.Reading (word row col word_lt row_lt col_lt patch inner)
open Cert.Score

variable (m : (ℓ : Loc nD τ sig) → Buf (Elt Ideal) ℓ) (d : Dev nD)
variable (V0 : Valuation Cert.ReferenceIdeal.τ Cert.ReferenceIdeal.sig (Elt Ideal))
  (hV : V0 (Proc.devRef .tc Cert.ReferenceIdeal.main_arg0) = arg m d) (b : Fin 4) (n : Fin 5000)
include hV

/-- The inner patch the kernel cuts is the patch the reference gathers. -/
theorem inner_at (k : ℕ) (hk : k < 25) : inner (pv (F := Ideal) (Pm m d) (Im m d (ix1 (pos b n)))) 0 k = patch V0 b n k := by
  refine (patch_at m d V0 hV b n (k / 5 * 6 + k % 5) (by omega)).trans ?_
  unfold Cert.Score.six patch
  congr 1 <;> omega

/-- The column's and the row's numbers. -/
theorem xW_at : FloatOps.sitofp (F := Ideal) .f32 (xW (Im m d (ix1 (pos b n)))) = ((col V0 b n : ℝ) : EReal) := by
  unfold xW
  rw [col_eq m d V0 hV]
  exact Cert.Reading.float_ofNat _ (col_lt V0 b n)
theorem yW_at : FloatOps.sitofp (F := Ideal) .f32 (yW (Im m d (ix1 (pos b n)))) = ((row V0 b n : ℝ) : EReal) := by
  unfold yW
  rw [row_eq m d V0 hV]
  exact Cert.Reading.float_ofNat _ (row_lt V0 b n)

/-- The scaled column of a keypoint. -/
theorem x_at : allX m d (ix1 (pos b n)) = scaled (((col V0 b n : ℝ) : EReal) + resX (patch V0 b n)) := by
  refine (Cert.Reading.kpx_at (pv (F := Ideal) (Pm m d) (Im m d (ix1 (pos b n)))) _ 0).trans ?_
  rw [resX_congr (inner_at m d V0 hV b n), xW_at m d V0 hV]

/-- The scaled row of a keypoint. -/
theorem y_at : allY m d (ix1 (pos b n)) = scaled (((row V0 b n : ℝ) : EReal) + resY (patch V0 b n)) := by
  refine (Cert.Reading.kpy_at (pv (F := Ideal) (Pm m d) (Im m d (ix1 (pos b n)))) _ 0).trans ?_
  rw [resY_congr (inner_at m d V0 hV b n), yW_at m d V0 hV]

/-- The dispersion of a keypoint. -/
theorem d_at : allD m d (ix1 (pos b n)) = spread (patch V0 b n) :=
  (Cert.Reading.disp_at (pv (F := Ideal) (Pm m d) (Im m d (ix1 (pos b n)))) 0).trans (spread_congr (inner_at m d V0 hV b n))

/-- The score of a keypoint: the four-tap sample the reference takes. -/
theorem s_at : allS m d (ix1 (pos b n)) = byTaps (Cert.Reading.img V0 b) (pixels (scaled (((row V0 b n : ℝ) : EReal) + resY (patch V0 b n))))
    (pixels (scaled (((col V0 b n : ℝ) : EReal) + resX (patch V0 b n)))) := by
  refine (Cert.Reading.sc_at (pv (F := Ideal) (Pm m d) (Im m d (ix1 (pos b n)))) _ _ 0).trans ?_
  rw [← blend (patch V0 b n) (Cert.Reading.img V0 b) (row V0 b n) (col V0 b n), Cert.Reading.kpx_at, Cert.Reading.kpy_at,
    resX_congr (inner_at m d V0 hV b n), resY_congr (inner_at m d V0 hV b n), xW_at m d V0 hV, yW_at m d V0 hV]
  exact byHats_congr (fun k hk => patch_at m d V0 hV b n k hk) _ _ _ _

/-- The first result: column and row. -/
theorem out_xy (k : Fin 2) : (V5 m d (dr main_v20) : FVec Ideal S4x5000x2 .f32) (ix3 b n k)
    = if k = 0 then scaled (((col V0 b n : ℝ) : EReal) + resX (patch V0 b n)) else scaled (((row V0 b n : ℝ) : EReal) + resY (patch V0 b n)) := by
  rw [V5_xy, pair_at, cut_at, cut_at, x_at m d V0 hV, y_at m d V0 hV]

/-- The second result: the sampled score. -/
theorem out_s : (V5 m d (dr main_v22) : FVec Ideal S4x5000 .f32) (ix2 b n) = byTaps (Cert.Reading.img V0 b)
    (pixels (scaled (((row V0 b n : ℝ) : EReal) + resY (patch V0 b n)))) (pixels (scaled (((col V0 b n : ℝ) : EReal) + resX (patch V0 b n)))) := by
  rw [V5_s, cut_at, s_at m d V0 hV]

/-- The third result: the dispersion. -/
theorem out_d : (V5 m d (dr main_v24) : FVec Ideal S4x5000 .f32) (ix2 b n) = spread (patch V0 b n) := by
  rw [V5_d, cut_at, d_at m d V0 hV]

end Cert.KernelIdeal.Ends

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.BitsLaunch
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The printed kernel, with the chip's floating-point numbers, runs to its end without a fault, leaves its argument
    as it found it, and every semaphore reads zero again. -/
theorem kernel_frame : Cert.quiescent_Kernel := fun m g _ => Cert.Kernel.Launch.frame_run (F := Bits) m g

/-- The same of the kernel over the extended reals. -/
theorem kernelIdeal_frame : Cert.quiescent_KernelIdeal := fun m g _ => Cert.KernelIdeal.Launch.frame_run (F := Ideal) m g

/-- The reference over the extended reals runs to its end and leaves its argument as it found it; it declares no
    semaphore, so none can be left above zero. -/
theorem reference_frame : Cert.quiescent_ReferenceIdeal := fun m g _ =>
  (θ_run Cert.ReferenceIdeal.defs _ _).mono
    (fun r h => ⟨fun c => (h c).2.2.2, sem_eq_zero_of_no_sems rfl r.2⟩)
    (Cert.ReferenceIdeal.Value.run m g)

/-- Over the extended reals the kernel's three results are the reference's, for the same score maps: every keypoint's
    column and row, its sampled score and its dispersion. -/
theorem algebraic : Cert.algebraic_KernelIdeal_ReferenceIdeal := by
  intro m g m' g' _ hm
  refine ⟨fun c => Cert.KernelIdeal.Host.V5 m c (Proc.devRef .tc Cert.KernelIdeal.main_v20),
    fun c => Cert.KernelIdeal.Host.V5 m c (Proc.devRef .tc Cert.KernelIdeal.main_v22),
    fun c => Cert.KernelIdeal.Host.V5 m c (Proc.devRef .tc Cert.KernelIdeal.main_v24), ?_, ?_⟩
  · refine (θ_run Cert.KernelIdeal.defs _ _).mono (fun r h c => ?_) (Cert.KernelIdeal.Launch.run_main m g)
    exact ⟨h.1 c _ (Pipeline.devRef_mem_ucRefs (by rfl)), h.1 c _ (Pipeline.devRef_mem_ucRefs (by rfl)), h.1 c _ (Pipeline.devRef_mem_ucRefs (by rfl)),
      (h.1 c (Proc.devRef .tc Cert.KernelIdeal.main_arg0) (Pipeline.devRef_mem_ucRefs (by rfl))).trans (Cert.KernelIdeal.Host.V5_arg m c)⟩
  · refine (θ_run Cert.ReferenceIdeal.defs _ _).mono (fun r h c => ?_) (Cert.ReferenceIdeal.Value.run m' g')
    obtain ⟨h0, h1, h2, h3⟩ := h c
    have hV : StableHlo.launchContents m' c (Proc.devRef .tc Cert.ReferenceIdeal.main_arg0) = Cert.KernelIdeal.Host.arg m c := hm c
    generalize StableHlo.launchContents m' c = W at h0 h1 h2 hV
    refine ⟨h0.trans (funext fun i => ?_), h1.trans (funext fun i => ?_), h2.trans (funext fun i => ?_), h3⟩
    · obtain ⟨b, n, k, rfl⟩ : ∃ (b : Fin 4) (n : Fin 5000) (k : Fin 2), i = ix3 b n k := ⟨i 0, i 1, i 2, eq_ix3 i⟩
      exact (Cert.Reading.coord_at W b n k).trans (Cert.KernelIdeal.Ends.out_xy m c W hV b n k).symm
    · obtain ⟨b, n, rfl⟩ : ∃ (b : Fin 4) (n : Fin 5000), i = ix2 b n := ⟨i 0, i 1, eq_ix2 i⟩
      exact (Cert.Reading.score_at W b n).trans (Cert.KernelIdeal.Ends.out_s m c W hV b n).symm
    · obtain ⟨b, n, rfl⟩ : ∃ (b : Fin 4) (n : Fin 5000), i = ix2 b n := ⟨i 0, i 1, eq_ix2 i⟩
      exact (Cert.Reading.spread_at W b n).trans (Cert.KernelIdeal.Ends.out_d m c W hV b n).symm

theorem claim : Cert.Claim :=
  ⟨Cert.Kernel.Gen.facts, Cert.KernelIdeal.Gen.facts, Cert.ReferenceIdeal.Gen.facts,
    kernel_frame, kernelIdeal_frame, reference_frame, trivial, algebraic⟩

end Cert.Proof

end
